-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lb_bounded [hPre_lb_bounded : Cert.Pre_lb_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_lb_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lb_bounded [hPre_lb_bounded : Cert.Pre_lb_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lb_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_PlainFfnIdeal (m : (ℓ : Loc Cert.PlainFfnIdeal.nD Cert.PlainFfnIdeal.τ Cert.PlainFfnIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_PlainDownIdeal (m : (ℓ : Loc Cert.PlainDownIdeal.nD Cert.PlainDownIdeal.τ Cert.PlainDownIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_PlainProjIdeal (m : (ℓ : Loc Cert.PlainProjIdeal.nD Cert.PlainProjIdeal.τ Cert.PlainProjIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_PlainMixIdeal (m : (ℓ : Loc Cert.PlainMixIdeal.nD Cert.PlainMixIdeal.τ Cert.PlainMixIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_PlainMixSIdeal (m : (ℓ : Loc Cert.PlainMixSIdeal.nD Cert.PlainMixSIdeal.τ Cert.PlainMixSIdeal.sig) → Buf (Elt Ideal) ℓ) : Prop :=
  True

def Pre_DownP (m : (ℓ : Loc Cert.DownP.nD Cert.DownP.τ Cert.DownP.sig) → Buf (Elt Bits) ℓ) : Prop :=
  True

def Pre_DownPIdeal (m : (ℓ : Loc Cert.DownPIdeal.nD Cert.DownPIdeal.τ Cert.DownPIdeal.sig) → Buf (Elt Ideal) ℓ) : Prop :=
  True

def Pre_PlainDownPIdeal (m : (ℓ : Loc Cert.PlainDownPIdeal.nD Cert.PlainDownPIdeal.τ Cert.PlainDownPIdeal.sig) → Buf (Elt Ideal) ℓ) : Prop :=
  True

def Pre_FfnP (m : (ℓ : Loc Cert.FfnP.nD Cert.FfnP.τ Cert.FfnP.sig) → Buf (Elt Bits) ℓ) : Prop :=
  True

def Pre_FfnPIdeal (m : (ℓ : Loc Cert.FfnPIdeal.nD Cert.FfnPIdeal.τ Cert.FfnPIdeal.sig) → Buf (Elt Ideal) ℓ) : Prop :=
  True

def Pre_PlainFfnPIdeal (m : (ℓ : Loc Cert.PlainFfnPIdeal.nD Cert.PlainFfnPIdeal.τ Cert.PlainFfnPIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_lb_bounded [hKernelIdeal : Cert.KernelIdeal.Facts] [hPre_lb_bounded : Cert.Pre_lb_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lb_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_lb_bounded [hReferenceIdeal : Cert.ReferenceIdeal.Facts] [hPre_lb_bounded : Cert.Pre_lb_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lb_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_PlainFfnIdeal [hPlainFfnIdeal : Cert.PlainFfnIdeal.Facts] : Prop :=
  ∀ (m : (ℓ : Loc Cert.PlainFfnIdeal.nD Cert.PlainFfnIdeal.τ Cert.PlainFfnIdeal.sig) → Buf (Elt Ideal) ℓ) (g : Dev Cert.PlainFfnIdeal.nD → PrngReg), Pre_PlainFfnIdeal m →
    θ_run (Cert.PlainFfnIdeal.defs (F := Ideal)) (onTc (τ := Cert.PlainFfnIdeal.τ) (Cert.PlainFfnIdeal.main (F := Ideal))) ⟨m, fun _ => 0, g⟩ (fun r => (∀ c : Dev Cert.PlainFfnIdeal.nD,
      r.2.mem ((c.tc : Thread Cert.PlainFfnIdeal.nD Cert.PlainFfnIdeal.τ).loc Cert.PlainFfnIdeal.main_arg0) = m ((c.tc : Thread Cert.PlainFfnIdeal.nD Cert.PlainFfnIdeal.τ).loc Cert.PlainFfnIdeal.main_arg0)
      ∧ r.2.mem ((c.tc : Thread Cert.PlainFfnIdeal.nD Cert.PlainFfnIdeal.τ).loc Cert.PlainFfnIdeal.main_arg1) = m ((c.tc : Thread Cert.PlainFfnIdeal.nD Cert.PlainFfnIdeal.τ).loc Cert.PlainFfnIdeal.main_arg1)
      ∧ r.2.mem ((c.tc : Thread Cert.PlainFfnIdeal.nD Cert.PlainFfnIdeal.τ).loc Cert.PlainFfnIdeal.main_arg2) = m ((c.tc : Thread Cert.PlainFfnIdeal.nD Cert.PlainFfnIdeal.τ).loc Cert.PlainFfnIdeal.main_arg2)
      ∧ r.2.mem ((c.tc : Thread Cert.PlainFfnIdeal.nD Cert.PlainFfnIdeal.τ).loc Cert.PlainFfnIdeal.main_arg3) = m ((c.tc : Thread Cert.PlainFfnIdeal.nD Cert.PlainFfnIdeal.τ).loc Cert.PlainFfnIdeal.main_arg3)
      ∧ r.2.mem ((c.tc : Thread Cert.PlainFfnIdeal.nD Cert.PlainFfnIdeal.τ).loc Cert.PlainFfnIdeal.main_arg4) = m ((c.tc : Thread Cert.PlainFfnIdeal.nD Cert.PlainFfnIdeal.τ).loc Cert.PlainFfnIdeal.main_arg4)
      ∧ r.2.mem ((c.tc : Thread Cert.PlainFfnIdeal.nD Cert.PlainFfnIdeal.τ).loc Cert.PlainFfnIdeal.main_arg5) = m ((c.tc : Thread Cert.PlainFfnIdeal.nD Cert.PlainFfnIdeal.τ).loc Cert.PlainFfnIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_PlainDownIdeal [hPlainDownIdeal : Cert.PlainDownIdeal.Facts] : Prop :=
  ∀ (m : (ℓ : Loc Cert.PlainDownIdeal.nD Cert.PlainDownIdeal.τ Cert.PlainDownIdeal.sig) → Buf (Elt Ideal) ℓ) (g : Dev Cert.PlainDownIdeal.nD → PrngReg), Pre_PlainDownIdeal m →
    θ_run (Cert.PlainDownIdeal.defs (F := Ideal)) (onTc (τ := Cert.PlainDownIdeal.τ) (Cert.PlainDownIdeal.main (F := Ideal))) ⟨m, fun _ => 0, g⟩ (fun r => (∀ c : Dev Cert.PlainDownIdeal.nD,
      r.2.mem ((c.tc : Thread Cert.PlainDownIdeal.nD Cert.PlainDownIdeal.τ).loc Cert.PlainDownIdeal.main_arg0) = m ((c.tc : Thread Cert.PlainDownIdeal.nD Cert.PlainDownIdeal.τ).loc Cert.PlainDownIdeal.main_arg0)
      ∧ r.2.mem ((c.tc : Thread Cert.PlainDownIdeal.nD Cert.PlainDownIdeal.τ).loc Cert.PlainDownIdeal.main_arg1) = m ((c.tc : Thread Cert.PlainDownIdeal.nD Cert.PlainDownIdeal.τ).loc Cert.PlainDownIdeal.main_arg1)
      ∧ r.2.mem ((c.tc : Thread Cert.PlainDownIdeal.nD Cert.PlainDownIdeal.τ).loc Cert.PlainDownIdeal.main_arg2) = m ((c.tc : Thread Cert.PlainDownIdeal.nD Cert.PlainDownIdeal.τ).loc Cert.PlainDownIdeal.main_arg2)
      ∧ r.2.mem ((c.tc : Thread Cert.PlainDownIdeal.nD Cert.PlainDownIdeal.τ).loc Cert.PlainDownIdeal.main_arg3) = m ((c.tc : Thread Cert.PlainDownIdeal.nD Cert.PlainDownIdeal.τ).loc Cert.PlainDownIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_PlainProjIdeal [hPlainProjIdeal : Cert.PlainProjIdeal.Facts] : Prop :=
  ∀ (m : (ℓ : Loc Cert.PlainProjIdeal.nD Cert.PlainProjIdeal.τ Cert.PlainProjIdeal.sig) → Buf (Elt Ideal) ℓ) (g : Dev Cert.PlainProjIdeal.nD → PrngReg), Pre_PlainProjIdeal m →
    θ_run (Cert.PlainProjIdeal.defs (F := Ideal)) (onTc (τ := Cert.PlainProjIdeal.τ) (Cert.PlainProjIdeal.main (F := Ideal))) ⟨m, fun _ => 0, g⟩ (fun r => (∀ c : Dev Cert.PlainProjIdeal.nD,
      r.2.mem ((c.tc : Thread Cert.PlainProjIdeal.nD Cert.PlainProjIdeal.τ).loc Cert.PlainProjIdeal.main_arg0) = m ((c.tc : Thread Cert.PlainProjIdeal.nD Cert.PlainProjIdeal.τ).loc Cert.PlainProjIdeal.main_arg0)
      ∧ r.2.mem ((c.tc : Thread Cert.PlainProjIdeal.nD Cert.PlainProjIdeal.τ).loc Cert.PlainProjIdeal.main_arg1) = m ((c.tc : Thread Cert.PlainProjIdeal.nD Cert.PlainProjIdeal.τ).loc Cert.PlainProjIdeal.main_arg1)
      ∧ r.2.mem ((c.tc : Thread Cert.PlainProjIdeal.nD Cert.PlainProjIdeal.τ).loc Cert.PlainProjIdeal.main_arg2) = m ((c.tc : Thread Cert.PlainProjIdeal.nD Cert.PlainProjIdeal.τ).loc Cert.PlainProjIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_PlainMixIdeal [hPlainMixIdeal : Cert.PlainMixIdeal.Facts] : Prop :=
  ∀ (m : (ℓ : Loc Cert.PlainMixIdeal.nD Cert.PlainMixIdeal.τ Cert.PlainMixIdeal.sig) → Buf (Elt Ideal) ℓ) (g : Dev Cert.PlainMixIdeal.nD → PrngReg), Pre_PlainMixIdeal m →
    θ_run (Cert.PlainMixIdeal.defs (F := Ideal)) (onTc (τ := Cert.PlainMixIdeal.τ) (Cert.PlainMixIdeal.main (F := Ideal))) ⟨m, fun _ => 0, g⟩ (fun r => (∀ c : Dev Cert.PlainMixIdeal.nD,
      r.2.mem ((c.tc : Thread Cert.PlainMixIdeal.nD Cert.PlainMixIdeal.τ).loc Cert.PlainMixIdeal.main_arg0) = m ((c.tc : Thread Cert.PlainMixIdeal.nD Cert.PlainMixIdeal.τ).loc Cert.PlainMixIdeal.main_arg0)
      ∧ r.2.mem ((c.tc : Thread Cert.PlainMixIdeal.nD Cert.PlainMixIdeal.τ).loc Cert.PlainMixIdeal.main_arg1) = m ((c.tc : Thread Cert.PlainMixIdeal.nD Cert.PlainMixIdeal.τ).loc Cert.PlainMixIdeal.main_arg1)
      ∧ r.2.mem ((c.tc : Thread Cert.PlainMixIdeal.nD Cert.PlainMixIdeal.τ).loc Cert.PlainMixIdeal.main_arg2) = m ((c.tc : Thread Cert.PlainMixIdeal.nD Cert.PlainMixIdeal.τ).loc Cert.PlainMixIdeal.main_arg2))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2))
      ∧ r.2.sem = fun _ => 0)

def quiescent_PlainMixSIdeal [hPlainMixSIdeal : Cert.PlainMixSIdeal.Facts] : Prop :=
  ∀ (m : (ℓ : Loc Cert.PlainMixSIdeal.nD Cert.PlainMixSIdeal.τ Cert.PlainMixSIdeal.sig) → Buf (Elt Ideal) ℓ) (g : Dev Cert.PlainMixSIdeal.nD → PrngReg), Pre_PlainMixSIdeal m →
    θ_run (Cert.PlainMixSIdeal.defs (F := Ideal)) (onTc (τ := Cert.PlainMixSIdeal.τ) (Cert.PlainMixSIdeal.main (F := Ideal))) ⟨m, fun _ => 0, g⟩ (fun r => (∀ c : Dev Cert.PlainMixSIdeal.nD,
      r.2.mem ((c.tc : Thread Cert.PlainMixSIdeal.nD Cert.PlainMixSIdeal.τ).loc Cert.PlainMixSIdeal.main_arg0) = m ((c.tc : Thread Cert.PlainMixSIdeal.nD Cert.PlainMixSIdeal.τ).loc Cert.PlainMixSIdeal.main_arg0)
      ∧ r.2.mem ((c.tc : Thread Cert.PlainMixSIdeal.nD Cert.PlainMixSIdeal.τ).loc Cert.PlainMixSIdeal.main_arg1) = m ((c.tc : Thread Cert.PlainMixSIdeal.nD Cert.PlainMixSIdeal.τ).loc Cert.PlainMixSIdeal.main_arg1)
      ∧ r.2.mem ((c.tc : Thread Cert.PlainMixSIdeal.nD Cert.PlainMixSIdeal.τ).loc Cert.PlainMixSIdeal.main_arg2) = m ((c.tc : Thread Cert.PlainMixSIdeal.nD Cert.PlainMixSIdeal.τ).loc Cert.PlainMixSIdeal.main_arg2))
      ∧ r.2.sem = fun _ => 0)

def quiescent_DownP [hDownP : Cert.DownP.Facts] : Prop :=
  ∀ (m : (ℓ : Loc Cert.DownP.nD Cert.DownP.τ Cert.DownP.sig) → Buf (Elt Bits) ℓ) (g : Dev Cert.DownP.nD → PrngReg), Pre_DownP m →
    θ_run (Cert.DownP.defs (F := Bits)) (onTc (τ := Cert.DownP.τ) (Cert.DownP.main (F := Bits))) ⟨m, fun _ => 0, g⟩ (fun r => (∀ c : Dev Cert.DownP.nD,
      r.2.mem ((c.tc : Thread Cert.DownP.nD Cert.DownP.τ).loc Cert.DownP.main_arg0) = m ((c.tc : Thread Cert.DownP.nD Cert.DownP.τ).loc Cert.DownP.main_arg0)
      ∧ r.2.mem ((c.tc : Thread Cert.DownP.nD Cert.DownP.τ).loc Cert.DownP.main_arg1) = m ((c.tc : Thread Cert.DownP.nD Cert.DownP.τ).loc Cert.DownP.main_arg1)
      ∧ r.2.mem ((c.tc : Thread Cert.DownP.nD Cert.DownP.τ).loc Cert.DownP.main_arg2) = m ((c.tc : Thread Cert.DownP.nD Cert.DownP.τ).loc Cert.DownP.main_arg2)
      ∧ r.2.mem ((c.tc : Thread Cert.DownP.nD Cert.DownP.τ).loc Cert.DownP.main_arg3) = m ((c.tc : Thread Cert.DownP.nD Cert.DownP.τ).loc Cert.DownP.main_arg3))
      ∧ r.2.sem = fun _ => 0)

def quiescent_DownPIdeal [hDownPIdeal : Cert.DownPIdeal.Facts] : Prop :=
  ∀ (m : (ℓ : Loc Cert.DownPIdeal.nD Cert.DownPIdeal.τ Cert.DownPIdeal.sig) → Buf (Elt Ideal) ℓ) (g : Dev Cert.DownPIdeal.nD → PrngReg), Pre_DownPIdeal m →
    θ_run (Cert.DownPIdeal.defs (F := Ideal)) (onTc (τ := Cert.DownPIdeal.τ) (Cert.DownPIdeal.main (F := Ideal))) ⟨m, fun _ => 0, g⟩ (fun r => (∀ c : Dev Cert.DownPIdeal.nD,
      r.2.mem ((c.tc : Thread Cert.DownPIdeal.nD Cert.DownPIdeal.τ).loc Cert.DownPIdeal.main_arg0) = m ((c.tc : Thread Cert.DownPIdeal.nD Cert.DownPIdeal.τ).loc Cert.DownPIdeal.main_arg0)
      ∧ r.2.mem ((c.tc : Thread Cert.DownPIdeal.nD Cert.DownPIdeal.τ).loc Cert.DownPIdeal.main_arg1) = m ((c.tc : Thread Cert.DownPIdeal.nD Cert.DownPIdeal.τ).loc Cert.DownPIdeal.main_arg1)
      ∧ r.2.mem ((c.tc : Thread Cert.DownPIdeal.nD Cert.DownPIdeal.τ).loc Cert.DownPIdeal.main_arg2) = m ((c.tc : Thread Cert.DownPIdeal.nD Cert.DownPIdeal.τ).loc Cert.DownPIdeal.main_arg2)
      ∧ r.2.mem ((c.tc : Thread Cert.DownPIdeal.nD Cert.DownPIdeal.τ).loc Cert.DownPIdeal.main_arg3) = m ((c.tc : Thread Cert.DownPIdeal.nD Cert.DownPIdeal.τ).loc Cert.DownPIdeal.main_arg3))
      ∧ r.2.sem = fun _ => 0)

def quiescent_PlainDownPIdeal [hPlainDownPIdeal : Cert.PlainDownPIdeal.Facts] : Prop :=
  ∀ (m : (ℓ : Loc Cert.PlainDownPIdeal.nD Cert.PlainDownPIdeal.τ Cert.PlainDownPIdeal.sig) → Buf (Elt Ideal) ℓ) (g : Dev Cert.PlainDownPIdeal.nD → PrngReg), Pre_PlainDownPIdeal m →
    θ_run (Cert.PlainDownPIdeal.defs (F := Ideal)) (onTc (τ := Cert.PlainDownPIdeal.τ) (Cert.PlainDownPIdeal.main (F := Ideal))) ⟨m, fun _ => 0, g⟩ (fun r => (∀ c : Dev Cert.PlainDownPIdeal.nD,
      r.2.mem ((c.tc : Thread Cert.PlainDownPIdeal.nD Cert.PlainDownPIdeal.τ).loc Cert.PlainDownPIdeal.main_arg0) = m ((c.tc : Thread Cert.PlainDownPIdeal.nD Cert.PlainDownPIdeal.τ).loc Cert.PlainDownPIdeal.main_arg0)
      ∧ r.2.mem ((c.tc : Thread Cert.PlainDownPIdeal.nD Cert.PlainDownPIdeal.τ).loc Cert.PlainDownPIdeal.main_arg1) = m ((c.tc : Thread Cert.PlainDownPIdeal.nD Cert.PlainDownPIdeal.τ).loc Cert.PlainDownPIdeal.main_arg1)
      ∧ r.2.mem ((c.tc : Thread Cert.PlainDownPIdeal.nD Cert.PlainDownPIdeal.τ).loc Cert.PlainDownPIdeal.main_arg2) = m ((c.tc : Thread Cert.PlainDownPIdeal.nD Cert.PlainDownPIdeal.τ).loc Cert.PlainDownPIdeal.main_arg2)
      ∧ r.2.mem ((c.tc : Thread Cert.PlainDownPIdeal.nD Cert.PlainDownPIdeal.τ).loc Cert.PlainDownPIdeal.main_arg3) = m ((c.tc : Thread Cert.PlainDownPIdeal.nD Cert.PlainDownPIdeal.τ).loc Cert.PlainDownPIdeal.main_arg3))
      ∧ r.2.sem = fun _ => 0)

def quiescent_FfnP [hFfnP : Cert.FfnP.Facts] : Prop :=
  ∀ (m : (ℓ : Loc Cert.FfnP.nD Cert.FfnP.τ Cert.FfnP.sig) → Buf (Elt Bits) ℓ) (g : Dev Cert.FfnP.nD → PrngReg), Pre_FfnP m →
    θ_run (Cert.FfnP.defs (F := Bits)) (onTc (τ := Cert.FfnP.τ) (Cert.FfnP.main (F := Bits))) ⟨m, fun _ => 0, g⟩ (fun r => (∀ c : Dev Cert.FfnP.nD,
      r.2.mem ((c.tc : Thread Cert.FfnP.nD Cert.FfnP.τ).loc Cert.FfnP.main_arg0) = m ((c.tc : Thread Cert.FfnP.nD Cert.FfnP.τ).loc Cert.FfnP.main_arg0)
      ∧ r.2.mem ((c.tc : Thread Cert.FfnP.nD Cert.FfnP.τ).loc Cert.FfnP.main_arg1) = m ((c.tc : Thread Cert.FfnP.nD Cert.FfnP.τ).loc Cert.FfnP.main_arg1)
      ∧ r.2.mem ((c.tc : Thread Cert.FfnP.nD Cert.FfnP.τ).loc Cert.FfnP.main_arg2) = m ((c.tc : Thread Cert.FfnP.nD Cert.FfnP.τ).loc Cert.FfnP.main_arg2)
      ∧ r.2.mem ((c.tc : Thread Cert.FfnP.nD Cert.FfnP.τ).loc Cert.FfnP.main_arg3) = m ((c.tc : Thread Cert.FfnP.nD Cert.FfnP.τ).loc Cert.FfnP.main_arg3)
      ∧ r.2.mem ((c.tc : Thread Cert.FfnP.nD Cert.FfnP.τ).loc Cert.FfnP.main_arg4) = m ((c.tc : Thread Cert.FfnP.nD Cert.FfnP.τ).loc Cert.FfnP.main_arg4))
      ∧ r.2.sem = fun _ => 0)

def quiescent_FfnPIdeal [hFfnPIdeal : Cert.FfnPIdeal.Facts] : Prop :=
  ∀ (m : (ℓ : Loc Cert.FfnPIdeal.nD Cert.FfnPIdeal.τ Cert.FfnPIdeal.sig) → Buf (Elt Ideal) ℓ) (g : Dev Cert.FfnPIdeal.nD → PrngReg), Pre_FfnPIdeal m →
    θ_run (Cert.FfnPIdeal.defs (F := Ideal)) (onTc (τ := Cert.FfnPIdeal.τ) (Cert.FfnPIdeal.main (F := Ideal))) ⟨m, fun _ => 0, g⟩ (fun r => (∀ c : Dev Cert.FfnPIdeal.nD,
      r.2.mem ((c.tc : Thread Cert.FfnPIdeal.nD Cert.FfnPIdeal.τ).loc Cert.FfnPIdeal.main_arg0) = m ((c.tc : Thread Cert.FfnPIdeal.nD Cert.FfnPIdeal.τ).loc Cert.FfnPIdeal.main_arg0)
      ∧ r.2.mem ((c.tc : Thread Cert.FfnPIdeal.nD Cert.FfnPIdeal.τ).loc Cert.FfnPIdeal.main_arg1) = m ((c.tc : Thread Cert.FfnPIdeal.nD Cert.FfnPIdeal.τ).loc Cert.FfnPIdeal.main_arg1)
      ∧ r.2.mem ((c.tc : Thread Cert.FfnPIdeal.nD Cert.FfnPIdeal.τ).loc Cert.FfnPIdeal.main_arg2) = m ((c.tc : Thread Cert.FfnPIdeal.nD Cert.FfnPIdeal.τ).loc Cert.FfnPIdeal.main_arg2)
      ∧ r.2.mem ((c.tc : Thread Cert.FfnPIdeal.nD Cert.FfnPIdeal.τ).loc Cert.FfnPIdeal.main_arg3) = m ((c.tc : Thread Cert.FfnPIdeal.nD Cert.FfnPIdeal.τ).loc Cert.FfnPIdeal.main_arg3)
      ∧ r.2.mem ((c.tc : Thread Cert.FfnPIdeal.nD Cert.FfnPIdeal.τ).loc Cert.FfnPIdeal.main_arg4) = m ((c.tc : Thread Cert.FfnPIdeal.nD Cert.FfnPIdeal.τ).loc Cert.FfnPIdeal.main_arg4))
      ∧ r.2.sem = fun _ => 0)

def quiescent_PlainFfnPIdeal [hPlainFfnPIdeal : Cert.PlainFfnPIdeal.Facts] : Prop :=
  ∀ (m : (ℓ : Loc Cert.PlainFfnPIdeal.nD Cert.PlainFfnPIdeal.τ Cert.PlainFfnPIdeal.sig) → Buf (Elt Ideal) ℓ) (g : Dev Cert.PlainFfnPIdeal.nD → PrngReg), Pre_PlainFfnPIdeal m →
    θ_run (Cert.PlainFfnPIdeal.defs (F := Ideal)) (onTc (τ := Cert.PlainFfnPIdeal.τ) (Cert.PlainFfnPIdeal.main (F := Ideal))) ⟨m, fun _ => 0, g⟩ (fun r => (∀ c : Dev Cert.PlainFfnPIdeal.nD,
      r.2.mem ((c.tc : Thread Cert.PlainFfnPIdeal.nD Cert.PlainFfnPIdeal.τ).loc Cert.PlainFfnPIdeal.main_arg0) = m ((c.tc : Thread Cert.PlainFfnPIdeal.nD Cert.PlainFfnPIdeal.τ).loc Cert.PlainFfnPIdeal.main_arg0)
      ∧ r.2.mem ((c.tc : Thread Cert.PlainFfnPIdeal.nD Cert.PlainFfnPIdeal.τ).loc Cert.PlainFfnPIdeal.main_arg1) = m ((c.tc : Thread Cert.PlainFfnPIdeal.nD Cert.PlainFfnPIdeal.τ).loc Cert.PlainFfnPIdeal.main_arg1)
      ∧ r.2.mem ((c.tc : Thread Cert.PlainFfnPIdeal.nD Cert.PlainFfnPIdeal.τ).loc Cert.PlainFfnPIdeal.main_arg2) = m ((c.tc : Thread Cert.PlainFfnPIdeal.nD Cert.PlainFfnPIdeal.τ).loc Cert.PlainFfnPIdeal.main_arg2)
      ∧ r.2.mem ((c.tc : Thread Cert.PlainFfnPIdeal.nD Cert.PlainFfnPIdeal.τ).loc Cert.PlainFfnPIdeal.main_arg3) = m ((c.tc : Thread Cert.PlainFfnPIdeal.nD Cert.PlainFfnPIdeal.τ).loc Cert.PlainFfnPIdeal.main_arg3)
      ∧ r.2.mem ((c.tc : Thread Cert.PlainFfnPIdeal.nD Cert.PlainFfnPIdeal.τ).loc Cert.PlainFfnPIdeal.main_arg4) = m ((c.tc : Thread Cert.PlainFfnPIdeal.nD Cert.PlainFfnPIdeal.τ).loc Cert.PlainFfnPIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_lb_bounded [hKernelIdeal : Cert.KernelIdeal.Facts] [hReferenceIdeal : Cert.ReferenceIdeal.Facts] [hPre_lb_bounded : Cert.Pre_lb_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lb_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_PlainFfnIdeal [hFfnIdeal : Cert.FfnIdeal.Facts] [hPlainFfnIdeal : Cert.PlainFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.PlainFfnIdeal.nD Cert.PlainFfnIdeal.τ Cert.PlainFfnIdeal.sig) → Buf (Elt Ideal) ℓ) (g' : Dev Cert.PlainFfnIdeal.nD → PrngReg), Pre_FfnIdeal m →
    (∀ c : Dev Cert.FfnIdeal.nD,
      m' ((c.tc : Thread Cert.PlainFfnIdeal.nD Cert.PlainFfnIdeal.τ).loc Cert.PlainFfnIdeal.main_arg0) = m ((c.tc : Thread Cert.FfnIdeal.nD Cert.FfnIdeal.τ).loc Cert.FfnIdeal.main_arg0)
      ∧ m' ((c.tc : Thread Cert.PlainFfnIdeal.nD Cert.PlainFfnIdeal.τ).loc Cert.PlainFfnIdeal.main_arg1) = m ((c.tc : Thread Cert.FfnIdeal.nD Cert.FfnIdeal.τ).loc Cert.FfnIdeal.main_arg1)
      ∧ m' ((c.tc : Thread Cert.PlainFfnIdeal.nD Cert.PlainFfnIdeal.τ).loc Cert.PlainFfnIdeal.main_arg2) = m ((c.tc : Thread Cert.FfnIdeal.nD Cert.FfnIdeal.τ).loc Cert.FfnIdeal.main_arg2)
      ∧ m' ((c.tc : Thread Cert.PlainFfnIdeal.nD Cert.PlainFfnIdeal.τ).loc Cert.PlainFfnIdeal.main_arg3) = m ((c.tc : Thread Cert.FfnIdeal.nD Cert.FfnIdeal.τ).loc Cert.FfnIdeal.main_arg3)
      ∧ m' ((c.tc : Thread Cert.PlainFfnIdeal.nD Cert.PlainFfnIdeal.τ).loc Cert.PlainFfnIdeal.main_arg4) = m ((c.tc : Thread Cert.FfnIdeal.nD Cert.FfnIdeal.τ).loc Cert.FfnIdeal.main_arg4)
      ∧ m' ((c.tc : Thread Cert.PlainFfnIdeal.nD Cert.PlainFfnIdeal.τ).loc Cert.PlainFfnIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v15_0)) (v1 : (c : Dev Cert.FfnIdeal.nD) → Buf (Elt Ideal) ((c.tc : Thread Cert.FfnIdeal.nD Cert.FfnIdeal.τ).loc Cert.FfnIdeal.main_v15_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v15_0) = v0 c
          ∧ r.2.mem ((c.tc : Thread Cert.FfnIdeal.nD Cert.FfnIdeal.τ).loc Cert.FfnIdeal.main_v15_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.PlainFfnIdeal.defs (F := Ideal)) (onTc (τ := Cert.PlainFfnIdeal.τ) (Cert.PlainFfnIdeal.main (F := Ideal))) ⟨m', fun _ => 0, g'⟩ (fun r => ∀ c : Dev Cert.PlainFfnIdeal.nD,
          r.2.mem ((c.tc : Thread Cert.PlainFfnIdeal.nD Cert.PlainFfnIdeal.τ).loc Cert.PlainFfnIdeal.main_v65) = v0 c
          ∧ r.2.mem ((c.tc : Thread Cert.PlainFfnIdeal.nD Cert.PlainFfnIdeal.τ).loc Cert.PlainFfnIdeal.main_v66) = v1 c
          ∧ r.2.mem ((c.tc : Thread Cert.PlainFfnIdeal.nD Cert.PlainFfnIdeal.τ).loc Cert.PlainFfnIdeal.main_arg0) = m' ((c.tc : Thread Cert.PlainFfnIdeal.nD Cert.PlainFfnIdeal.τ).loc Cert.PlainFfnIdeal.main_arg0)
          ∧ r.2.mem ((c.tc : Thread Cert.PlainFfnIdeal.nD Cert.PlainFfnIdeal.τ).loc Cert.PlainFfnIdeal.main_arg1) = m' ((c.tc : Thread Cert.PlainFfnIdeal.nD Cert.PlainFfnIdeal.τ).loc Cert.PlainFfnIdeal.main_arg1)
          ∧ r.2.mem ((c.tc : Thread Cert.PlainFfnIdeal.nD Cert.PlainFfnIdeal.τ).loc Cert.PlainFfnIdeal.main_arg2) = m' ((c.tc : Thread Cert.PlainFfnIdeal.nD Cert.PlainFfnIdeal.τ).loc Cert.PlainFfnIdeal.main_arg2)
          ∧ r.2.mem ((c.tc : Thread Cert.PlainFfnIdeal.nD Cert.PlainFfnIdeal.τ).loc Cert.PlainFfnIdeal.main_arg3) = m' ((c.tc : Thread Cert.PlainFfnIdeal.nD Cert.PlainFfnIdeal.τ).loc Cert.PlainFfnIdeal.main_arg3)
          ∧ r.2.mem ((c.tc : Thread Cert.PlainFfnIdeal.nD Cert.PlainFfnIdeal.τ).loc Cert.PlainFfnIdeal.main_arg4) = m' ((c.tc : Thread Cert.PlainFfnIdeal.nD Cert.PlainFfnIdeal.τ).loc Cert.PlainFfnIdeal.main_arg4)
          ∧ r.2.mem ((c.tc : Thread Cert.PlainFfnIdeal.nD Cert.PlainFfnIdeal.τ).loc Cert.PlainFfnIdeal.main_arg5) = m' ((c.tc : Thread Cert.PlainFfnIdeal.nD Cert.PlainFfnIdeal.τ).loc Cert.PlainFfnIdeal.main_arg5))

def preserves_Down_DownIdeal : Prop :=
  True

def algebraic_DownIdeal_PlainDownIdeal [hDownIdeal : Cert.DownIdeal.Facts] [hPlainDownIdeal : Cert.PlainDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.PlainDownIdeal.nD Cert.PlainDownIdeal.τ Cert.PlainDownIdeal.sig) → Buf (Elt Ideal) ℓ) (g' : Dev Cert.PlainDownIdeal.nD → PrngReg), Pre_DownIdeal m →
    (∀ c : Dev Cert.DownIdeal.nD,
      m' ((c.tc : Thread Cert.PlainDownIdeal.nD Cert.PlainDownIdeal.τ).loc Cert.PlainDownIdeal.main_arg0) = m ((c.tc : Thread Cert.DownIdeal.nD Cert.DownIdeal.τ).loc Cert.DownIdeal.main_arg0)
      ∧ m' ((c.tc : Thread Cert.PlainDownIdeal.nD Cert.PlainDownIdeal.τ).loc Cert.PlainDownIdeal.main_arg1) = m ((c.tc : Thread Cert.DownIdeal.nD Cert.DownIdeal.τ).loc Cert.DownIdeal.main_arg1)
      ∧ m' ((c.tc : Thread Cert.PlainDownIdeal.nD Cert.PlainDownIdeal.τ).loc Cert.PlainDownIdeal.main_arg2) = m ((c.tc : Thread Cert.DownIdeal.nD Cert.DownIdeal.τ).loc Cert.DownIdeal.main_arg2)
      ∧ m' ((c.tc : Thread Cert.PlainDownIdeal.nD Cert.PlainDownIdeal.τ).loc Cert.PlainDownIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.PlainDownIdeal.defs (F := Ideal)) (onTc (τ := Cert.PlainDownIdeal.τ) (Cert.PlainDownIdeal.main (F := Ideal))) ⟨m', fun _ => 0, g'⟩ (fun r => ∀ c : Dev Cert.PlainDownIdeal.nD,
          r.2.mem ((c.tc : Thread Cert.PlainDownIdeal.nD Cert.PlainDownIdeal.τ).loc Cert.PlainDownIdeal.main_v20) = v0 c
          ∧ r.2.mem ((c.tc : Thread Cert.PlainDownIdeal.nD Cert.PlainDownIdeal.τ).loc Cert.PlainDownIdeal.main_arg0) = m' ((c.tc : Thread Cert.PlainDownIdeal.nD Cert.PlainDownIdeal.τ).loc Cert.PlainDownIdeal.main_arg0)
          ∧ r.2.mem ((c.tc : Thread Cert.PlainDownIdeal.nD Cert.PlainDownIdeal.τ).loc Cert.PlainDownIdeal.main_arg1) = m' ((c.tc : Thread Cert.PlainDownIdeal.nD Cert.PlainDownIdeal.τ).loc Cert.PlainDownIdeal.main_arg1)
          ∧ r.2.mem ((c.tc : Thread Cert.PlainDownIdeal.nD Cert.PlainDownIdeal.τ).loc Cert.PlainDownIdeal.main_arg2) = m' ((c.tc : Thread Cert.PlainDownIdeal.nD Cert.PlainDownIdeal.τ).loc Cert.PlainDownIdeal.main_arg2)
          ∧ r.2.mem ((c.tc : Thread Cert.PlainDownIdeal.nD Cert.PlainDownIdeal.τ).loc Cert.PlainDownIdeal.main_arg3) = m' ((c.tc : Thread Cert.PlainDownIdeal.nD Cert.PlainDownIdeal.τ).loc Cert.PlainDownIdeal.main_arg3))

def preserves_Proj_ProjIdeal : Prop :=
  True

def algebraic_ProjIdeal_PlainProjIdeal [hProjIdeal : Cert.ProjIdeal.Facts] [hPlainProjIdeal : Cert.PlainProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.PlainProjIdeal.nD Cert.PlainProjIdeal.τ Cert.PlainProjIdeal.sig) → Buf (Elt Ideal) ℓ) (g' : Dev Cert.PlainProjIdeal.nD → PrngReg), Pre_ProjIdeal m →
    (∀ c : Dev Cert.ProjIdeal.nD,
      m' ((c.tc : Thread Cert.PlainProjIdeal.nD Cert.PlainProjIdeal.τ).loc Cert.PlainProjIdeal.main_arg0) = m ((c.tc : Thread Cert.ProjIdeal.nD Cert.ProjIdeal.τ).loc Cert.ProjIdeal.main_arg0)
      ∧ m' ((c.tc : Thread Cert.PlainProjIdeal.nD Cert.PlainProjIdeal.τ).loc Cert.PlainProjIdeal.main_arg1) = m ((c.tc : Thread Cert.ProjIdeal.nD Cert.ProjIdeal.τ).loc Cert.ProjIdeal.main_arg1)
      ∧ m' ((c.tc : Thread Cert.PlainProjIdeal.nD Cert.PlainProjIdeal.τ).loc Cert.PlainProjIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.PlainProjIdeal.defs (F := Ideal)) (onTc (τ := Cert.PlainProjIdeal.τ) (Cert.PlainProjIdeal.main (F := Ideal))) ⟨m', fun _ => 0, g'⟩ (fun r => ∀ c : Dev Cert.PlainProjIdeal.nD,
          r.2.mem ((c.tc : Thread Cert.PlainProjIdeal.nD Cert.PlainProjIdeal.τ).loc Cert.PlainProjIdeal.main_v16) = v0 c
          ∧ r.2.mem ((c.tc : Thread Cert.PlainProjIdeal.nD Cert.PlainProjIdeal.τ).loc Cert.PlainProjIdeal.main_arg0) = m' ((c.tc : Thread Cert.PlainProjIdeal.nD Cert.PlainProjIdeal.τ).loc Cert.PlainProjIdeal.main_arg0)
          ∧ r.2.mem ((c.tc : Thread Cert.PlainProjIdeal.nD Cert.PlainProjIdeal.τ).loc Cert.PlainProjIdeal.main_arg1) = m' ((c.tc : Thread Cert.PlainProjIdeal.nD Cert.PlainProjIdeal.τ).loc Cert.PlainProjIdeal.main_arg1)
          ∧ r.2.mem ((c.tc : Thread Cert.PlainProjIdeal.nD Cert.PlainProjIdeal.τ).loc Cert.PlainProjIdeal.main_arg2) = m' ((c.tc : Thread Cert.PlainProjIdeal.nD Cert.PlainProjIdeal.τ).loc Cert.PlainProjIdeal.main_arg2))

def preserves_Mix_MixIdeal : Prop :=
  True

def algebraic_MixIdeal_PlainMixIdeal [hMixIdeal : Cert.MixIdeal.Facts] [hPlainMixIdeal : Cert.PlainMixIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.PlainMixIdeal.nD Cert.PlainMixIdeal.τ Cert.PlainMixIdeal.sig) → Buf (Elt Ideal) ℓ) (g' : Dev Cert.PlainMixIdeal.nD → PrngReg), Pre_MixIdeal m →
    (∀ c : Dev Cert.MixIdeal.nD,
      m' ((c.tc : Thread Cert.PlainMixIdeal.nD Cert.PlainMixIdeal.τ).loc Cert.PlainMixIdeal.main_arg0) = m ((c.tc : Thread Cert.MixIdeal.nD Cert.MixIdeal.τ).loc Cert.MixIdeal.main_arg0)
      ∧ m' ((c.tc : Thread Cert.PlainMixIdeal.nD Cert.PlainMixIdeal.τ).loc Cert.PlainMixIdeal.main_arg1) = m ((c.tc : Thread Cert.MixIdeal.nD Cert.MixIdeal.τ).loc Cert.MixIdeal.main_arg1)
      ∧ m' ((c.tc : Thread Cert.PlainMixIdeal.nD Cert.PlainMixIdeal.τ).loc Cert.PlainMixIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v20_0)) (v1 : (c : Dev Cert.MixIdeal.nD) → Buf (Elt Ideal) ((c.tc : Thread Cert.MixIdeal.nD Cert.MixIdeal.τ).loc Cert.MixIdeal.main_v20_1)) (v2 : (c : Dev Cert.MixIdeal.nD) → Buf (Elt Ideal) ((c.tc : Thread Cert.MixIdeal.nD Cert.MixIdeal.τ).loc Cert.MixIdeal.main_v20_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v20_0) = v0 c
          ∧ r.2.mem ((c.tc : Thread Cert.MixIdeal.nD Cert.MixIdeal.τ).loc Cert.MixIdeal.main_v20_1) = v1 c
          ∧ r.2.mem ((c.tc : Thread Cert.MixIdeal.nD Cert.MixIdeal.τ).loc Cert.MixIdeal.main_v20_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.PlainMixIdeal.defs (F := Ideal)) (onTc (τ := Cert.PlainMixIdeal.τ) (Cert.PlainMixIdeal.main (F := Ideal))) ⟨m', fun _ => 0, g'⟩ (fun r => ∀ c : Dev Cert.PlainMixIdeal.nD,
          r.2.mem ((c.tc : Thread Cert.PlainMixIdeal.nD Cert.PlainMixIdeal.τ).loc Cert.PlainMixIdeal.main_v30) = v0 c
          ∧ r.2.mem ((c.tc : Thread Cert.PlainMixIdeal.nD Cert.PlainMixIdeal.τ).loc Cert.PlainMixIdeal.main_v31) = v1 c
          ∧ r.2.mem ((c.tc : Thread Cert.PlainMixIdeal.nD Cert.PlainMixIdeal.τ).loc Cert.PlainMixIdeal.main_v33) = v2 c
          ∧ r.2.mem ((c.tc : Thread Cert.PlainMixIdeal.nD Cert.PlainMixIdeal.τ).loc Cert.PlainMixIdeal.main_arg0) = m' ((c.tc : Thread Cert.PlainMixIdeal.nD Cert.PlainMixIdeal.τ).loc Cert.PlainMixIdeal.main_arg0)
          ∧ r.2.mem ((c.tc : Thread Cert.PlainMixIdeal.nD Cert.PlainMixIdeal.τ).loc Cert.PlainMixIdeal.main_arg1) = m' ((c.tc : Thread Cert.PlainMixIdeal.nD Cert.PlainMixIdeal.τ).loc Cert.PlainMixIdeal.main_arg1)
          ∧ r.2.mem ((c.tc : Thread Cert.PlainMixIdeal.nD Cert.PlainMixIdeal.τ).loc Cert.PlainMixIdeal.main_arg2) = m' ((c.tc : Thread Cert.PlainMixIdeal.nD Cert.PlainMixIdeal.τ).loc Cert.PlainMixIdeal.main_arg2))

def preserves_MixS_MixSIdeal : Prop :=
  True

def algebraic_MixSIdeal_PlainMixSIdeal [hMixSIdeal : Cert.MixSIdeal.Facts] [hPlainMixSIdeal : Cert.PlainMixSIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.PlainMixSIdeal.nD Cert.PlainMixSIdeal.τ Cert.PlainMixSIdeal.sig) → Buf (Elt Ideal) ℓ) (g' : Dev Cert.PlainMixSIdeal.nD → PrngReg), Pre_MixSIdeal m →
    (∀ c : Dev Cert.MixSIdeal.nD,
      m' ((c.tc : Thread Cert.PlainMixSIdeal.nD Cert.PlainMixSIdeal.τ).loc Cert.PlainMixSIdeal.main_arg0) = m ((c.tc : Thread Cert.MixSIdeal.nD Cert.MixSIdeal.τ).loc Cert.MixSIdeal.main_arg0)
      ∧ m' ((c.tc : Thread Cert.PlainMixSIdeal.nD Cert.PlainMixSIdeal.τ).loc Cert.PlainMixSIdeal.main_arg1) = m ((c.tc : Thread Cert.MixSIdeal.nD Cert.MixSIdeal.τ).loc Cert.MixSIdeal.main_arg1)
      ∧ m' ((c.tc : Thread Cert.PlainMixSIdeal.nD Cert.PlainMixSIdeal.τ).loc Cert.PlainMixSIdeal.main_arg2) = m ((c.tc : Thread Cert.MixSIdeal.nD Cert.MixSIdeal.τ).loc Cert.MixSIdeal.main_arg2)) →
    ∃ (v0 : (c : Dev Cert.MixSIdeal.nD) → Buf (Elt Ideal) ((c.tc : Thread Cert.MixSIdeal.nD Cert.MixSIdeal.τ).loc Cert.MixSIdeal.main_v20_0)) (v1 : (c : Dev Cert.MixSIdeal.nD) → Buf (Elt Ideal) ((c.tc : Thread Cert.MixSIdeal.nD Cert.MixSIdeal.τ).loc Cert.MixSIdeal.main_v20_1)) (v2 : (c : Dev Cert.MixSIdeal.nD) → Buf (Elt Ideal) ((c.tc : Thread Cert.MixSIdeal.nD Cert.MixSIdeal.τ).loc Cert.MixSIdeal.main_v20_2)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v20_0) = v0 c
          ∧ r.2.mem ((c.tc : Thread Cert.MixSIdeal.nD Cert.MixSIdeal.τ).loc Cert.MixSIdeal.main_v20_1) = v1 c
          ∧ r.2.mem ((c.tc : Thread Cert.MixSIdeal.nD Cert.MixSIdeal.τ).loc Cert.MixSIdeal.main_v20_2) = v2 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2))
      ∧ θ_run (Cert.PlainMixSIdeal.defs (F := Ideal)) (onTc (τ := Cert.PlainMixSIdeal.τ) (Cert.PlainMixSIdeal.main (F := Ideal))) ⟨m', fun _ => 0, g'⟩ (fun r => ∀ c : Dev Cert.PlainMixSIdeal.nD,
          r.2.mem ((c.tc : Thread Cert.PlainMixSIdeal.nD Cert.PlainMixSIdeal.τ).loc Cert.PlainMixSIdeal.main_v30) = v0 c
          ∧ r.2.mem ((c.tc : Thread Cert.PlainMixSIdeal.nD Cert.PlainMixSIdeal.τ).loc Cert.PlainMixSIdeal.main_v31) = v1 c
          ∧ r.2.mem ((c.tc : Thread Cert.PlainMixSIdeal.nD Cert.PlainMixSIdeal.τ).loc Cert.PlainMixSIdeal.main_v33) = v2 c
          ∧ r.2.mem ((c.tc : Thread Cert.PlainMixSIdeal.nD Cert.PlainMixSIdeal.τ).loc Cert.PlainMixSIdeal.main_arg0) = m' ((c.tc : Thread Cert.PlainMixSIdeal.nD Cert.PlainMixSIdeal.τ).loc Cert.PlainMixSIdeal.main_arg0)
          ∧ r.2.mem ((c.tc : Thread Cert.PlainMixSIdeal.nD Cert.PlainMixSIdeal.τ).loc Cert.PlainMixSIdeal.main_arg1) = m' ((c.tc : Thread Cert.PlainMixSIdeal.nD Cert.PlainMixSIdeal.τ).loc Cert.PlainMixSIdeal.main_arg1)
          ∧ r.2.mem ((c.tc : Thread Cert.PlainMixSIdeal.nD Cert.PlainMixSIdeal.τ).loc Cert.PlainMixSIdeal.main_arg2) = m' ((c.tc : Thread Cert.PlainMixSIdeal.nD Cert.PlainMixSIdeal.τ).loc Cert.PlainMixSIdeal.main_arg2))

def preserves_DownP_DownPIdeal : Prop :=
  True

def algebraic_DownPIdeal_PlainDownPIdeal [hDownPIdeal : Cert.DownPIdeal.Facts] [hPlainDownPIdeal : Cert.PlainDownPIdeal.Facts] : Prop :=
  ∀ (m : (ℓ : Loc Cert.DownPIdeal.nD Cert.DownPIdeal.τ Cert.DownPIdeal.sig) → Buf (Elt Ideal) ℓ) (g : Dev Cert.DownPIdeal.nD → PrngReg)
    (m' : (ℓ : Loc Cert.PlainDownPIdeal.nD Cert.PlainDownPIdeal.τ Cert.PlainDownPIdeal.sig) → Buf (Elt Ideal) ℓ) (g' : Dev Cert.PlainDownPIdeal.nD → PrngReg), Pre_DownPIdeal m →
    (∀ c : Dev Cert.DownPIdeal.nD,
      m' ((c.tc : Thread Cert.PlainDownPIdeal.nD Cert.PlainDownPIdeal.τ).loc Cert.PlainDownPIdeal.main_arg0) = m ((c.tc : Thread Cert.DownPIdeal.nD Cert.DownPIdeal.τ).loc Cert.DownPIdeal.main_arg0)
      ∧ m' ((c.tc : Thread Cert.PlainDownPIdeal.nD Cert.PlainDownPIdeal.τ).loc Cert.PlainDownPIdeal.main_arg1) = m ((c.tc : Thread Cert.DownPIdeal.nD Cert.DownPIdeal.τ).loc Cert.DownPIdeal.main_arg1)
      ∧ m' ((c.tc : Thread Cert.PlainDownPIdeal.nD Cert.PlainDownPIdeal.τ).loc Cert.PlainDownPIdeal.main_arg2) = m ((c.tc : Thread Cert.DownPIdeal.nD Cert.DownPIdeal.τ).loc Cert.DownPIdeal.main_arg2)
      ∧ m' ((c.tc : Thread Cert.PlainDownPIdeal.nD Cert.PlainDownPIdeal.τ).loc Cert.PlainDownPIdeal.main_arg3) = m ((c.tc : Thread Cert.DownPIdeal.nD Cert.DownPIdeal.τ).loc Cert.DownPIdeal.main_arg3)) →
    ∃ (v0 : (c : Dev Cert.DownPIdeal.nD) → Buf (Elt Ideal) ((c.tc : Thread Cert.DownPIdeal.nD Cert.DownPIdeal.τ).loc Cert.DownPIdeal.main_v4)),
      θ_run (Cert.DownPIdeal.defs (F := Ideal)) (onTc (τ := Cert.DownPIdeal.τ) (Cert.DownPIdeal.main (F := Ideal))) ⟨m, fun _ => 0, g⟩ (fun r => ∀ c : Dev Cert.DownPIdeal.nD,
          r.2.mem ((c.tc : Thread Cert.DownPIdeal.nD Cert.DownPIdeal.τ).loc Cert.DownPIdeal.main_v4) = v0 c
          ∧ r.2.mem ((c.tc : Thread Cert.DownPIdeal.nD Cert.DownPIdeal.τ).loc Cert.DownPIdeal.main_arg0) = m ((c.tc : Thread Cert.DownPIdeal.nD Cert.DownPIdeal.τ).loc Cert.DownPIdeal.main_arg0)
          ∧ r.2.mem ((c.tc : Thread Cert.DownPIdeal.nD Cert.DownPIdeal.τ).loc Cert.DownPIdeal.main_arg1) = m ((c.tc : Thread Cert.DownPIdeal.nD Cert.DownPIdeal.τ).loc Cert.DownPIdeal.main_arg1)
          ∧ r.2.mem ((c.tc : Thread Cert.DownPIdeal.nD Cert.DownPIdeal.τ).loc Cert.DownPIdeal.main_arg2) = m ((c.tc : Thread Cert.DownPIdeal.nD Cert.DownPIdeal.τ).loc Cert.DownPIdeal.main_arg2)
          ∧ r.2.mem ((c.tc : Thread Cert.DownPIdeal.nD Cert.DownPIdeal.τ).loc Cert.DownPIdeal.main_arg3) = m ((c.tc : Thread Cert.DownPIdeal.nD Cert.DownPIdeal.τ).loc Cert.DownPIdeal.main_arg3))
      ∧ θ_run (Cert.PlainDownPIdeal.defs (F := Ideal)) (onTc (τ := Cert.PlainDownPIdeal.τ) (Cert.PlainDownPIdeal.main (F := Ideal))) ⟨m', fun _ => 0, g'⟩ (fun r => ∀ c : Dev Cert.PlainDownPIdeal.nD,
          r.2.mem ((c.tc : Thread Cert.PlainDownPIdeal.nD Cert.PlainDownPIdeal.τ).loc Cert.PlainDownPIdeal.main_v20) = v0 c
          ∧ r.2.mem ((c.tc : Thread Cert.PlainDownPIdeal.nD Cert.PlainDownPIdeal.τ).loc Cert.PlainDownPIdeal.main_arg0) = m' ((c.tc : Thread Cert.PlainDownPIdeal.nD Cert.PlainDownPIdeal.τ).loc Cert.PlainDownPIdeal.main_arg0)
          ∧ r.2.mem ((c.tc : Thread Cert.PlainDownPIdeal.nD Cert.PlainDownPIdeal.τ).loc Cert.PlainDownPIdeal.main_arg1) = m' ((c.tc : Thread Cert.PlainDownPIdeal.nD Cert.PlainDownPIdeal.τ).loc Cert.PlainDownPIdeal.main_arg1)
          ∧ r.2.mem ((c.tc : Thread Cert.PlainDownPIdeal.nD Cert.PlainDownPIdeal.τ).loc Cert.PlainDownPIdeal.main_arg2) = m' ((c.tc : Thread Cert.PlainDownPIdeal.nD Cert.PlainDownPIdeal.τ).loc Cert.PlainDownPIdeal.main_arg2)
          ∧ r.2.mem ((c.tc : Thread Cert.PlainDownPIdeal.nD Cert.PlainDownPIdeal.τ).loc Cert.PlainDownPIdeal.main_arg3) = m' ((c.tc : Thread Cert.PlainDownPIdeal.nD Cert.PlainDownPIdeal.τ).loc Cert.PlainDownPIdeal.main_arg3))

def preserves_FfnP_FfnPIdeal : Prop :=
  True

def algebraic_FfnPIdeal_PlainFfnPIdeal [hFfnPIdeal : Cert.FfnPIdeal.Facts] [hPlainFfnPIdeal : Cert.PlainFfnPIdeal.Facts] : Prop :=
  ∀ (m : (ℓ : Loc Cert.FfnPIdeal.nD Cert.FfnPIdeal.τ Cert.FfnPIdeal.sig) → Buf (Elt Ideal) ℓ) (g : Dev Cert.FfnPIdeal.nD → PrngReg)
    (m' : (ℓ : Loc Cert.PlainFfnPIdeal.nD Cert.PlainFfnPIdeal.τ Cert.PlainFfnPIdeal.sig) → Buf (Elt Ideal) ℓ) (g' : Dev Cert.PlainFfnPIdeal.nD → PrngReg), Pre_FfnPIdeal m →
    (∀ c : Dev Cert.FfnPIdeal.nD,
      m' ((c.tc : Thread Cert.PlainFfnPIdeal.nD Cert.PlainFfnPIdeal.τ).loc Cert.PlainFfnPIdeal.main_arg0) = m ((c.tc : Thread Cert.FfnPIdeal.nD Cert.FfnPIdeal.τ).loc Cert.FfnPIdeal.main_arg0)
      ∧ m' ((c.tc : Thread Cert.PlainFfnPIdeal.nD Cert.PlainFfnPIdeal.τ).loc Cert.PlainFfnPIdeal.main_arg1) = m ((c.tc : Thread Cert.FfnPIdeal.nD Cert.FfnPIdeal.τ).loc Cert.FfnPIdeal.main_arg1)
      ∧ m' ((c.tc : Thread Cert.PlainFfnPIdeal.nD Cert.PlainFfnPIdeal.τ).loc Cert.PlainFfnPIdeal.main_arg2) = m ((c.tc : Thread Cert.FfnPIdeal.nD Cert.FfnPIdeal.τ).loc Cert.FfnPIdeal.main_arg2)
      ∧ m' ((c.tc : Thread Cert.PlainFfnPIdeal.nD Cert.PlainFfnPIdeal.τ).loc Cert.PlainFfnPIdeal.main_arg3) = m ((c.tc : Thread Cert.FfnPIdeal.nD Cert.FfnPIdeal.τ).loc Cert.FfnPIdeal.main_arg3)
      ∧ m' ((c.tc : Thread Cert.PlainFfnPIdeal.nD Cert.PlainFfnPIdeal.τ).loc Cert.PlainFfnPIdeal.main_arg4) = m ((c.tc : Thread Cert.FfnPIdeal.nD Cert.FfnPIdeal.τ).loc Cert.FfnPIdeal.main_arg4)) →
    ∃ (v0 : (c : Dev Cert.FfnPIdeal.nD) → Buf (Elt Ideal) ((c.tc : Thread Cert.FfnPIdeal.nD Cert.FfnPIdeal.τ).loc Cert.FfnPIdeal.main_v8_0)) (v1 : (c : Dev Cert.FfnPIdeal.nD) → Buf (Elt Ideal) ((c.tc : Thread Cert.FfnPIdeal.nD Cert.FfnPIdeal.τ).loc Cert.FfnPIdeal.main_v8_1)),
      θ_run (Cert.FfnPIdeal.defs (F := Ideal)) (onTc (τ := Cert.FfnPIdeal.τ) (Cert.FfnPIdeal.main (F := Ideal))) ⟨m, fun _ => 0, g⟩ (fun r => ∀ c : Dev Cert.FfnPIdeal.nD,
          r.2.mem ((c.tc : Thread Cert.FfnPIdeal.nD Cert.FfnPIdeal.τ).loc Cert.FfnPIdeal.main_v8_0) = v0 c
          ∧ r.2.mem ((c.tc : Thread Cert.FfnPIdeal.nD Cert.FfnPIdeal.τ).loc Cert.FfnPIdeal.main_v8_1) = v1 c
          ∧ r.2.mem ((c.tc : Thread Cert.FfnPIdeal.nD Cert.FfnPIdeal.τ).loc Cert.FfnPIdeal.main_arg0) = m ((c.tc : Thread Cert.FfnPIdeal.nD Cert.FfnPIdeal.τ).loc Cert.FfnPIdeal.main_arg0)
          ∧ r.2.mem ((c.tc : Thread Cert.FfnPIdeal.nD Cert.FfnPIdeal.τ).loc Cert.FfnPIdeal.main_arg1) = m ((c.tc : Thread Cert.FfnPIdeal.nD Cert.FfnPIdeal.τ).loc Cert.FfnPIdeal.main_arg1)
          ∧ r.2.mem ((c.tc : Thread Cert.FfnPIdeal.nD Cert.FfnPIdeal.τ).loc Cert.FfnPIdeal.main_arg2) = m ((c.tc : Thread Cert.FfnPIdeal.nD Cert.FfnPIdeal.τ).loc Cert.FfnPIdeal.main_arg2)
          ∧ r.2.mem ((c.tc : Thread Cert.FfnPIdeal.nD Cert.FfnPIdeal.τ).loc Cert.FfnPIdeal.main_arg3) = m ((c.tc : Thread Cert.FfnPIdeal.nD Cert.FfnPIdeal.τ).loc Cert.FfnPIdeal.main_arg3)
          ∧ r.2.mem ((c.tc : Thread Cert.FfnPIdeal.nD Cert.FfnPIdeal.τ).loc Cert.FfnPIdeal.main_arg4) = m ((c.tc : Thread Cert.FfnPIdeal.nD Cert.FfnPIdeal.τ).loc Cert.FfnPIdeal.main_arg4))
      ∧ θ_run (Cert.PlainFfnPIdeal.defs (F := Ideal)) (onTc (τ := Cert.PlainFfnPIdeal.τ) (Cert.PlainFfnPIdeal.main (F := Ideal))) ⟨m', fun _ => 0, g'⟩ (fun r => ∀ c : Dev Cert.PlainFfnPIdeal.nD,
          r.2.mem ((c.tc : Thread Cert.PlainFfnPIdeal.nD Cert.PlainFfnPIdeal.τ).loc Cert.PlainFfnPIdeal.main_v65) = v0 c
          ∧ r.2.mem ((c.tc : Thread Cert.PlainFfnPIdeal.nD Cert.PlainFfnPIdeal.τ).loc Cert.PlainFfnPIdeal.main_v67) = v1 c
          ∧ r.2.mem ((c.tc : Thread Cert.PlainFfnPIdeal.nD Cert.PlainFfnPIdeal.τ).loc Cert.PlainFfnPIdeal.main_arg0) = m' ((c.tc : Thread Cert.PlainFfnPIdeal.nD Cert.PlainFfnPIdeal.τ).loc Cert.PlainFfnPIdeal.main_arg0)
          ∧ r.2.mem ((c.tc : Thread Cert.PlainFfnPIdeal.nD Cert.PlainFfnPIdeal.τ).loc Cert.PlainFfnPIdeal.main_arg1) = m' ((c.tc : Thread Cert.PlainFfnPIdeal.nD Cert.PlainFfnPIdeal.τ).loc Cert.PlainFfnPIdeal.main_arg1)
          ∧ r.2.mem ((c.tc : Thread Cert.PlainFfnPIdeal.nD Cert.PlainFfnPIdeal.τ).loc Cert.PlainFfnPIdeal.main_arg2) = m' ((c.tc : Thread Cert.PlainFfnPIdeal.nD Cert.PlainFfnPIdeal.τ).loc Cert.PlainFfnPIdeal.main_arg2)
          ∧ r.2.mem ((c.tc : Thread Cert.PlainFfnPIdeal.nD Cert.PlainFfnPIdeal.τ).loc Cert.PlainFfnPIdeal.main_arg3) = m' ((c.tc : Thread Cert.PlainFfnPIdeal.nD Cert.PlainFfnPIdeal.τ).loc Cert.PlainFfnPIdeal.main_arg3)
          ∧ r.2.mem ((c.tc : Thread Cert.PlainFfnPIdeal.nD Cert.PlainFfnPIdeal.τ).loc Cert.PlainFfnPIdeal.main_arg4) = m' ((c.tc : Thread Cert.PlainFfnPIdeal.nD Cert.PlainFfnPIdeal.τ).loc Cert.PlainFfnPIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hPlainFfnIdeal : Cert.PlainFfnIdeal.Facts) (hDown : Cert.Down.Facts) (hDownIdeal : Cert.DownIdeal.Facts) (hPlainDownIdeal : Cert.PlainDownIdeal.Facts) (hProj : Cert.Proj.Facts) (hProjIdeal : Cert.ProjIdeal.Facts) (hPlainProjIdeal : Cert.PlainProjIdeal.Facts) (hMix : Cert.Mix.Facts) (hMixIdeal : Cert.MixIdeal.Facts) (hPlainMixIdeal : Cert.PlainMixIdeal.Facts) (hMixS : Cert.MixS.Facts) (hMixSIdeal : Cert.MixSIdeal.Facts) (hPlainMixSIdeal : Cert.PlainMixSIdeal.Facts) (hDownP : Cert.DownP.Facts) (hDownPIdeal : Cert.DownPIdeal.Facts) (hPlainDownPIdeal : Cert.PlainDownPIdeal.Facts) (hFfnP : Cert.FfnP.Facts) (hFfnPIdeal : Cert.FfnPIdeal.Facts) (hPlainFfnPIdeal : Cert.PlainFfnPIdeal.Facts) (hPre_lb_bounded : Cert.Pre_lb_bounded.Facts),
    quiescent_Kernel (hKernel := hKernel)
    ∧ quiescent_KernelIdeal (hKernelIdeal := hKernelIdeal)
    ∧ quiescent_KernelIdeal_pre_lb_bounded (hKernelIdeal := hKernelIdeal) (hPre_lb_bounded := hPre_lb_bounded)
    ∧ quiescent_ReferenceIdeal (hReferenceIdeal := hReferenceIdeal)
    ∧ quiescent_ReferenceIdeal_pre_lb_bounded (hReferenceIdeal := hReferenceIdeal) (hPre_lb_bounded := hPre_lb_bounded)
    ∧ quiescent_Ffn (hFfn := hFfn)
    ∧ quiescent_FfnIdeal (hFfnIdeal := hFfnIdeal)
    ∧ quiescent_PlainFfnIdeal (hPlainFfnIdeal := hPlainFfnIdeal)
    ∧ quiescent_Down (hDown := hDown)
    ∧ quiescent_DownIdeal (hDownIdeal := hDownIdeal)
    ∧ quiescent_PlainDownIdeal (hPlainDownIdeal := hPlainDownIdeal)
    ∧ quiescent_Proj (hProj := hProj)
    ∧ quiescent_ProjIdeal (hProjIdeal := hProjIdeal)
    ∧ quiescent_PlainProjIdeal (hPlainProjIdeal := hPlainProjIdeal)
    ∧ quiescent_Mix (hMix := hMix)
    ∧ quiescent_MixIdeal (hMixIdeal := hMixIdeal)
    ∧ quiescent_PlainMixIdeal (hPlainMixIdeal := hPlainMixIdeal)
    ∧ quiescent_MixS (hMixS := hMixS)
    ∧ quiescent_MixSIdeal (hMixSIdeal := hMixSIdeal)
    ∧ quiescent_PlainMixSIdeal (hPlainMixSIdeal := hPlainMixSIdeal)
    ∧ quiescent_DownP (hDownP := hDownP)
    ∧ quiescent_DownPIdeal (hDownPIdeal := hDownPIdeal)
    ∧ quiescent_PlainDownPIdeal (hPlainDownPIdeal := hPlainDownPIdeal)
    ∧ quiescent_FfnP (hFfnP := hFfnP)
    ∧ quiescent_FfnPIdeal (hFfnPIdeal := hFfnPIdeal)
    ∧ quiescent_PlainFfnPIdeal (hPlainFfnPIdeal := hPlainFfnPIdeal)
    ∧ preserves_Kernel_KernelIdeal
    ∧ algebraic_KernelIdeal_ReferenceIdeal_pre_lb_bounded (hKernelIdeal := hKernelIdeal) (hReferenceIdeal := hReferenceIdeal) (hPre_lb_bounded := hPre_lb_bounded)
    ∧ preserves_Ffn_FfnIdeal
    ∧ algebraic_FfnIdeal_PlainFfnIdeal (hFfnIdeal := hFfnIdeal) (hPlainFfnIdeal := hPlainFfnIdeal)
    ∧ preserves_Down_DownIdeal
    ∧ algebraic_DownIdeal_PlainDownIdeal (hDownIdeal := hDownIdeal) (hPlainDownIdeal := hPlainDownIdeal)
    ∧ preserves_Proj_ProjIdeal
    ∧ algebraic_ProjIdeal_PlainProjIdeal (hProjIdeal := hProjIdeal) (hPlainProjIdeal := hPlainProjIdeal)
    ∧ preserves_Mix_MixIdeal
    ∧ algebraic_MixIdeal_PlainMixIdeal (hMixIdeal := hMixIdeal) (hPlainMixIdeal := hPlainMixIdeal)
    ∧ preserves_MixS_MixSIdeal
    ∧ algebraic_MixSIdeal_PlainMixSIdeal (hMixSIdeal := hMixSIdeal) (hPlainMixSIdeal := hPlainMixSIdeal)
    ∧ preserves_DownP_DownPIdeal
    ∧ algebraic_DownPIdeal_PlainDownPIdeal (hDownPIdeal := hDownPIdeal) (hPlainDownPIdeal := hPlainDownPIdeal)
    ∧ preserves_FfnP_FfnPIdeal
    ∧ algebraic_FfnPIdeal_PlainFfnPIdeal (hFfnPIdeal := hFfnPIdeal) (hPlainFfnPIdeal := hPlainFfnPIdeal)
-- ==== Pre_lb_bounded.lean ====
abbrev S1024x9216 : Shape := ⟨2, ![1024, 9216]⟩
abbrev S2x2048 : Shape := ⟨2, ![2, 2048]⟩
abbrev S1x2048 : Shape := ⟨2, ![1, 2048]⟩
abbrev S1x128x16x128x128 : Shape := ⟨5, ![1, 128, 16, 128, 128]⟩
abbrev S_ : Shape := ⟨0, ![]⟩

class Facts : Prop where
  bcast_S_S2x2048 : S_.BroadcastsInDim S2x2048 (![] : Fin 0 → Fin S2x2048.rank)

variable [Facts]

def fn {F : FTy → Type} [FloatOps F] (main_arg0 : FVec F S1024x9216 .f32) (main_arg1 : FVec F S2x2048 .f32) (main_arg2 : FVec F S1x2048 .f32) (main_arg3 : FVec F S1x128x16x128x128 .f32) : IVec S2x2048 1 :=
  let main_v0 : FVec F S2x2048 .f32 := Host.absf main_arg1
  let main_cst : FVec F S_ .f32 := constant S_ .f32 0x40800000#32
  let main_v1 : FVec F S2x2048 .f32 := broadcastInDim S2x2048 ![] bcast_S_S2x2048 main_cst
  let main_v2 : IVec S2x2048 1 := cmpf .ole main_v0 main_v1
  main_v2
-- ==== Kernel.lean ====
abbrev S1024x9216 : Shape := ⟨2, ![1024, 9216]⟩
abbrev S2x2048 : Shape := ⟨2, ![2, 2048]⟩
abbrev S1x2048 : Shape := ⟨2, ![1, 2048]⟩
abbrev S1x128x16x128x128 : Shape := ⟨5, ![1, 128, 16, 128, 128]⟩
abbrev S2048 : Shape := ⟨1, ![2048]⟩
abbrev S128x16x128x128 : Shape := ⟨4, ![128, 16, 128, 128]⟩
abbrev S1024x2048 : Shape := ⟨2, ![1024, 2048]⟩
abbrev S128x512 : Shape := ⟨2, ![128, 512]⟩
abbrev S2x512 : Shape := ⟨2, ![2, 512]⟩
abbrev S1x512 : Shape := ⟨2, ![1, 512]⟩
abbrev S16x4x128x128 : Shape := ⟨4, ![16, 4, 128, 128]⟩
abbrev S512 : Shape := ⟨1, ![512]⟩
abbrev S128x128 : Shape := ⟨2, ![128, 128]⟩
abbrev S1x128 : Shape := ⟨2, ![1, 128]⟩
abbrev S128x384 : Shape := ⟨2, ![128, 384]⟩
abbrev S16x8x128 : Shape := ⟨3, ![16, 8, 128]⟩
abbrev S16x1x128 : Shape := ⟨3, ![16, 1, 128]⟩
abbrev S1x1x128x128 : Shape := ⟨4, ![1, 1, 128, 128]⟩
abbrev S128x2048 : Shape := ⟨2, ![128, 2048]⟩
abbrev S8x128 : Shape := ⟨2, ![8, 128]⟩
abbrev S384x128 : Shape := ⟨2, ![384, 128]⟩
abbrev S128x1 : Shape := ⟨2, ![128, 1]⟩
abbrev S128 : Shape := ⟨1, ![128]⟩

abbrev nBuf : Space → Nat
  | .hbm => 9
  | .vmem => 18
  | .smem => 0
  | _ => 0

abbrev bufTy : (tb : Table) → Fin (tcTables nBuf tb) → BufTy
  | .hbm, ⟨0, _⟩ => ⟨S1024x9216, .f32⟩
  | .hbm, ⟨1, _⟩ => ⟨S2x2048, .f32⟩
  | .hbm, ⟨2, _⟩ => ⟨S1x2048, .f32⟩
  | .hbm, ⟨3, _⟩ => ⟨S1x128x16x128x128, .f32⟩
  | .hbm, ⟨4, _⟩ => ⟨S2048, .f32⟩
  | .hbm, ⟨5, _⟩ => ⟨S128x16x128x128, .f32⟩
  | .hbm, ⟨6, _⟩ => ⟨S1x2048, .f32⟩
  | .hbm, ⟨7, _⟩ => ⟨S1024x2048, .bf16⟩
  | .hbm, ⟨8, _⟩ => ⟨S128x16x128x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S2x512, .f32⟩
  | .local _ .vmem, ⟨9, _⟩ => ⟨S2x512, .f32⟩
  | .local _ .vmem, ⟨10, _⟩ => ⟨S1x512, .f32⟩
  | .local _ .vmem, ⟨11, _⟩ => ⟨S1x512, .f32⟩
  | .local _ .vmem, ⟨12, _⟩ => ⟨S16x4x128x128, .f32⟩
  | .local _ .vmem, ⟨13, _⟩ => ⟨S16x4x128x128, .f32⟩
  | .local _ .vmem, ⟨14, _⟩ => ⟨S128x512, .bf16⟩
  | .local _ .vmem, ⟨15, _⟩ => ⟨S128x512, .bf16⟩
  | .local _ .vmem, ⟨16, _⟩ => ⟨S16x4x128x128, .f32⟩
  | .local _ .vmem, ⟨17, _⟩ => ⟨S16x4x128x128, .f32⟩
  | _, _ => ⟨S1024x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S16x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S1024x9216 : Shape := ⟨2, ![1024, 9216]⟩
abbrev S2x2048 : Shape := ⟨2, ![2, 2048]⟩
abbrev S1x2048 : Shape := ⟨2, ![1, 2048]⟩
abbrev S1x128x16x128x128 : Shape := ⟨5, ![1, 128, 16, 128, 128]⟩
abbrev S_ : Shape := ⟨0, ![]⟩
abbrev S2048 : Shape := ⟨1, ![2048]⟩
abbrev S1024x8192 : Shape := ⟨2, ![1024, 8192]⟩
abbrev S128x8x8192 : Shape := ⟨3, ![128, 8, 8192]⟩
abbrev S128x8x2048 : Shape := ⟨3, ![128, 8, 2048]⟩
abbrev S1x1x2048 : Shape := ⟨3, ![1, 1, 2048]⟩
abbrev S128x8x16x128 : Shape := ⟨4, ![128, 8, 16, 128]⟩
abbrev S128x16x128x128 : Shape := ⟨4, ![128, 16, 128, 128]⟩
abbrev S8x8 : Shape := ⟨2, ![8, 8]⟩
abbrev S1x8x8x1x1 : Shape := ⟨5, ![1, 8, 8, 1, 1]⟩
abbrev S128x8x1x16x128 : Shape := ⟨5, ![128, 8, 1, 16, 128]⟩
abbrev S128x1x8x16x128 : Shape := ⟨5, ![128, 1, 8, 16, 128]⟩
abbrev S128x8x8x16x128 : Shape := ⟨5, ![128, 8, 8, 16, 128]⟩
abbrev S128x8x8x16 : Shape := ⟨4, ![128, 8, 8, 16]⟩
abbrev S128x16x128x8 : Shape := ⟨4, ![128, 16, 128, 8]⟩
abbrev S128x1x16x128 : Shape := ⟨4, ![128, 1, 16, 128]⟩
abbrev S128x16x128 : Shape := ⟨3, ![128, 16, 128]⟩
abbrev S128x16x128x1 : Shape := ⟨4, ![128, 16, 128, 1]⟩
abbrev S16x128 : Shape := ⟨2, ![16, 128]⟩
abbrev S128x8x16 : Shape := ⟨3, ![128, 8, 16]⟩
abbrev S128x8x16x1 : Shape := ⟨4, ![128, 8, 16, 1]⟩
abbrev S1x1x16x128 : Shape := ⟨4, ![1, 1, 16, 128]⟩
abbrev S1024x2048 : Shape := ⟨2, ![1024, 2048]⟩

abbrev nBuf : Space → Nat
  | .hbm => 144
  | .vmem => 0
  | .smem => 0
  | _ => 0

abbrev hbmTy0_0 (i : Nat) : BufTy := match i % 128 with
  | 0 => ⟨S1024x9216, .f32⟩
  | 1 => ⟨S2x2048, .f32⟩
  | 2 => ⟨S1x2048, .f32⟩
  | 3 => ⟨S1x128x16x128x128, .f32⟩
  | 4 => ⟨S_, .f32⟩
  | 5 => ⟨S2048, .f32⟩
  | 6 => ⟨S_, .f32⟩
  | 7 => ⟨S2048, .f32⟩
  | 8 => ⟨S2048, .f32⟩
  | 9 => ⟨S1x2048, .f32⟩
  | 10 => ⟨S2x2048, .f32⟩
  | 11 => ⟨S2x2048, .f32⟩
  | 12 => ⟨S2x2048, .f32⟩
  | 13 => ⟨S_, .f32⟩
  | 14 => ⟨S2048, .f32⟩
  | 15 => ⟨S1x2048, .f32⟩
  | 16 => ⟨S2x2048, .f32⟩
  | 17 => ⟨S2x2048, .f32⟩
  | 18 => ⟨S_, .f32⟩
  | 19 => ⟨S_, .f32⟩
  | 20 => ⟨S2x2048, .f32⟩
  | 21 => ⟨S1x2048, .f32⟩
  | 22 => ⟨S1x2048, .f32⟩
  | 23 => ⟨S2048, .f32⟩
  | 24 => ⟨S1x2048, .f32⟩
  | 25 => ⟨S1x2048, .f32⟩
  | 26 => ⟨S2048, .f32⟩
  | 27 => ⟨S1024x8192, .f32⟩
  | 28 => ⟨S128x8x8192, .f32⟩
  | 29 => ⟨S128x8x2048, .f32⟩
  | 30 => ⟨S128x8x2048, .f32⟩
  | 31 => ⟨S128x8x2048, .f32⟩
  | 32 => ⟨S128x8x2048, .f32⟩
  | 33 => ⟨S_, .f32⟩
  | 34 => ⟨S2048, .f32⟩
  | 35 => ⟨S2048, .f32⟩
  | 36 => ⟨S128x8x2048, .f32⟩
  | 37 => ⟨S128x8x2048, .f32⟩
  | 38 => ⟨S_, .f32⟩
  | 39 => ⟨S128x8x2048, .f32⟩
  | 40 => ⟨S128x8x2048, .f32⟩
  | 41 => ⟨S_, .f32⟩
  | 42 => ⟨S128x8x2048, .f32⟩
  | 43 => ⟨S128x8x2048, .f32⟩
  | 44 => ⟨S1x1x2048, .f32⟩
  | 45 => ⟨S128x8x2048, .f32⟩
  | 46 => ⟨S128x8x2048, .f32⟩
  | 47 => ⟨S1x1x2048, .f32⟩
  | 48 => ⟨S128x8x2048, .f32⟩
  | 49 => ⟨S128x8x2048, .f32⟩
  | 50 => ⟨S128x8x16x128, .f32⟩
  | 51 => ⟨S_, .f32⟩
  | 52 => ⟨S128x8x2048, .f32⟩
  | 53 => ⟨S128x8x2048, .f32⟩
  | 54 => ⟨S128x8x16x128, .f32⟩
  | 55 => ⟨S128x8x16x128, .f32⟩
  | 56 => ⟨S128x8x2048, .f32⟩
  | 57 => ⟨S128x8x16x128, .f32⟩
  | 58 => ⟨S128x16x128x128, .f32⟩
  | 59 => ⟨S_, .f32⟩
  | 60 => ⟨S_, .f32⟩
  | 61 => ⟨S128x8x16x128, .f32⟩
  | 62 => ⟨S_, .i1⟩
  | 63 => ⟨S8x8, .i1⟩
  | 64 => ⟨S8x8, .i32⟩
  | 65 => ⟨S_, .i32⟩
  | 66 => ⟨S8x8, .i32⟩
  | 67 => ⟨S8x8, .i32⟩
  | 68 => ⟨S8x8, .i32⟩
  | 69 => ⟨S8x8, .i1⟩
  | 70 => ⟨S_, .i1⟩
  | 71 => ⟨S8x8, .i1⟩
  | 72 => ⟨S8x8, .i1⟩
  | 73 => ⟨S1x8x8x1x1, .i1⟩
  | 74 => ⟨S128x8x1x16x128, .f32⟩
  | 75 => ⟨S128x1x8x16x128, .f32⟩
  | 76 => ⟨S128x8x8x16x128, .f32⟩
  | 77 => ⟨S128x8x8x16x128, .f32⟩
  | 78 => ⟨S128x8x8x16x128, .f32⟩
  | 79 => ⟨S_, .f32⟩
  | 80 => ⟨S_, .f32⟩
  | 81 => ⟨S128x8x8x16x128, .i1⟩
  | 82 => ⟨S128x8x8x16x128, .f32⟩
  | 83 => ⟨S128x8x8x16x128, .f32⟩
  | 84 => ⟨S128x8x8x16x128, .f32⟩
  | 85 => ⟨S128x8x1x16x128, .f32⟩
  | 86 => ⟨S128x1x8x16x128, .f32⟩
  | 87 => ⟨S128x8x8x16x128, .f32⟩
  | 88 => ⟨S128x8x8x16x128, .f32⟩
  | 89 => ⟨S128x8x8x16x128, .f32⟩
  | 90 => ⟨S128x8x8x16x128, .f32⟩
  | 91 => ⟨S_, .f32⟩
  | 92 => ⟨S128x8x8x16, .f32⟩
  | 93 => ⟨S128x16x128x8, .f32⟩
  | 94 => ⟨S128x8x16x128, .f32⟩
  | 95 => ⟨S128x8x16x128, .f32⟩
  | 96 => ⟨S128x8x16x128, .f32⟩
  | 97 => ⟨S128x16x128x8, .f32⟩
  | 98 => ⟨S128x8x16x128, .f32⟩
  | 99 => ⟨S128x8x16x128, .f32⟩
  | 100 => ⟨S128x1x16x128, .f32⟩
  | 101 => ⟨S128x16x128, .f32⟩
  | 102 => ⟨S128x16x128, .f32⟩
  | 103 => ⟨S128x16x128x1, .f32⟩
  | 104 => ⟨S128x16x128x128, .f32⟩
  | 105 => ⟨S128x16x128x128, .f32⟩
  | 106 => ⟨S128x1x16x128, .f32⟩
  | 107 => ⟨S128x8x16x128, .f32⟩
  | 108 => ⟨S128x8x16x128, .f32⟩
  | 109 => ⟨S128x8x16x128, .f32⟩
  | 110 => ⟨S128x8x16x128, .f32⟩
  | 111 => ⟨S128x16x128x128, .f32⟩
  | 112 => ⟨S128x16x128x128, .f32⟩
  | 113 => ⟨S2048, .f32⟩
  | 114 => ⟨S16x128, .f32⟩
  | 115 => ⟨S128x8x16x128, .f32⟩
  | 116 => ⟨S_, .f32⟩
  | 117 => ⟨S128x8x16, .f32⟩
  | 118 => ⟨S128x8x16x1, .f32⟩
  | 119 => ⟨S_, .f32⟩
  | 120 => ⟨S128x8x16x1, .f32⟩
  | 121 => ⟨S128x8x16x1, .f32⟩
  | 122 => ⟨S_, .f32⟩
  | 123 => ⟨S128x8x16x1, .f32⟩
  | 124 => ⟨S128x8x16x1, .f32⟩
  | 125 => ⟨S128x8x16x1, .f32⟩
  | 126 => ⟨S128x8x16x128, .f32⟩
  | 127 => ⟨S128x8x16x128, .f32⟩
  | _ => ⟨S1024x9216, .f32⟩

abbrev hbmTy0_1 (i : Nat) : BufTy := match i % 128 with
  | 0 => ⟨S1x1x16x128, .f32⟩
  | 1 => ⟨S128x8x16x128, .f32⟩
  | 2 => ⟨S128x8x16x128, .f32⟩
  | 3 => ⟨S128x8x2048, .f32⟩
  | 4 => ⟨S128x8x2048, .f32⟩
  | 5 => ⟨S128x8x2048, .f32⟩
  | 6 => ⟨S_, .f32⟩
  | 7 => ⟨S128x8x2048, .f32⟩
  | 8 => ⟨S128x8x2048, .f32⟩
  | 9 => ⟨S_, .f32⟩
  | 10 => ⟨S128x8x2048, .f32⟩
  | 11 => ⟨S128x8x2048, .f32⟩
  | 12 => ⟨S128x8x2048, .f32⟩
  | 13 => ⟨S128x8x2048, .f32⟩
  | 14 => ⟨S1024x2048, .f32⟩
  | 15 => ⟨S1024x2048, .bf16⟩
  | _ => ⟨S1024x9216, .f32⟩

abbrev hbmTy (i : Nat) : BufTy := match i / 128 with
  | 0 => hbmTy0_0 i
  | 1 => hbmTy0_1 i
  | _ => ⟨S1024x9216, .f32⟩

abbrev bufTy : (tb : Table) → Fin (tcTables nBuf tb) → BufTy
  | .hbm, ⟨i, _⟩ => hbmTy i
  | _, _ => ⟨S1024x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call1_call0_cst : Ref sig .tc := ⟨.hbm, 59, rfl⟩
abbrev main_call1_call0_v0 : Ref sig .tc := ⟨.hbm, 60, rfl⟩
abbrev main_v46 : Ref sig .tc := ⟨.hbm, 61, rfl⟩
abbrev main_c : Ref sig .tc := ⟨.hbm, 62, rfl⟩
abbrev main_v47 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_0 : Ref sig .tc := ⟨.hbm, 70, rfl⟩
abbrev main_call2_v5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_7 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_8 : Ref sig .tc := ⟨.hbm, 116, rfl⟩
abbrev main_v87 : Ref sig .tc := ⟨.hbm, 117, rfl⟩
abbrev main_v88 : Ref sig .tc := ⟨.hbm, 118, rfl⟩
abbrev main_cst_9 : Ref sig .tc := ⟨.hbm, 119, rfl⟩
abbrev main_v89 : Ref sig .tc := ⟨.hbm, 120, rfl⟩
abbrev main_v90 : Ref sig .tc := ⟨.hbm, 121, rfl⟩
abbrev main_cst_10 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_call4_v0 : Ref sig .tc := ⟨.hbm, 132, rfl⟩
abbrev main_call4_v1 : Ref sig .tc := ⟨.hbm, 133, rfl⟩
abbrev main_call4_cst : Ref sig .tc := ⟨.hbm, 134, rfl⟩
abbrev main_call4_v2 : Ref sig .tc := ⟨.hbm, 135, rfl⟩
abbrev main_call4_v3 : Ref sig .tc := ⟨.hbm, 136, rfl⟩
abbrev main_call4_cst_0 : Ref sig .tc := ⟨.hbm, 137, rfl⟩
abbrev main_call4_v4 : Ref sig .tc := ⟨.hbm, 138, rfl⟩
abbrev main_call4_v5 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]
-- ==== Ffn.lean ====
abbrev S1024x2048 : Shape := ⟨2, ![1024, 2048]⟩
abbrev S1x2048 : Shape := ⟨2, ![1, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S1x128x2x5632 : Shape := ⟨4, ![1, 128, 2, 5632]⟩
abbrev S128x2x5632 : Shape := ⟨3, ![128, 2, 5632]⟩
abbrev S_ : Shape := ⟨0, ![]⟩
abbrev S128x6x5632 : Shape := ⟨3, ![128, 6, 5632]⟩
abbrev S128x1x5632 : Shape := ⟨3, ![128, 1, 5632]⟩
abbrev S128x8x5632 : Shape := ⟨3, ![128, 8, 5632]⟩
abbrev S1024x5632 : Shape := ⟨2, ![1024, 5632]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S2x512x5632 : Shape := ⟨3, ![2, 512, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S512x512 : Shape := ⟨2, ![512, 512]⟩
abbrev S1x512x512 : Shape := ⟨3, ![1, 512, 512]⟩
abbrev S11x8x512 : Shape := ⟨3, ![11, 8, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S3x256 : Shape := ⟨2, ![3, 256]⟩
abbrev S1x256 : Shape := ⟨2, ![1, 256]⟩
abbrev S1x512x256 : Shape := ⟨3, ![1, 512, 256]⟩

abbrev nBuf : Space → Nat
  | .hbm => 25
  | .vmem => 21
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S1x128x2x5632, .f32⟩
  | .hbm, ⟨6, _⟩ => ⟨S128x2x5632, .f32⟩
  | .hbm, ⟨7, _⟩ => ⟨S_, .f32⟩
  | .hbm, ⟨8, _⟩ => ⟨S128x6x5632, .f32⟩
  | .hbm, ⟨9, _⟩ => ⟨S128x1x5632, .f32⟩
  | .hbm, ⟨10, _⟩ => ⟨S_, .f32⟩
  | .hbm, ⟨11, _⟩ => ⟨S128x1x5632, .f32⟩
  | .hbm, ⟨12, _⟩ => ⟨S128x8x5632, .f32⟩
  | .hbm, ⟨13, _⟩ => ⟨S1024x5632, .f32⟩
  | .hbm, ⟨14, _⟩ => ⟨S128x8x5632, .f32⟩
  | .hbm, ⟨15, _⟩ => ⟨S1024x5632, .f32⟩
  | .hbm, ⟨16, _⟩ => ⟨S2048, .f32⟩
  | .hbm, ⟨17, _⟩ => ⟨S2048x11264, .f32⟩
  | .hbm, ⟨18, _⟩ => ⟨S2048x11264, .bf16⟩
  | .hbm, ⟨19, _⟩ => ⟨S3x5632, .f32⟩
  | .hbm, ⟨20, _⟩ => ⟨S5632, .f32⟩
  | .hbm, ⟨21, _⟩ => ⟨S1x2048, .f32⟩
  | .hbm, ⟨22, _⟩ => ⟨S1x5632, .f32⟩
  | .hbm, ⟨23, _⟩ => ⟨S1024x5632, .bf16⟩
  | .hbm, ⟨24, _⟩ => ⟨S2x512x5632, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S3x512, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S1x512x512, .f32⟩
  | .local _ .vmem, ⟨18, _⟩ => ⟨S1x512x512, .f32⟩
  | .local _ .vmem, ⟨19, _⟩ => ⟨S512x2048, .bf16⟩
  | .local _ .vmem, ⟨20, _⟩ => ⟨S11x8x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PlainFfnIdeal.lean ====
abbrev S1024x2048 : Shape := ⟨2, ![1024, 2048]⟩
abbrev S1x2048 : Shape := ⟨2, ![1, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S1x128x2x5632 : Shape := ⟨4, ![1, 128, 2, 5632]⟩
abbrev S128x8x2048 : Shape := ⟨3, ![128, 8, 2048]⟩
abbrev S2048 : Shape := ⟨1, ![2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S2048x11264 : Shape := ⟨2, ![2048, 11264]⟩
abbrev S128x8x11264 : Shape := ⟨3, ![128, 8, 11264]⟩
abbrev S128x8x5632 : Shape := ⟨3, ![128, 8, 5632]⟩
abbrev S128x2x5632 : Shape := ⟨3, ![128, 2, 5632]⟩
abbrev S128x10x5632 : Shape := ⟨3, ![128, 10, 5632]⟩
abbrev S5632 : Shape := ⟨1, ![5632]⟩
abbrev S3x5632 : Shape := ⟨2, ![3, 5632]⟩
abbrev S1x1x5632 : Shape := ⟨3, ![1, 1, 5632]⟩
abbrev S1024x5632 : Shape := ⟨2, ![1024, 5632]⟩
abbrev S2x512x5632 : Shape := ⟨3, ![2, 512, 5632]⟩

abbrev nBuf : Space → Nat
  | .hbm => 81
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S1x128x2x5632, .f32⟩
  | .hbm, ⟨6, _⟩ => ⟨S128x8x2048, .f32⟩
  | .hbm, ⟨7, _⟩ => ⟨S2048, .f32⟩
  | .hbm, ⟨8, _⟩ => ⟨S128x8x2048, .f32⟩
  | .hbm, ⟨9, _⟩ => ⟨S_, .f32⟩
  | .hbm, ⟨10, _⟩ => ⟨S128x8, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S128x8x1, .f32⟩
  | .hbm, ⟨19, _⟩ => ⟨S128x8x2048, .f32⟩
  | .hbm, ⟨20, _⟩ => ⟨S128x8x2048, .f32⟩
  | .hbm, ⟨21, _⟩ => ⟨S1x1x2048, .f32⟩
  | .hbm, ⟨22, _⟩ => ⟨S128x8x2048, .f32⟩
  | .hbm, ⟨23, _⟩ => ⟨S128x8x2048, .f32⟩
  | .hbm, ⟨24, _⟩ => ⟨S2048x11264, .f32⟩
  | .hbm, ⟨25, _⟩ => ⟨S128x8x11264, .f32⟩
  | .hbm, ⟨26, _⟩ => ⟨S128x8x5632, .f32⟩
  | .hbm, ⟨27, _⟩ => ⟨S128x8x5632, .f32⟩
  | .hbm, ⟨28, _⟩ => ⟨S128x2x5632, .f32⟩
  | .hbm, ⟨29, _⟩ => ⟨S128x10x5632, .f32⟩
  | .hbm, ⟨30, _⟩ => ⟨S5632, .f32⟩
  | .hbm, ⟨31, _⟩ => ⟨S3x5632, .f32⟩
  | .hbm, ⟨32, _⟩ => ⟨S1x5632, .f32⟩
  | .hbm, ⟨33, _⟩ => ⟨S5632, .f32⟩
  | .hbm, ⟨34, _⟩ => ⟨S128x8x5632, .f32⟩
  | .hbm, ⟨35, _⟩ => ⟨S1x1x5632, .f32⟩
  | .hbm, ⟨36, _⟩ => ⟨S128x8x5632, .f32⟩
  | .hbm, ⟨37, _⟩ => ⟨S128x8x5632, .f32⟩
  | .hbm, ⟨38, _⟩ => ⟨S_, .f32⟩
  | .hbm, ⟨39, _⟩ => ⟨S128x8x5632, .f32⟩
  | .hbm, ⟨40, _⟩ => ⟨S128x8x5632, .f32⟩
  | .hbm, ⟨41, _⟩ => ⟨S3x5632, .f32⟩
  | .hbm, ⟨42, _⟩ => ⟨S1x5632, .f32⟩
  | .hbm, ⟨43, _⟩ => ⟨S5632, .f32⟩
  | .hbm, ⟨44, _⟩ => ⟨S128x8x5632, .f32⟩
  | .hbm, ⟨45, _⟩ => ⟨S1x1x5632, .f32⟩
  | .hbm, ⟨46, _⟩ => ⟨S128x8x5632, .f32⟩
  | .hbm, ⟨47, _⟩ => ⟨S128x8x5632, .f32⟩
  | .hbm, ⟨48, _⟩ => ⟨S128x8x5632, .f32⟩
  | .hbm, ⟨49, _⟩ => ⟨S3x5632, .f32⟩
  | .hbm, ⟨50, _⟩ => ⟨S1x5632, .f32⟩
  | .hbm, ⟨51, _⟩ => ⟨S5632, .f32⟩
  | .hbm, ⟨52, _⟩ => ⟨S128x8x5632, .f32⟩
  | .hbm, ⟨53, _⟩ => ⟨S1x1x5632, .f32⟩
  | .hbm, ⟨54, _⟩ => ⟨S128x8x5632, .f32⟩
  | .hbm, ⟨55, _⟩ => ⟨S128x8x5632, .f32⟩
  | .hbm, ⟨56, _⟩ => ⟨S128x8x5632, .f32⟩
  | .hbm, ⟨57, _⟩ => ⟨S1x1x5632, .f32⟩
  | .hbm, ⟨58, _⟩ => ⟨S128x8x5632, .f32⟩
  | .hbm, ⟨59, _⟩ => ⟨S128x8x5632, .f32⟩
  | .hbm, ⟨60, _⟩ => ⟨S128x8x5632, .f32⟩
  | .hbm, ⟨61, _⟩ => ⟨S128x8x5632, .f32⟩
  | .hbm, ⟨62, _⟩ => ⟨S_, .f32⟩
  | .hbm, ⟨63, _⟩ => ⟨S128x8x5632, .f32⟩
  | .hbm, ⟨64, _⟩ => ⟨S128x8x5632, .f32⟩
  | .hbm, ⟨65, _⟩ => ⟨S128x8x5632, .f32⟩
  | .hbm, ⟨66, _⟩ => ⟨S_, .f32⟩
  | .hbm, ⟨67, _⟩ => ⟨S128x8x5632, .f32⟩
  | .hbm, ⟨68, _⟩ => ⟨S128x8x5632, .f32⟩
  | .hbm, ⟨69, _⟩ => ⟨S128x8x5632, .f32⟩
  | .hbm, ⟨70, _⟩ => ⟨S_, .f32⟩
  | .hbm, ⟨71, _⟩ => ⟨S128x8x5632, .f32⟩
  | .hbm, ⟨72, _⟩ => ⟨S128x8x5632, .f32⟩
  | .hbm, ⟨73, _⟩ => ⟨S_, .f32⟩
  | .hbm, ⟨74, _⟩ => ⟨S128x8x5632, .f32⟩
  | .hbm, ⟨75, _⟩ => ⟨S128x8x5632, .f32⟩
  | .hbm, ⟨76, _⟩ => ⟨S128x8x5632, .f32⟩
  | .hbm, ⟨77, _⟩ => ⟨S128x8x5632, .f32⟩
  | .hbm, ⟨78, _⟩ => ⟨S1024x5632, .f32⟩
  | .hbm, ⟨79, _⟩ => ⟨S1024x5632, .bf16⟩
  | .hbm, ⟨80, _⟩ => ⟨S2x512x5632, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_3 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_4 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_5 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== Down.lean ====
abbrev S1024x5632 : Shape := ⟨2, ![1024, 5632]⟩
abbrev S1x5632x2048 : Shape := ⟨3, ![1, 5632, 2048]⟩
abbrev S1x2048 : Shape := ⟨2, ![1, 2048]⟩
abbrev S1024x2048 : Shape := ⟨2, ![1024, 2048]⟩
abbrev S5632x2048 : Shape := ⟨2, ![5632, 2048]⟩
abbrev S2048 : Shape := ⟨1, ![2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S1024x5632, .bf16⟩
  | .hbm, ⟨1, _⟩ => ⟨S1x5632x2048, .f32⟩
  | .hbm, ⟨2, _⟩ => ⟨S1x2048, .f32⟩
  | .hbm, ⟨3, _⟩ => ⟨S1024x2048, .f32⟩
  | .hbm, ⟨4, _⟩ => ⟨S5632x2048, .f32⟩
  | .hbm, ⟨5, _⟩ => ⟨S5632x2048, .bf16⟩
  | .hbm, ⟨6, _⟩ => ⟨S2048, .f32⟩
  | .hbm, ⟨7, _⟩ => ⟨S1x2048, .f32⟩
  | .hbm, ⟨8, _⟩ => ⟨S1024x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownIdeal.lean ====
abbrev S1024x5632 : Shape := ⟨2, ![1024, 5632]⟩
abbrev S1x5632x2048 : Shape := ⟨3, ![1, 5632, 2048]⟩
abbrev S1x2048 : Shape := ⟨2, ![1, 2048]⟩
abbrev S1024x2048 : Shape := ⟨2, ![1024, 2048]⟩
abbrev S5632x2048 : Shape := ⟨2, ![5632, 2048]⟩
abbrev S2048 : Shape := ⟨1, ![2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S1024x5632, .bf16⟩
  | .hbm, ⟨1, _⟩ => ⟨S1x5632x2048, .f32⟩
  | .hbm, ⟨2, _⟩ => ⟨S1x2048, .f32⟩
  | .hbm, ⟨3, _⟩ => ⟨S1024x2048, .f32⟩
  | .hbm, ⟨4, _⟩ => ⟨S5632x2048, .f32⟩
  | .hbm, ⟨5, _⟩ => ⟨S5632x2048, .bf16⟩
  | .hbm, ⟨6, _⟩ => ⟨S2048, .f32⟩
  | .hbm, ⟨7, _⟩ => ⟨S1x2048, .f32⟩
  | .hbm, ⟨8, _⟩ => ⟨S1024x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PlainDownIdeal.lean ====
abbrev S1024x5632 : Shape := ⟨2, ![1024, 5632]⟩
abbrev S1x5632x2048 : Shape := ⟨3, ![1, 5632, 2048]⟩
abbrev S1x2048 : Shape := ⟨2, ![1, 2048]⟩
abbrev S1024x2048 : Shape := ⟨2, ![1024, 2048]⟩
abbrev S128x8x2048 : Shape := ⟨3, ![128, 8, 2048]⟩
abbrev S128x8x5632 : Shape := ⟨3, ![128, 8, 5632]⟩
abbrev S5632x2048 : Shape := ⟨2, ![5632, 2048]⟩
abbrev S2048 : Shape := ⟨1, ![2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S1x5632x2048, .f32⟩
  | .hbm, ⟨2, _⟩ => ⟨S1x2048, .f32⟩
  | .hbm, ⟨3, _⟩ => ⟨S1024x2048, .f32⟩
  | .hbm, ⟨4, _⟩ => ⟨S128x8x2048, .f32⟩
  | .hbm, ⟨5, _⟩ => ⟨S1024x5632, .f32⟩
  | .hbm, ⟨6, _⟩ => ⟨S128x8x5632, .f32⟩
  | .hbm, ⟨7, _⟩ => ⟨S5632x2048, .f32⟩
  | .hbm, ⟨8, _⟩ => ⟨S128x8x2048, .f32⟩
  | .hbm, ⟨9, _⟩ => ⟨S2048, .f32⟩
  | .hbm, ⟨10, _⟩ => ⟨S128x8x2048, .f32⟩
  | .hbm, ⟨11, _⟩ => ⟨S_, .f32⟩
  | .hbm, ⟨12, _⟩ => ⟨S128x8, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S_, .f32⟩
  | .hbm, ⟨18, _⟩ => ⟨S128x8x1, .f32⟩
  | .hbm, ⟨19, _⟩ => ⟨S128x8x1, .f32⟩
  | .hbm, ⟨20, _⟩ => ⟨S128x8x1, .f32⟩
  | .hbm, ⟨21, _⟩ => ⟨S128x8x2048, .f32⟩
  | .hbm, ⟨22, _⟩ => ⟨S128x8x2048, .f32⟩
  | .hbm, ⟨23, _⟩ => ⟨S1x1x2048, .f32⟩
  | .hbm, ⟨24, _⟩ => ⟨S128x8x2048, .f32⟩
  | .hbm, ⟨25, _⟩ => ⟨S128x8x2048, .f32⟩
  | .hbm, ⟨26, _⟩ => ⟨S128x8x2048, .f32⟩
  | .hbm, ⟨27, _⟩ => ⟨S1024x2048, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proj.lean ====
abbrev S8x256x2048 : Shape := ⟨3, ![8, 256, 2048]⟩
abbrev S1x2048 : Shape := ⟨2, ![1, 2048]⟩
abbrev S1x2048x2048 : Shape := ⟨3, ![1, 2048, 2048]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 6
  | .smem => 0
  | _ => 0

abbrev bufTy : (tb : Table) → Fin (tcTables nBuf tb) → BufTy
  | .hbm, ⟨0, _⟩ => ⟨S8x256x2048, .f32⟩
  | .hbm, ⟨1, _⟩ => ⟨S1x2048, .f32⟩
  | .hbm, ⟨2, _⟩ => ⟨S1x2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PlainProjIdeal.lean ====
abbrev S8x256x2048 : Shape := ⟨3, ![8, 256, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S8x256x2048, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x2048, .f32⟩
  | .hbm, ⟨16, _⟩ => ⟨S8x256x2048, .f32⟩
  | .hbm, ⟨17, _⟩ => ⟨S1x1x2048, .f32⟩
  | .hbm, ⟨18, _⟩ => ⟨S8x256x2048, .f32⟩
  | .hbm, ⟨19, _⟩ => ⟨S8x256x2048, .f32⟩
  | .hbm, ⟨20, _⟩ => ⟨S2048x2048, .f32⟩
  | .hbm, ⟨21, _⟩ => ⟨S8x256x2048, .f32⟩
  | .hbm, ⟨22, _⟩ => ⟨S2048x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Mix.lean ====
abbrev S8x2048x2048 : Shape := ⟨3, ![8, 2048, 2048]⟩
abbrev S1x2048 : Shape := ⟨2, ![1, 2048]⟩
abbrev S1x2048x16464 : Shape := ⟨3, ![1, 2048, 16464]⟩
abbrev S2048x16464 : Shape := ⟨2, ![2048, 16464]⟩
abbrev S2048x2048 : Shape := ⟨2, ![2048, 2048]⟩
abbrev S2048x4096 : Shape := ⟨2, ![2048, 4096]⟩
abbrev S2048x1024 : Shape := ⟨2, ![2048, 1024]⟩
abbrev S2048x8192 : Shape := ⟨2, ![2048, 8192]⟩
abbrev S2048x16384 : Shape := ⟨2, ![2048, 16384]⟩
abbrev S2048x64 : Shape := ⟨2, ![2048, 64]⟩
abbrev S2048x16 : Shape := ⟨2, ![2048, 16]⟩
abbrev S_ : Shape := ⟨0, ![]⟩
abbrev S2048x48 : Shape := ⟨2, ![2048, 48]⟩
abbrev S2048x128 : Shape := ⟨2, ![2048, 128]⟩
abbrev S16384x2048 : Shape := ⟨2, ![16384, 2048]⟩
abbrev S2048 : Shape := ⟨1, ![2048]⟩
abbrev S16384x7168 : Shape := ⟨2, ![16384, 7168]⟩
abbrev S16384x9216 : Shape := ⟨2, ![16384, 9216]⟩
abbrev S16384x128 : Shape := ⟨2, ![16384, 128]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 27
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x16464, .f32⟩
  | .hbm, ⟨3, _⟩ => ⟨S2048x16464, .f32⟩
  | .hbm, ⟨4, _⟩ => ⟨S2048x2048, .f32⟩
  | .hbm, ⟨5, _⟩ => ⟨S2048x2048, .bf16⟩
  | .hbm, ⟨6, _⟩ => ⟨S2048x4096, .f32⟩
  | .hbm, ⟨7, _⟩ => ⟨S2048x4096, .bf16⟩
  | .hbm, ⟨8, _⟩ => ⟨S2048x1024, .f32⟩
  | .hbm, ⟨9, _⟩ => ⟨S2048x1024, .bf16⟩
  | .hbm, ⟨10, _⟩ => ⟨S2048x8192, .f32⟩
  | .hbm, ⟨11, _⟩ => ⟨S2048x8192, .bf16⟩
  | .hbm, ⟨12, _⟩ => ⟨S2048x1024, .f32⟩
  | .hbm, ⟨13, _⟩ => ⟨S2048x1024, .bf16⟩
  | .hbm, ⟨14, _⟩ => ⟨S2048x16384, .bf16⟩
  | .hbm, ⟨15, _⟩ => ⟨S2048x64, .f32⟩
  | .hbm, ⟨16, _⟩ => ⟨S2048x16, .f32⟩
  | .hbm, ⟨17, _⟩ => ⟨S_, .f32⟩
  | .hbm, ⟨18, _⟩ => ⟨S2048x48, .f32⟩
  | .hbm, ⟨19, _⟩ => ⟨S2048x128, .f32⟩
  | .hbm, ⟨20, _⟩ => ⟨S2048x128, .bf16⟩
  | .hbm, ⟨21, _⟩ => ⟨S16384x2048, .f32⟩
  | .hbm, ⟨22, _⟩ => ⟨S2048, .f32⟩
  | .hbm, ⟨23, _⟩ => ⟨S1x2048, .f32⟩
  | .hbm, ⟨24, _⟩ => ⟨S16384x7168, .bf16⟩
  | .hbm, ⟨25, _⟩ => ⟨S16384x9216, .f32⟩
  | .hbm, ⟨26, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20_0 : Ref sig .tc := ⟨.hbm, 24, rfl⟩
abbrev main_v20_1 : Ref sig .tc := ⟨.hbm, 25, rfl⟩
abbrev main_v20_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .sge arg1 c7_i32_3
  let c16_i32 : BitVec 32 := 16#32
  let v9 : BitVec 1 := Scalar.cmpi .slt arg1 c16_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c6_i32 : BitVec 32 := 6#32
  let v1 : BitVec 32 := Scalar.maxsi c0_i32_0 v0
  let v2 : BitVec 32 := Scalar.minsi c6_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c8_i32 : BitVec 32 := 8#32
  let v1 : BitVec 32 := Scalar.maxsi c0_i32 v0
  let v2 : BitVec 32 := Scalar.minsi c8_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MixIdeal.lean ====
abbrev S8x2048x2048 : Shape := ⟨3, ![8, 2048, 2048]⟩
abbrev S1x2048 : Shape := ⟨2, ![1, 2048]⟩
abbrev S1x2048x16464 : Shape := ⟨3, ![1, 2048, 16464]⟩
abbrev S2048x16464 : Shape := ⟨2, ![2048, 16464]⟩
abbrev S2048x2048 : Shape := ⟨2, ![2048, 2048]⟩
abbrev S2048x4096 : Shape := ⟨2, ![2048, 4096]⟩
abbrev S2048x1024 : Shape := ⟨2, ![2048, 1024]⟩
abbrev S2048x8192 : Shape := ⟨2, ![2048, 8192]⟩
abbrev S2048x16384 : Shape := ⟨2, ![2048, 16384]⟩
abbrev S2048x64 : Shape := ⟨2, ![2048, 64]⟩
abbrev S2048x16 : Shape := ⟨2, ![2048, 16]⟩
abbrev S_ : Shape := ⟨0, ![]⟩
abbrev S2048x48 : Shape := ⟨2, ![2048, 48]⟩
abbrev S2048x128 : Shape := ⟨2, ![2048, 128]⟩
abbrev S16384x2048 : Shape := ⟨2, ![16384, 2048]⟩
abbrev S2048 : Shape := ⟨1, ![2048]⟩
abbrev S16384x7168 : Shape := ⟨2, ![16384, 7168]⟩
abbrev S16384x9216 : Shape := ⟨2, ![16384, 9216]⟩
abbrev S16384x128 : Shape := ⟨2, ![16384, 128]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 27
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x16464, .f32⟩
  | .hbm, ⟨3, _⟩ => ⟨S2048x16464, .f32⟩
  | .hbm, ⟨4, _⟩ => ⟨S2048x2048, .f32⟩
  | .hbm, ⟨5, _⟩ => ⟨S2048x2048, .bf16⟩
  | .hbm, ⟨6, _⟩ => ⟨S2048x4096, .f32⟩
  | .hbm, ⟨7, _⟩ => ⟨S2048x4096, .bf16⟩
  | .hbm, ⟨8, _⟩ => ⟨S2048x1024, .f32⟩
  | .hbm, ⟨9, _⟩ => ⟨S2048x1024, .bf16⟩
  | .hbm, ⟨10, _⟩ => ⟨S2048x8192, .f32⟩
  | .hbm, ⟨11, _⟩ => ⟨S2048x8192, .bf16⟩
  | .hbm, ⟨12, _⟩ => ⟨S2048x1024, .f32⟩
  | .hbm, ⟨13, _⟩ => ⟨S2048x1024, .bf16⟩
  | .hbm, ⟨14, _⟩ => ⟨S2048x16384, .bf16⟩
  | .hbm, ⟨15, _⟩ => ⟨S2048x64, .f32⟩
  | .hbm, ⟨16, _⟩ => ⟨S2048x16, .f32⟩
  | .hbm, ⟨17, _⟩ => ⟨S_, .f32⟩
  | .hbm, ⟨18, _⟩ => ⟨S2048x48, .f32⟩
  | .hbm, ⟨19, _⟩ => ⟨S2048x128, .f32⟩
  | .hbm, ⟨20, _⟩ => ⟨S2048x128, .bf16⟩
  | .hbm, ⟨21, _⟩ => ⟨S16384x2048, .f32⟩
  | .hbm, ⟨22, _⟩ => ⟨S2048, .f32⟩
  | .hbm, ⟨23, _⟩ => ⟨S1x2048, .f32⟩
  | .hbm, ⟨24, _⟩ => ⟨S16384x7168, .bf16⟩
  | .hbm, ⟨25, _⟩ => ⟨S16384x9216, .f32⟩
  | .hbm, ⟨26, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20_0 : Ref sig .tc := ⟨.hbm, 24, rfl⟩
abbrev main_v20_1 : Ref sig .tc := ⟨.hbm, 25, rfl⟩
abbrev main_v20_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .sge arg1 c7_i32_3
  let c16_i32 : BitVec 32 := 16#32
  let v9 : BitVec 1 := Scalar.cmpi .slt arg1 c16_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c6_i32 : BitVec 32 := 6#32
  let v1 : BitVec 32 := Scalar.maxsi c0_i32_0 v0
  let v2 : BitVec 32 := Scalar.minsi c6_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c8_i32 : BitVec 32 := 8#32
  let v1 : BitVec 32 := Scalar.maxsi c0_i32 v0
  let v2 : BitVec 32 := Scalar.minsi c8_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PlainMixIdeal.lean ====
abbrev S8x2048x2048 : Shape := ⟨3, ![8, 2048, 2048]⟩
abbrev S1x2048 : Shape := ⟨2, ![1, 2048]⟩
abbrev S1x2048x16464 : Shape := ⟨3, ![1, 2048, 16464]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x16464 : Shape := ⟨2, ![2048, 16464]⟩
abbrev S8x2048x16464 : Shape := ⟨3, ![8, 2048, 16464]⟩
abbrev S16384x16464 : Shape := ⟨2, ![16384, 16464]⟩
abbrev S16384x2048 : Shape := ⟨2, ![16384, 2048]⟩
abbrev S16384x512 : Shape := ⟨2, ![16384, 512]⟩
abbrev S16384x1024 : Shape := ⟨2, ![16384, 1024]⟩
abbrev S16384x16 : Shape := ⟨2, ![16384, 16]⟩
abbrev S16384x64 : Shape := ⟨2, ![16384, 64]⟩
abbrev S16384x7168 : Shape := ⟨2, ![16384, 7168]⟩
abbrev S16384x9216 : Shape := ⟨2, ![16384, 9216]⟩
abbrev S16384x48 : Shape := ⟨2, ![16384, 48]⟩
abbrev S16384x128 : Shape := ⟨2, ![16384, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x16464, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x16464, .f32⟩
  | .hbm, ⟨21, _⟩ => ⟨S8x2048x16464, .f32⟩
  | .hbm, ⟨22, _⟩ => ⟨S16384x16464, .f32⟩
  | .hbm, ⟨23, _⟩ => ⟨S16384x2048, .f32⟩
  | .hbm, ⟨24, _⟩ => ⟨S16384x512, .f32⟩
  | .hbm, ⟨25, _⟩ => ⟨S16384x512, .f32⟩
  | .hbm, ⟨26, _⟩ => ⟨S16384x1024, .f32⟩
  | .hbm, ⟨27, _⟩ => ⟨S16384x16, .f32⟩
  | .hbm, ⟨28, _⟩ => ⟨S16384x64, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x7168, .f32⟩
  | .hbm, ⟨36, _⟩ => ⟨S16384x7168, .bf16⟩
  | .hbm, ⟨37, _⟩ => ⟨S16384x9216, .f32⟩
  | .hbm, ⟨38, _⟩ => ⟨S_, .f32⟩
  | .hbm, ⟨39, _⟩ => ⟨S16384x48, .f32⟩
  | .hbm, ⟨40, _⟩ => ⟨S16384x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== MixS.lean ====
abbrev S128x8x2048 : Shape := ⟨3, ![128, 8, 2048]⟩
abbrev S1x2048 : Shape := ⟨2, ![1, 2048]⟩
abbrev S1x2048x16464 : Shape := ⟨3, ![1, 2048, 16464]⟩
abbrev S2048x16464 : Shape := ⟨2, ![2048, 16464]⟩
abbrev S2048x2048 : Shape := ⟨2, ![2048, 2048]⟩
abbrev S2048x4096 : Shape := ⟨2, ![2048, 4096]⟩
abbrev S2048x1024 : Shape := ⟨2, ![2048, 1024]⟩
abbrev S2048x8192 : Shape := ⟨2, ![2048, 8192]⟩
abbrev S2048x16384 : Shape := ⟨2, ![2048, 16384]⟩
abbrev S2048x64 : Shape := ⟨2, ![2048, 64]⟩
abbrev S2048x16 : Shape := ⟨2, ![2048, 16]⟩
abbrev S_ : Shape := ⟨0, ![]⟩
abbrev S2048x48 : Shape := ⟨2, ![2048, 48]⟩
abbrev S2048x128 : Shape := ⟨2, ![2048, 128]⟩
abbrev S1024x2048 : Shape := ⟨2, ![1024, 2048]⟩
abbrev S2048 : Shape := ⟨1, ![2048]⟩
abbrev S1024x7168 : Shape := ⟨2, ![1024, 7168]⟩
abbrev S1024x9216 : Shape := ⟨2, ![1024, 9216]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 27
  | .vmem => 11
  | .smem => 0
  | _ => 0

abbrev bufTy : (tb : Table) → Fin (tcTables nBuf tb) → BufTy
  | .hbm, ⟨0, _⟩ => ⟨S128x8x2048, .f32⟩
  | .hbm, ⟨1, _⟩ => ⟨S1x2048, .f32⟩
  | .hbm, ⟨2, _⟩ => ⟨S1x2048x16464, .f32⟩
  | .hbm, ⟨3, _⟩ => ⟨S2048x16464, .f32⟩
  | .hbm, ⟨4, _⟩ => ⟨S2048x2048, .f32⟩
  | .hbm, ⟨5, _⟩ => ⟨S2048x2048, .bf16⟩
  | .hbm, ⟨6, _⟩ => ⟨S2048x4096, .f32⟩
  | .hbm, ⟨7, _⟩ => ⟨S2048x4096, .bf16⟩
  | .hbm, ⟨8, _⟩ => ⟨S2048x1024, .f32⟩
  | .hbm, ⟨9, _⟩ => ⟨S2048x1024, .bf16⟩
  | .hbm, ⟨10, _⟩ => ⟨S2048x8192, .f32⟩
  | .hbm, ⟨11, _⟩ => ⟨S2048x8192, .bf16⟩
  | .hbm, ⟨12, _⟩ => ⟨S2048x1024, .f32⟩
  | .hbm, ⟨13, _⟩ => ⟨S2048x1024, .bf16⟩
  | .hbm, ⟨14, _⟩ => ⟨S2048x16384, .bf16⟩
  | .hbm, ⟨15, _⟩ => ⟨S2048x64, .f32⟩
  | .hbm, ⟨16, _⟩ => ⟨S2048x16, .f32⟩
  | .hbm, ⟨17, _⟩ => ⟨S_, .f32⟩
  | .hbm, ⟨18, _⟩ => ⟨S2048x48, .f32⟩
  | .hbm, ⟨19, _⟩ => ⟨S2048x128, .f32⟩
  | .hbm, ⟨20, _⟩ => ⟨S2048x128, .bf16⟩
  | .hbm, ⟨21, _⟩ => ⟨S1024x2048, .f32⟩
  | .hbm, ⟨22, _⟩ => ⟨S2048, .f32⟩
  | .hbm, ⟨23, _⟩ => ⟨S1x2048, .f32⟩
  | .hbm, ⟨24, _⟩ => ⟨S1024x7168, .bf16⟩
  | .hbm, ⟨25, _⟩ => ⟨S1024x9216, .f32⟩
  | .hbm, ⟨26, _⟩ => ⟨S1024x128, .f32⟩
  | .local _ .vmem, ⟨0, _⟩ => ⟨S1024x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x128, .f32⟩
  | .local _ .vmem, ⟨10, _⟩ => ⟨S1024x2048, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20_0 : Ref sig .tc := ⟨.hbm, 24, rfl⟩
abbrev main_v20_1 : Ref sig .tc := ⟨.hbm, 25, rfl⟩
abbrev main_v20_2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .sge arg1 c7_i32_3
  let c16_i32 : BitVec 32 := 16#32
  let v9 : BitVec 1 := Scalar.cmpi .slt arg1 c16_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c6_i32 : BitVec 32 := 6#32
  let v1 : BitVec 32 := Scalar.maxsi c0_i32_0 v0
  let v2 : BitVec 32 := Scalar.minsi c6_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c8_i32 : BitVec 32 := 8#32
  let v1 : BitVec 32 := Scalar.maxsi c0_i32 v0
  let v2 : BitVec 32 := Scalar.minsi c8_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== PlainMixSIdeal.lean ====
abbrev S128x8x2048 : Shape := ⟨3, ![128, 8, 2048]⟩
abbrev S1x2048 : Shape := ⟨2, ![1, 2048]⟩
abbrev S1x2048x16464 : Shape := ⟨3, ![1, 2048, 16464]⟩
abbrev S2048 : Shape := ⟨1, ![2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S2048x16464 : Shape := ⟨2, ![2048, 16464]⟩
abbrev S128x8x16464 : Shape := ⟨3, ![128, 8, 16464]⟩
abbrev S1024x16464 : Shape := ⟨2, ![1024, 16464]⟩
abbrev S1024x2048 : Shape := ⟨2, ![1024, 2048]⟩
abbrev S1024x512 : Shape := ⟨2, ![1024, 512]⟩
abbrev S1024x1024 : Shape := ⟨2, ![1024, 1024]⟩
abbrev S1024x16 : Shape := ⟨2, ![1024, 16]⟩
abbrev S1024x64 : Shape := ⟨2, ![1024, 64]⟩
abbrev S1024x7168 : Shape := ⟨2, ![1024, 7168]⟩
abbrev S1024x9216 : Shape := ⟨2, ![1024, 9216]⟩
abbrev S1024x48 : Shape := ⟨2, ![1024, 48]⟩
abbrev S1024x128 : Shape := ⟨2, ![1024, 128]⟩

abbrev nBuf : Space → Nat
  | .hbm => 41
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S1x2048, .f32⟩
  | .hbm, ⟨2, _⟩ => ⟨S1x2048x16464, .f32⟩
  | .hbm, ⟨3, _⟩ => ⟨S2048, .f32⟩
  | .hbm, ⟨4, _⟩ => ⟨S128x8x2048, .f32⟩
  | .hbm, ⟨5, _⟩ => ⟨S_, .f32⟩
  | .hbm, ⟨6, _⟩ => ⟨S128x8, .f32⟩
  | .hbm, ⟨7, _⟩ => ⟨S128x8x1, .f32⟩
  | .hbm, ⟨8, _⟩ => ⟨S_, .f32⟩
  | .hbm, ⟨9, _⟩ => ⟨S128x8x1, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S128x8x1, .f32⟩
  | .hbm, ⟨15, _⟩ => ⟨S128x8x2048, .f32⟩
  | .hbm, ⟨16, _⟩ => ⟨S128x8x2048, .f32⟩
  | .hbm, ⟨17, _⟩ => ⟨S1x1x2048, .f32⟩
  | .hbm, ⟨18, _⟩ => ⟨S128x8x2048, .f32⟩
  | .hbm, ⟨19, _⟩ => ⟨S128x8x2048, .f32⟩
  | .hbm, ⟨20, _⟩ => ⟨S2048x16464, .f32⟩
  | .hbm, ⟨21, _⟩ => ⟨S128x8x16464, .f32⟩
  | .hbm, ⟨22, _⟩ => ⟨S1024x16464, .f32⟩
  | .hbm, ⟨23, _⟩ => ⟨S1024x2048, .f32⟩
  | .hbm, ⟨24, _⟩ => ⟨S1024x512, .f32⟩
  | .hbm, ⟨25, _⟩ => ⟨S1024x512, .f32⟩
  | .hbm, ⟨26, _⟩ => ⟨S1024x1024, .f32⟩
  | .hbm, ⟨27, _⟩ => ⟨S1024x16, .f32⟩
  | .hbm, ⟨28, _⟩ => ⟨S1024x64, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S1024x7168, .f32⟩
  | .hbm, ⟨36, _⟩ => ⟨S1024x7168, .bf16⟩
  | .hbm, ⟨37, _⟩ => ⟨S1024x9216, .f32⟩
  | .hbm, ⟨38, _⟩ => ⟨S_, .f32⟩
  | .hbm, ⟨39, _⟩ => ⟨S1024x48, .f32⟩
  | .hbm, ⟨40, _⟩ => ⟨S1024x128, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== DownP.lean ====
abbrev S16384x5632 : Shape := ⟨2, ![16384, 5632]⟩
abbrev S1x5632x2048 : Shape := ⟨3, ![1, 5632, 2048]⟩
abbrev S1x2048 : Shape := ⟨2, ![1, 2048]⟩
abbrev S16384x2048 : Shape := ⟨2, ![16384, 2048]⟩
abbrev S5632x2048 : Shape := ⟨2, ![5632, 2048]⟩
abbrev S2048 : Shape := ⟨1, ![2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x5632, .bf16⟩
  | .hbm, ⟨1, _⟩ => ⟨S1x5632x2048, .f32⟩
  | .hbm, ⟨2, _⟩ => ⟨S1x2048, .f32⟩
  | .hbm, ⟨3, _⟩ => ⟨S16384x2048, .f32⟩
  | .hbm, ⟨4, _⟩ => ⟨S5632x2048, .f32⟩
  | .hbm, ⟨5, _⟩ => ⟨S5632x2048, .bf16⟩
  | .hbm, ⟨6, _⟩ => ⟨S2048, .f32⟩
  | .hbm, ⟨7, _⟩ => ⟨S1x2048, .f32⟩
  | .hbm, ⟨8, _⟩ => ⟨S16384x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PlainDownPIdeal.lean ====
abbrev S16384x5632 : Shape := ⟨2, ![16384, 5632]⟩
abbrev S1x5632x2048 : Shape := ⟨3, ![1, 5632, 2048]⟩
abbrev S1x2048 : Shape := ⟨2, ![1, 2048]⟩
abbrev S16384x2048 : Shape := ⟨2, ![16384, 2048]⟩
abbrev S8x2048x2048 : Shape := ⟨3, ![8, 2048, 2048]⟩
abbrev S8x2048x5632 : Shape := ⟨3, ![8, 2048, 5632]⟩
abbrev S5632x2048 : Shape := ⟨2, ![5632, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1x5632x2048, .f32⟩
  | .hbm, ⟨2, _⟩ => ⟨S1x2048, .f32⟩
  | .hbm, ⟨3, _⟩ => ⟨S16384x2048, .f32⟩
  | .hbm, ⟨4, _⟩ => ⟨S8x2048x2048, .f32⟩
  | .hbm, ⟨5, _⟩ => ⟨S16384x5632, .f32⟩
  | .hbm, ⟨6, _⟩ => ⟨S8x2048x5632, .f32⟩
  | .hbm, ⟨7, _⟩ => ⟨S5632x2048, .f32⟩
  | .hbm, ⟨8, _⟩ => ⟨S8x2048x2048, .f32⟩
  | .hbm, ⟨9, _⟩ => ⟨S2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S1x1x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== FfnP.lean ====
abbrev S16384x2048 : Shape := ⟨2, ![16384, 2048]⟩
abbrev S1x2048 : Shape := ⟨2, ![1, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S_ : Shape := ⟨0, ![]⟩
abbrev S8x128 : Shape := ⟨2, ![8, 128]⟩
abbrev S16384x5632 : Shape := ⟨2, ![16384, 5632]⟩
abbrev S16x8x5632 : Shape := ⟨3, ![16, 8, 5632]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S1x8x512 : Shape := ⟨3, ![1, 8, 512]⟩
abbrev S11x8x512 : Shape := ⟨3, ![11, 8, 512]⟩
abbrev S1024 : Shape := ⟨1, ![1024]⟩
abbrev S1024x1 : Shape := ⟨2, ![1024, 1]⟩
abbrev S8x512 : Shape := ⟨2, ![8, 512]⟩
abbrev S2048x256 : Shape := ⟨2, ![2048, 256]⟩
abbrev S1024x256 : Shape := ⟨2, ![1024, 256]⟩
abbrev S1x8x256 : Shape := ⟨3, ![1, 8, 256]⟩
abbrev S8x256 : Shape := ⟨2, ![8, 256]⟩
abbrev S1x256 : Shape := ⟨2, ![1, 256]⟩
abbrev S3x256 : Shape := ⟨2, ![3, 256]⟩

abbrev nBuf : Space → Nat
  | .hbm => 16
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S2048, .f32⟩
  | .hbm, ⟨6, _⟩ => ⟨S2048x11264, .f32⟩
  | .hbm, ⟨7, _⟩ => ⟨S2048x11264, .bf16⟩
  | .hbm, ⟨8, _⟩ => ⟨S3x5632, .f32⟩
  | .hbm, ⟨9, _⟩ => ⟨S5632, .f32⟩
  | .hbm, ⟨10, _⟩ => ⟨S_, .f32⟩
  | .hbm, ⟨11, _⟩ => ⟨S8x128, .f32⟩
  | .hbm, ⟨12, _⟩ => ⟨S1x2048, .f32⟩
  | .hbm, ⟨13, _⟩ => ⟨S1x5632, .f32⟩
  | .hbm, ⟨14, _⟩ => ⟨S16384x5632, .bf16⟩
  | .hbm, ⟨15, _⟩ => ⟨S16x8x5632, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S3x512, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S8x128, .f32⟩
  | .local _ .vmem, ⟨12, _⟩ => ⟨S8x128, .f32⟩
  | .local _ .vmem, ⟨13, _⟩ => ⟨S1024x512, .bf16⟩
  | .local _ .vmem, ⟨14, _⟩ => ⟨S1024x512, .bf16⟩
  | .local _ .vmem, ⟨15, _⟩ => ⟨S1x8x512, .f32⟩
  | .local _ .vmem, ⟨16, _⟩ => ⟨S1x8x512, .f32⟩
  | .local _ .vmem, ⟨17, _⟩ => ⟨S1024x2048, .bf16⟩
  | .local _ .vmem, ⟨18, _⟩ => ⟨S11x8x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_off1 (i : grid0.Coords) : Fin 3 → Nat :=
  let arg1 : BitVec 32 := BitVec.ofNat 32 (i 1).val
  let v162 : Index := Scalar.indexCast arg1
  let c0_63 : Index := 0#32
  let c0_64 : Index := 0#32
  ![v162.toNat, 0, 0]
def k0_off2 (i : grid0.Coords) : Fin 3 → Nat :=
  let arg1 : BitVec 32 := BitVec.ofNat 32 (i 1).val
  let v24 : Index := Scalar.indexCast arg1
  let c0_13 : Index := 0#32
  let c0_14 : Index := 0#32
  ![v24.toNat, 0, 0]
def k0_off3 (i : grid0.Coords) : Fin 3 → Nat :=
  let arg1 : BitVec 32 := BitVec.ofNat 32 (i 1).val
  let v96 : Index := Scalar.indexCast arg1
  let c0_40 : Index := 0#32
  let c256_41 : Index := 256#32
  ![v96.toNat, 0, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PlainFfnPIdeal.lean ====
abbrev S16384x2048 : Shape := ⟨2, ![16384, 2048]⟩
abbrev S1x2048 : Shape := ⟨2, ![1, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S8x2048x2048 : Shape := ⟨3, ![8, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x11264 : Shape := ⟨2, ![2048, 11264]⟩
abbrev S8x2048x11264 : Shape := ⟨3, ![8, 2048, 11264]⟩
abbrev S8x2048x5632 : Shape := ⟨3, ![8, 2048, 5632]⟩
abbrev S8x2x5632 : Shape := ⟨3, ![8, 2, 5632]⟩
abbrev S8x2050x5632 : Shape := ⟨3, ![8, 2050, 5632]⟩
abbrev S5632 : Shape := ⟨1, ![5632]⟩
abbrev S3x5632 : Shape := ⟨2, ![3, 5632]⟩
abbrev S1x1x5632 : Shape := ⟨3, ![1, 1, 5632]⟩
abbrev S16384x5632 : Shape := ⟨2, ![16384, 5632]⟩
abbrev S16x1024x5632 : Shape := ⟨3, ![16, 1024, 5632]⟩
abbrev S16x8x5632 : Shape := ⟨3, ![16, 8, 5632]⟩

abbrev nBuf : Space → Nat
  | .hbm => 82
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S8x2048x2048, .f32⟩
  | .hbm, ⟨6, _⟩ => ⟨S2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S2048x11264, .f32⟩
  | .hbm, ⟨24, _⟩ => ⟨S8x2048x11264, .f32⟩
  | .hbm, ⟨25, _⟩ => ⟨S8x2048x5632, .f32⟩
  | .hbm, ⟨26, _⟩ => ⟨S8x2048x5632, .f32⟩
  | .hbm, ⟨27, _⟩ => ⟨S_, .f32⟩
  | .hbm, ⟨28, _⟩ => ⟨S8x2x5632, .f32⟩
  | .hbm, ⟨29, _⟩ => ⟨S8x2050x5632, .f32⟩
  | .hbm, ⟨30, _⟩ => ⟨S5632, .f32⟩
  | .hbm, ⟨31, _⟩ => ⟨S3x5632, .f32⟩
  | .hbm, ⟨32, _⟩ => ⟨S1x5632, .f32⟩
  | .hbm, ⟨33, _⟩ => ⟨S5632, .f32⟩
  | .hbm, ⟨34, _⟩ => ⟨S8x2048x5632, .f32⟩
  | .hbm, ⟨35, _⟩ => ⟨S1x1x5632, .f32⟩
  | .hbm, ⟨36, _⟩ => ⟨S8x2048x5632, .f32⟩
  | .hbm, ⟨37, _⟩ => ⟨S8x2048x5632, .f32⟩
  | .hbm, ⟨38, _⟩ => ⟨S_, .f32⟩
  | .hbm, ⟨39, _⟩ => ⟨S8x2048x5632, .f32⟩
  | .hbm, ⟨40, _⟩ => ⟨S8x2048x5632, .f32⟩
  | .hbm, ⟨41, _⟩ => ⟨S3x5632, .f32⟩
  | .hbm, ⟨42, _⟩ => ⟨S1x5632, .f32⟩
  | .hbm, ⟨43, _⟩ => ⟨S5632, .f32⟩
  | .hbm, ⟨44, _⟩ => ⟨S8x2048x5632, .f32⟩
  | .hbm, ⟨45, _⟩ => ⟨S1x1x5632, .f32⟩
  | .hbm, ⟨46, _⟩ => ⟨S8x2048x5632, .f32⟩
  | .hbm, ⟨47, _⟩ => ⟨S8x2048x5632, .f32⟩
  | .hbm, ⟨48, _⟩ => ⟨S8x2048x5632, .f32⟩
  | .hbm, ⟨49, _⟩ => ⟨S3x5632, .f32⟩
  | .hbm, ⟨50, _⟩ => ⟨S1x5632, .f32⟩
  | .hbm, ⟨51, _⟩ => ⟨S5632, .f32⟩
  | .hbm, ⟨52, _⟩ => ⟨S8x2048x5632, .f32⟩
  | .hbm, ⟨53, _⟩ => ⟨S1x1x5632, .f32⟩
  | .hbm, ⟨54, _⟩ => ⟨S8x2048x5632, .f32⟩
  | .hbm, ⟨55, _⟩ => ⟨S8x2048x5632, .f32⟩
  | .hbm, ⟨56, _⟩ => ⟨S8x2048x5632, .f32⟩
  | .hbm, ⟨57, _⟩ => ⟨S1x1x5632, .f32⟩
  | .hbm, ⟨58, _⟩ => ⟨S8x2048x5632, .f32⟩
  | .hbm, ⟨59, _⟩ => ⟨S8x2048x5632, .f32⟩
  | .hbm, ⟨60, _⟩ => ⟨S8x2048x5632, .f32⟩
  | .hbm, ⟨61, _⟩ => ⟨S8x2048x5632, .f32⟩
  | .hbm, ⟨62, _⟩ => ⟨S_, .f32⟩
  | .hbm, ⟨63, _⟩ => ⟨S8x2048x5632, .f32⟩
  | .hbm, ⟨64, _⟩ => ⟨S8x2048x5632, .f32⟩
  | .hbm, ⟨65, _⟩ => ⟨S8x2048x5632, .f32⟩
  | .hbm, ⟨66, _⟩ => ⟨S_, .f32⟩
  | .hbm, ⟨67, _⟩ => ⟨S8x2048x5632, .f32⟩
  | .hbm, ⟨68, _⟩ => ⟨S8x2048x5632, .f32⟩
  | .hbm, ⟨69, _⟩ => ⟨S8x2048x5632, .f32⟩
  | .hbm, ⟨70, _⟩ => ⟨S_, .f32⟩
  | .hbm, ⟨71, _⟩ => ⟨S8x2048x5632, .f32⟩
  | .hbm, ⟨72, _⟩ => ⟨S8x2048x5632, .f32⟩
  | .hbm, ⟨73, _⟩ => ⟨S_, .f32⟩
  | .hbm, ⟨74, _⟩ => ⟨S8x2048x5632, .f32⟩
  | .hbm, ⟨75, _⟩ => ⟨S8x2048x5632, .f32⟩
  | .hbm, ⟨76, _⟩ => ⟨S8x2048x5632, .f32⟩
  | .hbm, ⟨77, _⟩ => ⟨S8x2048x5632, .f32⟩
  | .hbm, ⟨78, _⟩ => ⟨S16384x5632, .f32⟩
  | .hbm, ⟨79, _⟩ => ⟨S16384x5632, .bf16⟩
  | .hbm, ⟨80, _⟩ => ⟨S16x1024x5632, .f32⟩
  | .hbm, ⟨81, _⟩ => ⟨S16x8x5632, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== Proof.HgrnHead.lean ====
/-
  One head of one block of the recurrence kernel, named once for all four heads and all sixteen sequences of a block.
  The stages are the printed values of the first head; the other heads' printed values are the same stages at their
  own columns, which the two theorems at the end state of the whole output blocks.
-/
module

public import proofs.«01_k».proof.Proof.Gen.KernelIdeal.Value

@[expose] public section

set_option maxRecDepth 16384

noncomputable section

namespace Cert.KernelIdeal.Head

open Cert.KernelIdeal Cert.KernelIdeal.Gen Idealize.ShloMosaic Idealize.SL.Sem

variable {F : FTy → Type} [FloatOps F] [Named F]

/-- The columns of head `hh` in a block of four heads. -/
abbrev colRect (hh : Fin 4) : Rect S128x512 :=
  Rect.unit (s := S128x512) ![0, 128 * hh.val] S128x128.size ((by decide : ∀ h : Fin 4, ∀ a, (![0, 128 * h.val] : Fin 2 → Nat) a + S128x128.size a ≤ S128x512.size a) hh)

/-- The state matrix of sequence `n` and head `hh` in a block. -/
abbrev tileRect (n : Fin 16) (hh : Fin 4) : Rect S16x4x128x128 :=
  Rect.unit (s := S16x4x128x128) ![n.val, hh.val, 0, 0] S1x1x128x128.size
    ((by decide : ∀ (n : Fin 16) (h : Fin 4), ∀ a, (![n.val, h.val, 0, 0] : Fin 4 → Nat) a + S1x1x128x128.size a ≤ S16x4x128x128.size a) n hh)

/-- A row vector's part at head `hh`. -/
def part (hh : Fin 4) (v : FVec F S1x512 .f32) : FVec F S1x128 .f32 :=
  extractStridedSlice S1x128 ![0, 128 * hh.val] v
    ((by decide : ∀ h : Fin 4, S1x512.Slices ![0, 128 * h.val] S1x128) hh)

/-- The running sums of the logarithms of the forget gates, within each sequence. -/
def runSum (hf : Vec F S128x128 .f32) (lb : FVec F S1x128 .f32) : FVec F S128x128 .f32 :=
  k0_pay31 (k0_pay5 (F := F)) (k0_pay12 hf lb)

/-- The scores between the tokens of one sequence. -/
def scores (q : Vec F S128x128 .f32) (kk b : FVec F S128x128 .f32) : FVec F S128x128 .f32 :=
  k0_pay49 k0_pay6 kk (k0_pay36 (F := F)) (k0_pay40 b) (k0_pay44 q b)

/-- The sixteen states side by side. -/
def stateRow (tile : Fin 16 → Vec F S1x1x128x128 .f32) : FVec F S128x2048 .bf16 :=
  k0_pay80 (k0_pay67 (tile 0)) (k0_pay67 (tile 1)) (k0_pay67 (tile 2)) (k0_pay67 (tile 3)) (k0_pay67 (tile 4)) (k0_pay67 (tile 5)) (k0_pay67 (tile 6)) (k0_pay67 (tile 7)) (k0_pay67 (tile 8)) (k0_pay67 (tile 9)) (k0_pay67 (tile 10)) (k0_pay67 (tile 11)) (k0_pay67 (tile 12)) (k0_pay67 (tile 13)) (k0_pay79 (tile 14)) (tile 15)

/-- What the states at entry add to the outputs, added to `oi`. -/
def withState (oi : FVec F S128x128 .f32) (w : FVec F S128x2048 .f32) : FVec F S128x128 .f32 :=
  k0_pay123 oi w

/-- The outputs of a head before its normalisation. -/
def outRaw (q hf v : Vec F S128x128 .f32) (lb : FVec F S1x128 .f32) (tile : Fin 16 → Vec F S1x1x128x128 .f32) : FVec F S128x128 .f32 :=
  withState (k0_pay51 v (scores q (k0_pay13 hf lb) (runSum hf lb))) (k0_pay110 (k0_pay55 q (runSum hf lb)) (stateRow tile))

/-- The outputs of a head. -/
def outHead (q hf v hg : Vec F S128x128 .f32) (lb gn : FVec F S1x128 .f32) (tile : Fin 16 → Vec F S1x1x128x128 .f32) : FVec F S128x128 .bf16 :=
  k0_pay1 gn hg (k0_pay263 (outRaw q hf v lb tile))

/-- The decay of each column over each sequence. -/
def decays (hf : Vec F S128x128 .f32) (lb : FVec F S1x128 .f32) : FVec F S128x128 .f32 :=
  k0_pay140 (k0_pay9 (F := F) (iota .tc S128x128 32 [0] iota_S128x128_d0_w32) 8#32 k0_pay7 k0_pay8 0#32) (k0_pay24 (k0_pay12 hf lb))

/-- The rows of sequence `n`. -/
def rowsOf (n : Fin 16) : IVec S128x128 1 :=
  andi (cmpi .sge (iota .tc S128x128 32 [0] iota_S128x128_d0_w32) (broadcast S128x128 (BitVec.ofNat 32 (8 * n.val))))
    (cmpi .slt (iota .tc S128x128 32 [0] iota_S128x128_d0_w32) (broadcast S128x128 (BitVec.ofNat 32 (8 * n.val + 8))))

/-- The values of sequence `n`, zero elsewhere. -/
def valuesOf (n : Fin 16) (v : Vec F S128x128 .f32) : FVec F S128x128 .bf16 :=
  truncf .bf16 (select (rowsOf n) v (broadcast S128x128 (Scalar.ofBits (F := F) .f32 0x00000000#32))) bitsLt_bf16_f32

/-- The state of sequence `n` after its tokens, from its parts. -/
def stateStep (n : Fin 16) (v : Vec F S128x128 .f32) (kd : FVec F S128x128 .bf16) (dc : FVec F S128x128 .f32) (tile : Vec F S1x1x128x128 .f32) : FVec F S1x1x128x128 .f32 :=
  shapeCast S1x1x128x128
    (addf (mulf (shapeCast S128x128 tile shapeCasts_S1x1x128x128_S128x128)
      (broadcastTo S128x128 (extractStridedSlice S128x1 ![0, n.val] dc
        ((by decide : ∀ n : Fin 16, S128x128.Slices ![0, n.val] S128x1) n)) broadcasts_S128x1_S128x128))
      (matmul dot_S128x128_S128x128_S128x128_0_0_1_1_n_n none kd (valuesOf n v) (constant S128x128 .f32 0x00000000#32)))
    shapeCasts_S128x128_S1x1x128x128

/-- The state of sequence `n` after its tokens. -/
def stateHead (n : Fin 16) (hf v : Vec F S128x128 .f32) (lb : FVec F S1x128 .f32) (tile : Vec F S1x1x128x128 .f32) : FVec F S1x1x128x128 .f32 :=
  stateStep n v (k0_pay59 (k0_pay13 hf lb) (runSum hf lb)) (decays hf lb) tile

/-- The output block's columns of head `hh`. -/
def outOf (x0 x1 x2 x3 : Vec F S128x512 .f32) (x4 : Vec F S2x512 .f32) (x5 : Vec F S1x512 .f32) (x6 : Vec F S16x4x128x128 .f32) (hh : Fin 4) : FVec F S128x128 .bf16 :=
  outHead (View.ld x0 (colRect hh)) (View.ld x1 (colRect hh)) (View.ld x2 (colRect hh)) (View.ld x3 (colRect hh))
    (part hh (k0_pay3 (View.ld x4 r0_0))) (part hh (k0_pay4 (View.ld x5 r0_1))) (fun n => View.ld x6 (tileRect n hh))

/-- The state block's matrix of sequence `n` and head `hh`. -/
def stateOf (x1 x2 : Vec F S128x512 .f32) (x4 : Vec F S2x512 .f32) (x6 : Vec F S16x4x128x128 .f32) (n : Fin 16) (hh : Fin 4) : FVec F S1x1x128x128 .f32 :=
  stateHead n (View.ld x1 (colRect hh)) (View.ld x2 (colRect hh)) (part hh (k0_pay3 (View.ld x4 r0_0))) (View.ld x6 (tileRect n hh))

set_option maxHeartbeats 4000000 in
/-- The output block is its four heads' columns. -/
theorem out7_eq (x0 x1 x2 x3 : Vec F S128x512 .f32) (x4 : Vec F S2x512 .f32) (x5 : Vec F S1x512 .f32) (x6 : Vec F S16x4x128x128 .f32) :
    out0_7 x0 x1 x2 x3 x4 x5 x6 = View.canon [⟨r0_5, outOf x0 x1 x2 x3 x4 x5 x6 3⟩, ⟨r0_4, outOf x0 x1 x2 x3 x4 x5 x6 2⟩,
      ⟨r0_3, outOf x0 x1 x2 x3 x4 x5 x6 1⟩, ⟨r0_2, outOf x0 x1 x2 x3 x4 x5 x6 0⟩] := rfl

set_option maxHeartbeats 8000000 in
/-- The state block is its sixty-four matrices. -/
theorem out8_eq (x0 x1 x2 x3 : Vec F S128x512 .f32) (x4 : Vec F S2x512 .f32) (x5 : Vec F S1x512 .f32) (x6 : Vec F S16x4x128x128 .f32) :
    out0_8 x0 x1 x2 x3 x4 x5 x6 = View.canon (List.ofFn fun k : Fin 64 =>
      ⟨tileRect ⟨15 - k.val / 4, by omega⟩ ⟨3 - k.val % 4, by omega⟩, stateOf x1 x2 x4 x6 ⟨15 - k.val / 4, by omega⟩ ⟨3 - k.val % 4, by omega⟩⟩) := rfl

end Cert.KernelIdeal.Head

end
-- ==== Proof.HgrnSpec.lean ====
/-
  The recurrence over one sequence of eight tokens and one head, over the extended reals, and the facts of real
  arithmetic its two programs meet in: the gate lies between the lower bound and one, so the base-two running sums are
  bounded, and the exponentials of differences multiply to the exponential of a difference.
-/
module

public import Idealize.ShloMosaic.Lib.Pointwise
public import Mathlib.Analysis.SpecialFunctions.Pow.Real

@[expose] public section

set_option maxRecDepth 16384

noncomputable section

namespace Cert.Hgrn

open Idealize.ShloMosaic

/-! ## The recurrence -/

/-- The forget gate. -/
def gate (l x : EReal) : EReal := l + (1 - l) * Ideal.logistic x

/-- The lower bound of the gate: the second of two softmax weights. -/
def bound (x : Fin 2 → EReal) : EReal :=
  Ideal.div (Ideal.exp (x 1 - Finset.fold max (Ideal.ofBits FTy.f32 0xFF800000#32) x Finset.univ))
    (∑ i, Ideal.exp (x i - Finset.fold max (Ideal.ofBits FTy.f32 0xFF800000#32) x Finset.univ))

/-- The running sums of the logarithms of the gate. -/
def cum (f : Fin 8 → Fin 128 → EReal) (t : Fin 8) (c : Fin 128) : EReal :=
  ∑ s : Fin 8, if s ≤ t then Ideal.log (f s c) else 0

/-- The scores. -/
def score (q f : Fin 8 → Fin 128 → EReal) (t s : Fin 8) : EReal :=
  ∑ x, q t x * (1 - f s x) * Ideal.exp (if s ≤ t then cum f t x - cum f s x else ⊥)

/-- The outputs before their normalisation. -/
def raw (q f v : Fin 8 → Fin 128 → EReal) (s0 : Fin 128 → Fin 128 → EReal) (t : Fin 8) (c : Fin 128) : EReal :=
  ∑ x, v x c * score q f t x + ∑ x, s0 x c * (q t x * Ideal.exp (cum f t x))

/-- The normalised and gated outputs. -/
def outp (o hg : Fin 128 → EReal) (g : Fin 128 → EReal) (c : Fin 128) : EReal :=
  o c * Ideal.rsqrt (Ideal.div (∑ x, o x * o x) (Ideal.ofBits FTy.f32 0x43000000#32) + Ideal.ofBits FTy.f32 0x358637BD#32) * g c
    * (hg c * Ideal.logistic (hg c))

/-- The state after the tokens. -/
def state (f v : Fin 8 → Fin 128 → EReal) (s0 : Fin 128 → Fin 128 → EReal) (c d : Fin 128) : EReal :=
  Ideal.exp (cum f 7 c) * s0 c d + ∑ x, (1 - f x c) * Ideal.exp (cum f 7 c - cum f x c) * v x d

/-! ## The recurrence over the arrays -/

/-- The row of token `t` of sequence `b`. -/
def tok (b : Fin 128) (t : Fin 8) : Fin 1024 := ⟨b.val * 8 + t.val, by omega⟩

/-- Column `c` of head `h`. -/
def col (h : Fin 16) (c : Fin 128) : Fin 2048 := ⟨h.val * 128 + c.val, by omega⟩

/-- Column `c` of head `h` in part `p` of the projection: the queries, the gates, the values, the output gates. -/
def pcol (p : Fin 4) (h : Fin 16) (c : Fin 128) : Fin 9216 := ⟨p.val * 2048 + (h.val * 128 + c.val), by omega⟩

/-- Part `p` of the projection at sequence `b` and head `h`. -/
def part (x0 : (⟨2, ![1024, 9216]⟩ : Shape).Idx → EReal) (p : Fin 4) (b : Fin 128) (h : Fin 16) (t : Fin 8) (c : Fin 128) : EReal :=
  x0 (ix2 (tok b t) (pcol p h c))

/-- The gate of sequence `b` and head `h`. -/
def gates (x0 : (⟨2, ![1024, 9216]⟩ : Shape).Idx → EReal) (x1 : (⟨2, ![2, 2048]⟩ : Shape).Idx → EReal) (b : Fin 128) (h : Fin 16) (t : Fin 8) (c : Fin 128) : EReal :=
  gate (bound fun i => x1 (ix2 i (col h c))) (part x0 1 b h t c)

/-- The outputs of sequence `b` and head `h` before their normalisation. -/
def raws (x0 : (⟨2, ![1024, 9216]⟩ : Shape).Idx → EReal) (x1 : (⟨2, ![2, 2048]⟩ : Shape).Idx → EReal) (x3 : (⟨5, ![1, 128, 16, 128, 128]⟩ : Shape).Idx → EReal)
    (b : Fin 128) (h : Fin 16) : Fin 8 → Fin 128 → EReal :=
  raw (part x0 0 b h) (gates x0 x1 b h) (part x0 2 b h) (fun c d => x3 (ix5 0 b h c d))

/-- The outputs of sequence `b` and head `h`. -/
def outs (x0 : (⟨2, ![1024, 9216]⟩ : Shape).Idx → EReal) (x1 : (⟨2, ![2, 2048]⟩ : Shape).Idx → EReal) (x2 : (⟨2, ![1, 2048]⟩ : Shape).Idx → EReal) (x3 : (⟨5, ![1, 128, 16, 128, 128]⟩ : Shape).Idx → EReal)
    (b : Fin 128) (h : Fin 16) (t : Fin 8) : Fin 128 → EReal :=
  outp (raws x0 x1 x3 b h t) (part x0 3 b h t) (fun c => x2 (ix2 0 (col h c)))

/-- The states of sequence `b` and head `h` after the tokens. -/
def states (x0 : (⟨2, ![1024, 9216]⟩ : Shape).Idx → EReal) (x1 : (⟨2, ![2, 2048]⟩ : Shape).Idx → EReal) (x3 : (⟨5, ![1, 128, 16, 128, 128]⟩ : Shape).Idx → EReal)
    (b : Fin 128) (h : Fin 16) : Fin 128 → Fin 128 → EReal :=
  state (gates x0 x1 b h) (part x0 2 b h) (fun c d => x3 (ix5 0 b h c d))

/-- The whole array of outputs. -/
def outArr (x0 : (⟨2, ![1024, 9216]⟩ : Shape).Idx → EReal) (x1 : (⟨2, ![2, 2048]⟩ : Shape).Idx → EReal) (x2 : (⟨2, ![1, 2048]⟩ : Shape).Idx → EReal) (x3 : (⟨5, ![1, 128, 16, 128, 128]⟩ : Shape).Idx → EReal) :
    (⟨2, ![1024, 2048]⟩ : Shape).Idx → EReal := fun j =>
  outs x0 x1 x2 x3 ⟨(j 0).val / 8, by have : (j 0).val < 1024 := (j 0).isLt; omega⟩ ⟨(j 1).val / 128, by have : (j 1).val < 2048 := (j 1).isLt; omega⟩
    ⟨(j 0).val % 8, by omega⟩ ⟨(j 1).val % 128, by omega⟩

/-- The whole array of states. -/
def stateArr (x0 : (⟨2, ![1024, 9216]⟩ : Shape).Idx → EReal) (x1 : (⟨2, ![2, 2048]⟩ : Shape).Idx → EReal) (x3 : (⟨5, ![1, 128, 16, 128, 128]⟩ : Shape).Idx → EReal) :
    (⟨4, ![128, 16, 128, 128]⟩ : Shape).Idx → EReal := fun j => states x0 x1 x3 (j 0) (j 1) (j 2) (j 3)

/-- The precondition: every logit of the lower bound is a number of size at most four. -/
def Bounded (x1 : (⟨2, ![2, 2048]⟩ : Shape).Idx → EReal) : Prop := ∀ (i : Fin 2) (c : Fin 2048), ∃ r : ℝ, x1 (ix2 i c) = r ∧ |r| ≤ 4

/-! ## Real arithmetic -/

theorem coe_sum {ι : Type} (s : Finset ι) (g : ι → ℝ) : (∑ i ∈ s, (g i : EReal)) = ((∑ i ∈ s, g i : ℝ) : EReal) := by
  classical
  induction s using Finset.induction_on with
  | empty => simp
  | insert a s h ih => rw [Finset.sum_insert h, Finset.sum_insert h, ih, EReal.coe_add]

/-- Base-two powers of a logarithm over `log 2`. -/
theorem exp2_eq (x : ℝ) : Ideal.exp2 ((x * (Real.log 2)⁻¹ : ℝ) : EReal) = ((Real.exp x : ℝ) : EReal) := by
  rw [Ideal.exp2_coe]
  congr 1
  show (2 : ℝ) ^ (x * (Real.log 2)⁻¹) = Real.exp x
  rw [Real.rpow_def_of_pos (by norm_num)]
  congr 1
  have : Real.log 2 ≠ 0 := (Real.log_pos (by norm_num)).ne'
  field_simp

/-- The lower bound as a real number in `[2⁻¹⁴, 1]`. -/
theorem bound_real (x : Fin 2 → EReal) (h : ∀ i, ∃ r : ℝ, x i = r ∧ |r| ≤ 4) :
    ∃ l : ℝ, bound x = l ∧ (2 : ℝ) ^ (-14 : ℤ) ≤ l ∧ l ≤ 1 := by
  obtain ⟨a, ha, ha4⟩ := h 0
  obtain ⟨b, hb, hb4⟩ := h 1
  have hm : Finset.fold max (Ideal.ofBits FTy.f32 0xFF800000#32) x Finset.univ = ((max a b : ℝ) : EReal) := by
    have hbot : Ideal.ofBits FTy.f32 0xFF800000#32 = ⊥ := by simp [Ideal.ofBits, Ideal.ieee]
    rw [hbot, show (Finset.univ : Finset (Fin 2)) = {0, 1} from rfl, Finset.fold_insert (by decide), Finset.fold_singleton, ha, hb]
    exact (Monotone.map_max EReal.coe_strictMono.monotone).symm
  set M := max a b with hM
  have hpos : 0 < Real.exp (a - M) + Real.exp (b - M) := by positivity
  refine ⟨Real.exp (b - M) * (1 / (Real.exp (a - M) + Real.exp (b - M))), ?_, ?_, ?_⟩
  · unfold bound
    rw [hm, Fin.sum_univ_two, ha, hb, ← EReal.coe_sub, ← EReal.coe_sub, Ideal.exp_coe, Ideal.exp_coe, ← EReal.coe_add,
      Ideal.div_coe hpos.ne', ← EReal.coe_mul]
  · rw [mul_one_div, le_div_iff₀ hpos]
    have h1 : Real.exp (a - M) ≤ Real.exp 8 * Real.exp (b - M) := by
      rw [← Real.exp_add]
      apply Real.exp_le_exp.mpr
      have := abs_le.mp ha4
      have := abs_le.mp hb4
      linarith
    have h2 : Real.exp 8 ≤ 16383 := by
      have h7 : (7 / 8 : ℝ) ≤ Real.exp (-(1 / 8)) := by
        have := Real.add_one_le_exp (-(1 / 8) : ℝ)
        linarith
      have h8 : Real.exp (1 / 8) ≤ 8 / 7 := by
        have hp := Real.exp_pos (1 / 8)
        have hm : Real.exp (1 / 8) * Real.exp (-(1 / 8)) = 1 := by rw [← Real.exp_add]; simp
        nlinarith
      have h9 : Real.exp 8 = Real.exp (1 / 8) ^ 64 := by rw [← Real.exp_nat_mul]; norm_num
      rw [h9]
      calc Real.exp (1 / 8) ^ 64 ≤ (8 / 7 : ℝ) ^ 64 := pow_le_pow_left₀ (Real.exp_pos _).le h8 64
        _ ≤ 16383 := by norm_num
    have h3 := Real.exp_pos (b - M)
    have h4 : Real.exp (a - M) ≤ 16383 * Real.exp (b - M) := h1.trans (mul_le_mul_of_nonneg_right h2 h3.le)
    norm_num
    linarith
  · rw [mul_one_div, div_le_one hpos]
    have := Real.exp_pos (a - M)
    linarith

/-- The sigmoid as a real number in `[0, 1]`. -/
theorem logistic_real (x : EReal) : ∃ s : ℝ, Ideal.logistic x = s ∧ 0 ≤ s ∧ s ≤ 1 := by
  induction x with
  | bot => exact ⟨0, by simp, le_rfl, zero_le_one⟩
  | top => exact ⟨1, by simp, zero_le_one, le_rfl⟩
  | coe r =>
    refine ⟨(1 + Real.exp (-r))⁻¹, Ideal.logistic_coe r, by positivity, ?_⟩
    apply inv_le_one_of_one_le₀
    have := Real.exp_pos (-r)
    linarith

/-- The gate as a real number between the lower bound and one. -/
theorem gate_real (l : ℝ) (h : l ≤ 1) (x : EReal) : ∃ f : ℝ, gate l x = f ∧ l ≤ f ∧ f ≤ 1 := by
  obtain ⟨s, hs, h0, h1⟩ := logistic_real x
  refine ⟨l + (1 - l) * s, ?_, ?_, ?_⟩
  · unfold gate
    rw [hs, EReal.coe_add, EReal.coe_mul, EReal.coe_sub, EReal.coe_one]
  · nlinarith
  · nlinarith

/-- The running sums of the logarithms of a real gate. -/
def cumR (f : Fin 8 → Fin 128 → ℝ) (t : Fin 8) (c : Fin 128) : ℝ :=
  ∑ s : Fin 8, if s ≤ t then Real.log (f s c) else 0

theorem log_real {f : ℝ} (h : 0 < f) : Ideal.log (f : EReal) = ((Real.log f : ℝ) : EReal) := by
  rw [Ideal.log_coe, if_neg (not_le.mpr h)]

theorem cum_real (f : Fin 8 → Fin 128 → ℝ) (h : ∀ s c, 0 < f s c) (t : Fin 8) (c : Fin 128) :
    cum (fun s c => (f s c : EReal)) t c = ((cumR f t c : ℝ) : EReal) := by
  unfold cum cumR
  rw [← coe_sum]
  refine Finset.sum_congr rfl fun s _ => ?_
  rw [log_real (h s c)]
  split <;> simp

/-- The bound the kernel clips its exponents at. -/
theorem clip_eq : Ideal.ofBits FTy.f32 0x4266D4CA#32 = ((7563877 / 131072 : ℝ) : EReal) := by
  simp [Ideal.ofBits, Ideal.ieee, -EReal.coe_mul]; norm_num

/-- The base-two logarithm of a gate lies in `[-14, 0]`. -/
theorem log2_range {f : ℝ} (h0 : (2 : ℝ) ^ (-14 : ℤ) ≤ f) (h1 : f ≤ 1) :
    -14 ≤ Real.log f * (Real.log 2)⁻¹ ∧ Real.log f * (Real.log 2)⁻¹ ≤ 0 := by
  have hp : (0 : ℝ) < 2 ^ (-14 : ℤ) := by positivity
  have hl2 : 0 < Real.log 2 := Real.log_pos (by norm_num)
  have hf : 0 < f := hp.trans_le h0
  constructor
  · have h := Real.log_le_log hp h0
    rw [Real.log_zpow] at h
    rw [← div_eq_mul_inv, le_div_iff₀ hl2]
    push_cast at h
    linarith
  · have := Real.log_nonpos hf.le h1
    exact mul_nonpos_of_nonpos_of_nonneg this (inv_nonneg.mpr hl2.le)

/-- Within a sequence a base-two running sum is within 56 of the one at the fourth token. -/
theorem cumR_near (f : Fin 8 → Fin 128 → ℝ) (c : Fin 128) (h : ∀ s, (2 : ℝ) ^ (-14 : ℤ) ≤ f s c ∧ f s c ≤ 1) (t : Fin 8) :
    |(cumR f t c - cumR f 3 c) * (Real.log 2)⁻¹| ≤ 56 := by
  have hr := fun s => log2_range (h s).1 (h s).2
  unfold cumR
  rw [sub_mul, Finset.sum_mul, Finset.sum_mul, abs_le]
  simp only [Fin.sum_univ_eight, ite_mul, zero_mul]
  have h0 := hr 0
  have h1 := hr 1
  have h2 := hr 2
  have h3 := hr 3
  have h4 := hr 4
  have h5 := hr 5
  have h6 := hr 6
  have h7 := hr 7
  fin_cases t <;> simp <;> constructor <;> linarith

/-- The scores' two factors, each within its clip, multiply to the exponential of the difference. -/
theorem pair_eq (q k : EReal) (a b m : ℝ) (ha : |(a - m) * (Real.log 2)⁻¹| ≤ 56) (hb : |(b - m) * (Real.log 2)⁻¹| ≤ 56) :
    q * Ideal.exp2 (min (((a * (Real.log 2)⁻¹ : ℝ) : EReal) - ((m * (Real.log 2)⁻¹ : ℝ) : EReal)) ((7563877 / 131072 : ℝ) : EReal))
      * (k * Ideal.exp2 (min (0 - (((b * (Real.log 2)⁻¹ : ℝ) : EReal) - ((m * (Real.log 2)⁻¹ : ℝ) : EReal))) ((7563877 / 131072 : ℝ) : EReal)))
      = q * k * Ideal.exp ((a : EReal) - (b : EReal)) := by
  have h1 := abs_le.mp ha
  have h2 := abs_le.mp hb
  rw [← EReal.coe_zero, ← EReal.coe_sub, ← EReal.coe_sub, ← EReal.coe_sub, ← EReal.coe_sub, ← sub_mul, ← sub_mul, min_eq_left, min_eq_left,
    show 0 - (b - m) * (Real.log 2)⁻¹ = (m - b) * (Real.log 2)⁻¹ by ring, exp2_eq, exp2_eq, mul_mul_mul_comm, ← EReal.coe_mul, ← Real.exp_add, Ideal.exp_coe]
  · congr 3; ring
  · rw [EReal.coe_le_coe_iff]; linarith
  · rw [EReal.coe_le_coe_iff]; linarith

/-- A sum over the rows of a block that vanishes off one sequence. -/
def row (n : Fin 16) (t : Fin 8) : Fin 128 := ⟨8 * n.val + t.val, by omega⟩

@[simp] theorem row_val (n : Fin 16) (t : Fin 8) : (row n t).val = 8 * n.val + t.val := rfl

theorem row_div (n : Fin 16) (t : Fin 8) : (row n t).val / 8 = n.val := by rw [row_val]; omega

theorem sum_rows (g : Fin 128 → EReal) (n : Fin 16) (h : ∀ x : Fin 128, x.val / 8 ≠ n.val → g x = 0) :
    ∑ x, g x = ∑ s : Fin 8, g (row n s) := by
  symm
  refine Finset.sum_of_injOn (row n) ?_ ?_ ?_ ?_
  · intro a _ b _ hab
    have := congrArg Fin.val hab
    simp only [row_val] at this
    exact Fin.ext (by omega)
  · intro a _; simp
  · intro x _ hx
    apply h
    intro hn
    apply hx
    refine ⟨⟨x.val % 8, by omega⟩, by simp, Fin.ext ?_⟩
    rw [row_val]
    show 8 * n.val + x.val % 8 = x.val
    omega
  · intro a _; rfl

end Cert.Hgrn

end
-- ==== Proof.HgrnMasks.lean ====
/-
  The masks of the recurrence kernel, as words: which rows belong to one sequence and which pairs of rows are causal.
-/
module

public import Idealize.ShloMosaic.Lib.Pointwise

@[expose] public section

set_option maxRecDepth 16384

namespace Cert.KernelIdeal.Head

open Idealize.ShloMosaic

theorem mask_word : ∀ r x : Fin 128, IntOp.andi (IntOp.cmpi CmpIPredicate.sle (BitVec.ofNat 32 x.val) (BitVec.ofNat 32 r.val))
    (IntOp.cmpi CmpIPredicate.slt (IntOp.xori (BitVec.ofNat 32 r.val) (BitVec.ofNat 32 x.val)) 8#32)
    = if x.val / 8 = r.val / 8 ∧ x.val ≤ r.val then 1#1 else 0#1 := by decide +kernel

theorem level_word : ∀ r x : Fin 128, IntOp.cmpi CmpIPredicate.eq (Scalar.select (IntOp.andi (IntOp.cmpi CmpIPredicate.sle (BitVec.ofNat 32 x.val) (BitVec.ofNat 32 r.val))
    (IntOp.cmpi CmpIPredicate.slt (IntOp.xori (BitVec.ofNat 32 r.val) (BitVec.ofNat 32 x.val)) 8#32)) 8#32 0#32) 8#32
    = if x.val / 8 = r.val / 8 ∧ x.val ≤ r.val then 1#1 else 0#1 := by decide +kernel

theorem rows_word : ∀ (n : Fin 16) (x : Fin 128), IntOp.andi (IntOp.cmpi CmpIPredicate.sge (BitVec.ofNat 32 x.val) (BitVec.ofNat 32 (8 * n.val)))
    (IntOp.cmpi CmpIPredicate.slt (BitVec.ofNat 32 x.val) (BitVec.ofNat 32 (8 * n.val + 8)))
    = if x.val / 8 = n.val then 1#1 else 0#1 := by decide +kernel

theorem member_word : ∀ r x : Fin 128, IntOp.cmpi CmpIPredicate.eq
        (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 8#32 0#32))
                (Scalar.extui (Scalar.cmpi CmpIPredicate.slt 8#32 0#32))))
            (IntOp.cmpi CmpIPredicate.ne (IntOp.remsi ArithUnit.vector (BitVec.ofNat 32 r.val) 8#32) 0#32))
          (IntOp.subi (IntOp.divsi ArithUnit.vector (BitVec.ofNat 32 r.val) 8#32) 1#32)
          (IntOp.divsi ArithUnit.vector (BitVec.ofNat 32 r.val) 8#32))
        (BitVec.ofNat 32 x.val) = if r.val / 8 = x.val then 1#1 else 0#1 := by decide +kernel

end Cert.KernelIdeal.Head
-- ==== Proof.HgrnHeadAt.lean ====
/-
  One head of one block of the recurrence kernel, read at an index: with a gate between `2⁻¹⁴` and one, each sequence's
  rows are the recurrence of HgrnSpec.
-/
module

public import proofs.«01_k».proof.Proof.HgrnHead
public import proofs.«01_k».proof.Proof.HgrnSpec
public import proofs.«01_k».proof.Proof.HgrnMasks

@[expose] public section

set_option maxRecDepth 16384

noncomputable section

namespace Cert.KernelIdeal.Head

open Cert.KernelIdeal Cert.KernelIdeal.Gen Idealize.ShloMosaic Idealize.SL.Sem Cert.Hgrn

/-- A masked term. -/
theorem select_if (p : Prop) [Decidable p] (a b : EReal) : Scalar.select (if p then 1#1 else 0#1) a b = if p then a else b := by
  by_cases h : p <;> simp [h, Scalar.select]

/-- The level of a pair of rows. -/
theorem level_at (r x : Fin 128) : IntOp.cmpi CmpIPredicate.eq (k0_pay6 (ix2 r x)) 8#32 = if x.val / 8 = r.val / 8 ∧ x.val ≤ r.val then 1#1 else 0#1 := by
  rw [← level_word]
  unfold k0_pay6
  pointwise []

/-- Which sequence a row belongs to. -/
theorem member_at (r x : Fin 128) : k0_pay9 (F := Ideal) (iota .tc S128x128 32 [0] iota_S128x128_d0_w32) 8#32 k0_pay7 k0_pay8 0#32 (ix2 r x)
    = if r.val / 8 = x.val then 1 else 0 := by
  unfold k0_pay9 k0_pay7 k0_pay8
  pointwise []
  exact (congrArg (fun w => Scalar.select w (1 : EReal) 0) (member_word r x)).trans (select_if _ _ _)

/-! ## The gate and its running sums -/

theorem log2_at (hf : Vec Ideal S128x128 .f32) (lb : FVec Ideal S1x128 .f32) (r c : Fin 128) :
    k0_pay12 hf lb (ix2 r c) = Ideal.log (gate (lb (ix2 0 c)) (hf (ix2 r c))) * (((Real.log 2)⁻¹ : ℝ) : EReal) := by
  unfold k0_pay12 k0_pay11
  pointwise []
  rfl

theorem key_at (hf : Vec Ideal S128x128 .f32) (lb : FVec Ideal S1x128 .f32) (r c : Fin 128) :
    k0_pay13 hf lb (ix2 r c) = 1 - gate (lb (ix2 0 c)) (hf (ix2 r c)) := by
  unfold k0_pay13 k0_pay11
  pointwise []
  rfl

/-- The running sum of a split array: the remainders add nothing. -/
theorem split_sum (L : FVec Ideal S128x128 .f32) (g : Fin 128 → Fin 128 → ℝ) (hL : ∀ r c, L (ix2 r c) = g r c) (n : Fin 16) (t : Fin 8) (c : Fin 128) :
    k0_pay31 (k0_pay5 (F := Ideal)) L (ix2 (row n t) c) = ((∑ s : Fin 8, if s ≤ t then g (row n s) c else 0 : ℝ) : EReal) := by
  unfold k0_pay31 k0_pay5 k0_pay24
  pointwise []
  simp only [mask_word, select_if, hL, show ¬ (256 + c.val < 128) by omega, show ¬ (256 + c.val - 128 < 128) by omega, dite_false,
    ← EReal.coe_sub, sub_self, EReal.coe_zero, ite_self, Finset.sum_const_zero, add_zero, sub_zero]
  rw [sum_rows _ n (fun x hx => if_neg fun h => hx (h.1.trans (row_div n t))), ← coe_sum]
  refine Finset.sum_congr rfl fun s _ => ?_
  by_cases hst : s ≤ t
  · rw [if_pos hst, if_pos ⟨by rw [row_div, row_div], Nat.add_le_add_left hst _⟩]
  · rw [if_neg hst, if_neg fun h => hst (Nat.le_of_add_le_add_left h.2), EReal.coe_zero]

theorem total_sum (L : FVec Ideal S128x128 .f32) (g : Fin 128 → Fin 128 → ℝ) (hL : ∀ r c, L (ix2 r c) = g r c) (n : Fin 16) (c : Fin 128) (x : Fin 128) (hx : x.val = n.val) :
    k0_pay140 (k0_pay9 (F := Ideal) (iota .tc S128x128 32 [0] iota_S128x128_d0_w32) 8#32 k0_pay7 k0_pay8 0#32) (k0_pay24 L) (ix2 c x)
      = Ideal.exp2 ((∑ s : Fin 8, g (row n s) c : ℝ) : EReal) := by
  generalize hM : k0_pay9 (F := Ideal) (iota .tc S128x128 32 [0] iota_S128x128_d0_w32) 8#32 k0_pay7 k0_pay8 0#32 = M
  have hm : ∀ r : Fin 128, M (ix2 r x) = if r.val / 8 = n.val then 1 else 0 := fun r => by rw [← hM, ← hx]; exact member_at r x
  unfold k0_pay140 k0_pay24
  pointwise []
  simp only [hm, mul_ite, mul_one, mul_zero, hL, show ¬ (256 + c.val < 128) by omega, show ¬ (256 + c.val - 128 < 128) by omega, dite_false,
    ← EReal.coe_sub, sub_self, EReal.coe_zero, ite_self, Finset.sum_const_zero, add_zero, sub_zero]
  rw [sum_rows _ n (fun x hx => if_neg hx), ← coe_sum]
  refine congrArg Ideal.exp2 (Finset.sum_congr rfl fun s _ => ?_)
  rw [if_pos (row_div n s)]

theorem state_raw (n : Fin 16) (v : Vec Ideal S128x128 .f32) (kd : FVec Ideal S128x128 .bf16) (dc : FVec Ideal S128x128 .f32) (tile : Vec Ideal S1x1x128x128 .f32) (c d : Fin 128) :
    stateStep n v kd dc tile (ix4 0 0 c d) = tile (ix4 0 0 c d) * dc (ix2 c ⟨n.val, by omega⟩) + ∑ s : Fin 8, kd (ix2 (row n s) c) * v (ix2 (row n s) d) := by
  unfold stateStep valuesOf rowsOf
  pointwise []
  refine congrArg (fun e : EReal => tile (ix4 0 0 c d) * dc (ix2 c ⟨n.val, by omega⟩) + e) ?_
  simp only [rows_word, select_if]
  rw [sum_rows _ n (fun x hx => if_neg hx)]
  exact Finset.sum_congr rfl fun s _ => if_pos (row_div n s)

theorem conc_cols {α : Type} (f : Fin 16 → S128x128.Idx → α) :
    Shape.Concatenates ((List.ofFn fun n : Fin 16 => (⟨S128x128, f n⟩ : (s : Shape) × (s.Idx → α))).map (·.1)) S128x2048 1 := by
  rw [List.map_ofFn]
  exact (by decide : Shape.Concatenates (List.ofFn fun _ : Fin 16 => S128x128) S128x2048 1)

theorem conc_rows {α : Type} (f : Fin 16 → S8x128.Idx → α) :
    Shape.Concatenates ((List.ofFn fun n : Fin 16 => (⟨S8x128, f n⟩ : (s : Shape) × (s.Idx → α))).map (·.1)) S128x128 0 := by
  rw [List.map_ofFn]
  exact (by decide : Shape.Concatenates (List.ofFn fun _ : Fin 16 => S8x128) S128x128 0)

theorem stateRow_eq (tile : Fin 16 → Vec Ideal S1x1x128x128 .f32) : stateRow tile = concatenate S128x2048 1
    (List.ofFn fun n : Fin 16 => (⟨S128x128, truncf .bf16 (shapeCast S128x128 (tile n) shapeCasts_S1x1x128x128_S128x128) bitsLt_bf16_f32⟩ : (s : Shape) × (s.Idx → Ideal .bf16)))
    (conc_cols _) := rfl

theorem stateRow_at (tile : Fin 16 → Vec Ideal S1x1x128x128 .f32) (n : Fin 16) (c d : Fin 128) :
    stateRow tile (ix2 c ⟨128 * n.val + d.val, by omega⟩) = tile n (ix4 0 0 c d) := by
  rw [stateRow_eq]
  refine (concatenate_ofFn_apply (t := S128x2048) (s₁ := S128x128) 1 _ _ rfl 128 rfl _ n ?_ (ix2 c d) ?_ ?_).trans ?_
  · show (128 * n.val + d.val) / 128 = n.val; omega
  · show d.val = (128 * n.val + d.val) % 128; omega
  · intro b hb
    match b with
    | ⟨0, _⟩ => rfl
    | ⟨1, _⟩ => exact absurd rfl hb
  · pointwise []

theorem withState_eq (oi : FVec Ideal S128x128 .f32) (w : FVec Ideal S128x2048 .f32) : withState oi w = addf oi (concatenate S128x128 0
    (List.ofFn fun n : Fin 16 => (⟨S8x128, extractStridedSlice S8x128 ![8 * n.val, 128 * n.val] w
      ((by decide : ∀ n : Fin 16, S128x2048.Slices ![8 * n.val, 128 * n.val] S8x128) n)⟩ : (s : Shape) × (s.Idx → Ideal .f32)))
    (conc_rows _)) := rfl

theorem withState_at (oi : FVec Ideal S128x128 .f32) (w : FVec Ideal S128x2048 .f32) (n : Fin 16) (t : Fin 8) (d : Fin 128) :
    withState oi w (ix2 (row n t) d) = oi (ix2 (row n t) d) + w (ix2 (row n t) ⟨128 * n.val + d.val, by omega⟩) := by
  rw [withState_eq]
  refine congrArg (fun e : EReal => oi (ix2 (row n t) d) + e) ?_
  refine (concatenate_ofFn_apply (t := S128x128) (s₁ := S8x128) 0 _ _ rfl 8 rfl _ n ?_ (ix2 t d) ?_ ?_).trans ?_
  · exact row_div n t
  · show t.val = (8 * n.val + t.val) % 8; omega
  · intro b hb
    match b with
    | ⟨0, _⟩ => exact absurd rfl hb
    | ⟨1, _⟩ => rfl
  · pointwise []
    rfl

/-! ## One head -/

section
variable (q hf v hg : Vec Ideal S128x128 .f32) (lb gn : FVec Ideal S1x128 .f32) (tile : Fin 16 → Vec Ideal S1x1x128x128 .f32)
  (Φ : Fin 128 → Fin 128 → ℝ) (hΦ : ∀ r c, gate (lb (ix2 0 c)) (hf (ix2 r c)) = Φ r c)
  (hr : ∀ r c, (2 : ℝ) ^ (-14 : ℤ) ≤ Φ r c ∧ Φ r c ≤ 1) (n : Fin 16)

/-- A block's rows of sequence `n`. -/
def seqRows (n : Fin 16) (x : Vec Ideal S128x128 .f32) (t : Fin 8) (c : Fin 128) : EReal := x (ix2 (row n t) c)

/-- The gates of sequence `n`. -/
def seqGate (n : Fin 16) (hf : Vec Ideal S128x128 .f32) (lb : FVec Ideal S1x128 .f32) (t : Fin 8) (c : Fin 128) : EReal :=
  gate (lb (ix2 0 c)) (hf (ix2 (row n t) c))

include hr in
theorem pos_of (r c : Fin 128) : 0 < Φ r c := (by positivity : (0 : ℝ) < 2 ^ (-14 : ℤ)).trans_le (hr r c).1

include hΦ hr in
theorem logs_real (r c : Fin 128) : k0_pay12 hf lb (ix2 r c) = ((Real.log (Φ r c) * (Real.log 2)⁻¹ : ℝ) : EReal) := by
  rw [log2_at, hΦ, log_real (pos_of Φ hr r c), EReal.coe_mul]

include hΦ hr in
theorem cum_eq (t : Fin 8) (c : Fin 128) : cum (seqGate n hf lb) t c = ((cumR (fun t c => Φ (row n t) c) t c : ℝ) : EReal) := by
  rw [← cum_real (fun t c => Φ (row n t) c) (fun s c => pos_of Φ hr _ c)]
  refine congrArg (fun f => cum f t c) ?_
  funext s x
  exact hΦ _ _

include hΦ hr in
theorem runSum_at (t : Fin 8) (c : Fin 128) : runSum hf lb (ix2 (row n t) c) = ((cumR (fun t c => Φ (row n t) c) t c * (Real.log 2)⁻¹ : ℝ) : EReal) := by
  unfold runSum
  rw [split_sum _ (fun r c => Real.log (Φ r c) * (Real.log 2)⁻¹) (logs_real hf lb Φ hΦ hr)]
  unfold cumR
  rw [Finset.sum_mul]
  exact congrArg _ (Finset.sum_congr rfl fun s _ => by rw [ite_mul, zero_mul])

/-- The scores off a sequence's own rows are zero. -/
theorem scores_off (kk b : FVec Ideal S128x128 .f32) (t : Fin 8) (x : Fin 128) (hx : x.val / 8 ≠ n.val) : scores q kk b (ix2 (row n t) x) = 0 := by
  unfold scores k0_pay49 k0_pay44 k0_pay40 k0_pay36
  pointwise []
  rw [level_at, select_if, if_neg]
  rw [row_div]
  exact fun h => hx h.1

include hΦ hr in
/-- The scores of a sequence. -/
theorem scores_on (t s : Fin 8) : scores q (k0_pay13 hf lb) (runSum hf lb) (ix2 (row n t) (row n s)) = score (seqRows n q) (seqGate n hf lb) t s := by
  unfold scores k0_pay49 k0_pay44 k0_pay40 k0_pay36
  pointwise []
  rw [level_at, select_if]
  unfold score
  have hrow : ∀ (u : Fin 8) (h : (row n u).val / 8 * 8 + 3 < 128), (⟨(row n u).val / 8 * 8 + 3, h⟩ : Fin 128) = row n 3 := fun u h =>
    Fin.ext (by show (row n u).val / 8 * 8 + 3 = 8 * n.val + 3; rw [row_div]; omega)
  by_cases hst : s ≤ t
  · rw [if_pos ⟨by rw [row_div, row_div], Nat.add_le_add_left hst _⟩]
    refine Finset.sum_congr rfl fun x _ => ?_
    rw [if_pos hst, hrow, hrow, runSum_at hf lb Φ hΦ hr, runSum_at hf lb Φ hΦ hr, runSum_at hf lb Φ hΦ hr, cum_eq hf lb Φ hΦ hr, cum_eq hf lb Φ hΦ hr, key_at, clip_eq]
    exact pair_eq _ _ _ _ _ (cumR_near (fun t c => Φ (row n t) c) x (fun s => hr _ _) t) (cumR_near (fun t c => Φ (row n t) c) x (fun s => hr _ _) s)
  · rw [if_neg fun h => hst (Nat.le_of_add_le_add_left h.2)]
    symm
    refine Finset.sum_eq_zero fun x _ => ?_
    rw [if_neg hst, Ideal.exp_bot, mul_zero]

include hΦ hr in
/-- The outputs of a sequence before their normalisation. -/
theorem outRaw_at (t : Fin 8) (d : Fin 128) : outRaw q hf v lb tile (ix2 (row n t) d)
    = raw (seqRows n q) (seqGate n hf lb) (seqRows n v) (fun c d => tile n (ix4 0 0 c d)) t d := by
  unfold outRaw
  rw [withState_at]
  have h1 : ∀ a : FVec Ideal S128x128 .f32, k0_pay51 v a (ix2 (row n t) d) = ∑ x, a (ix2 (row n t) x) * v (ix2 x d) := by
    intro a
    unfold k0_pay51
    pointwise []
  have h2 : ∀ (w : FVec Ideal S128x128 .bf16) (s : FVec Ideal S128x2048 .bf16) (r : Fin 128) (x : Fin 2048), k0_pay110 w s (ix2 r x) = ∑ y, w (ix2 r y) * s (ix2 y x) := by
    intro w s r x
    unfold k0_pay110
    pointwise []
  have h3 : ∀ c : Fin 128, k0_pay55 q (runSum hf lb) (ix2 (row n t) c) = q (ix2 (row n t) c) * Ideal.exp (cum (seqGate n hf lb) t c) := by
    intro c
    rw [cum_eq hf lb Φ hΦ hr, Ideal.exp_coe, ← exp2_eq, ← runSum_at hf lb Φ hΦ hr]
    unfold k0_pay55
    pointwise []
    rfl
  rw [h1, h2]
  unfold raw
  refine congrArg₂ (· + ·) ?_ (Finset.sum_congr rfl fun x _ => ?_)
  · rw [sum_rows _ n fun x hx => by rw [scores_off q n _ _ t x hx, zero_mul]]
    refine Finset.sum_congr rfl fun s _ => ?_
    rw [scores_on q hf lb Φ hΦ hr, mul_comm]
    rfl
  · rw [stateRow_at, h3, mul_comm]
    rfl

include hΦ hr in
/-- The outputs of a sequence. -/
theorem outHead_at (t : Fin 8) (d : Fin 128) : outHead q hf v hg lb gn tile (ix2 (row n t) d)
    = outp (raw (seqRows n q) (seqGate n hf lb) (seqRows n v) (fun c d => tile n (ix4 0 0 c d)) t) (seqRows n hg t) (fun c => gn (ix2 0 c)) d := by
  unfold outHead k0_pay1 k0_pay263
  pointwise []
  simp only [outRaw_at q hf v lb tile Φ hΦ hr n]
  rfl

include hΦ hr in
/-- The state of a sequence after its tokens. -/
theorem stateHead_at (c d : Fin 128) : stateHead n hf v lb (tile n) (ix4 0 0 c d)
    = state (seqGate n hf lb) (seqRows n v) (fun c d => tile n (ix4 0 0 c d)) c d := by
  have h7 : ∀ f : Fin 8 → ℝ, (∑ s : Fin 8, if s ≤ 7 then f s else 0) = ∑ s, f s := fun f =>
    Finset.sum_congr rfl fun s _ => if_pos (Fin.le_last s)
  have hdec : decays hf lb (ix2 c ⟨n.val, by omega⟩) = Ideal.exp (cum (seqGate n hf lb) 7 c) := by
    unfold decays
    rw [total_sum _ (fun r c => Real.log (Φ r c) * (Real.log 2)⁻¹) (logs_real hf lb Φ hΦ hr) n c _ rfl, cum_eq hf lb Φ hΦ hr, Ideal.exp_coe, ← exp2_eq]
    unfold cumR
    rw [h7, Finset.sum_mul]
  have hrow : ∀ (u : Fin 8) (h : (row n u).val / 8 * 8 + 7 < 128), (⟨(row n u).val / 8 * 8 + 7, h⟩ : Fin 128) = row n 7 := fun u h =>
    Fin.ext (by show (row n u).val / 8 * 8 + 7 = 8 * n.val + 7; rw [row_div]; omega)
  have hkd : ∀ s : Fin 8, k0_pay59 (k0_pay13 hf lb) (runSum hf lb) (ix2 (row n s) c)
      = (1 - seqGate n hf lb s c) * Ideal.exp (cum (seqGate n hf lb) 7 c - cum (seqGate n hf lb) s c) := by
    intro s
    unfold k0_pay59
    pointwise []
    rw [hrow, runSum_at hf lb Φ hΦ hr, runSum_at hf lb Φ hΦ hr, cum_eq hf lb Φ hΦ hr, cum_eq hf lb Φ hΦ hr, key_at, ← EReal.coe_sub, ← EReal.coe_sub, ← sub_mul, Ideal.exp_coe, ← exp2_eq]
    rfl
  unfold stateHead
  rw [state_raw, hdec, mul_comm]
  unfold state
  refine congrArg₂ (· + ·) rfl (Finset.sum_congr rfl fun s _ => ?_)
  rw [hkd]
  rfl

end

end Cert.KernelIdeal.Head

end
-- ==== Proof.HgrnBlock.lean ====
/-
  One block of the recurrence kernel over the extended reals: its output block and its state block, entry by entry, are
  the recurrence of the entry's sequence and head.
-/
module

public import proofs.«01_k».proof.Proof.HgrnHeadAt
public import Idealize.ShloMosaic.Lib.Pipeline.ValueKit

@[expose] public section

set_option maxRecDepth 16384

noncomputable section

namespace Cert.KernelIdeal.Head

open Cert.KernelIdeal Cert.KernelIdeal.Gen Idealize.ShloMosaic Idealize.SL.Sem
open Cert.Hgrn (gate bound raw outp state row)

/-- Column `c` of head `hh` in a block of four heads. -/
def bcol (hh : Fin 4) (c : Fin 128) : Fin 512 := ⟨128 * hh.val + c.val, by omega⟩

theorem ld_cols (x : Vec Ideal S128x512 .f32) (hh : Fin 4) (r c : Fin 128) :
    View.ld x (colRect hh) (ix2 r c) = x (ix2 r (bcol hh c)) := by
  show x _ = x _
  congr 1
  funext a
  fin_cases a
  · apply Fin.ext; show 0 + 1 * r.val = r.val; omega
  · apply Fin.ext; show 128 * hh.val + 1 * c.val = 128 * hh.val + c.val; omega

theorem ld_tile (x : Vec Ideal S16x4x128x128 .f32) (n : Fin 16) (hh : Fin 4) (c d : Fin 128) :
    View.ld x (tileRect n hh) (ix4 0 0 c d) = x (ix4 n hh c d) := by
  show x _ = x _
  congr 1
  funext a
  fin_cases a
  · apply Fin.ext; show n.val + 1 * 0 = n.val; omega
  · apply Fin.ext; show hh.val + 1 * 0 = hh.val; omega
  · apply Fin.ext; show 0 + 1 * c.val = c.val; omega
  · apply Fin.ext; show 0 + 1 * d.val = d.val; omega

theorem zero2 : (![0, 0] : Fin 2 → Nat) = fun _ => 0 := funext fun a => by fin_cases a <;> rfl

/-- The block's lower bound. -/
theorem lb_at (x4 : Vec Ideal S2x512 .f32) (hh : Fin 4) (c : Fin 128) :
    part hh (k0_pay3 (View.ld x4 r0_0)) (ix2 0 c) = bound fun i => x4 (ix2 i (bcol hh c)) := by
  rw [View.ld_unit_zero zero2]
  unfold k0_pay3 part
  pointwise []
  rw [Fin.sum_univ_one]
  rfl

/-- The block's scale of the norm. -/
theorem gn_at (x5 : Vec Ideal S1x512 .f32) (hh : Fin 4) (c : Fin 128) :
    part hh (k0_pay4 (View.ld x5 r0_1)) (ix2 0 c) = x5 (ix2 0 (bcol hh c)) := by
  rw [View.ld_unit_zero zero2]
  unfold k0_pay4 part
  pointwise []
  try rfl

/-- The logits of the lower bound are numbers of size at most four. -/
def Small (x4 : Vec Ideal S2x512 .f32) : Prop := ∀ (i : Fin 2) (c : Fin 512), ∃ r : ℝ, x4 (ix2 i c) = r ∧ |r| ≤ 4

/-- The gates of a block. -/
def bgate (x1 : Vec Ideal S128x512 .f32) (x4 : Vec Ideal S2x512 .f32) (hh : Fin 4) (r c : Fin 128) : EReal :=
  gate (bound fun i => x4 (ix2 i (bcol hh c))) (x1 (ix2 r (bcol hh c)))

theorem gate_range (x1 : Vec Ideal S128x512 .f32) (x4 : Vec Ideal S2x512 .f32) (h : Small x4) (hh : Fin 4) :
    ∃ Φ : Fin 128 → Fin 128 → ℝ, (∀ r c, bgate x1 x4 hh r c = Φ r c) ∧ ∀ r c, (2 : ℝ) ^ (-14 : ℤ) ≤ Φ r c ∧ Φ r c ≤ 1 := by
  have : ∀ r c, ∃ f : ℝ, bgate x1 x4 hh r c = f ∧ (2 : ℝ) ^ (-14 : ℤ) ≤ f ∧ f ≤ 1 := by
    intro r c
    obtain ⟨l, hl, hlo, hhi⟩ := Hgrn.bound_real (fun i => x4 (ix2 i (bcol hh c))) fun i => h i _
    obtain ⟨f, hf, h0, h1⟩ := Hgrn.gate_real l hhi (x1 (ix2 r (bcol hh c)))
    refine ⟨f, ?_, hlo.trans h0, h1⟩
    unfold bgate
    rw [hl, hf]
  choose Φ hΦ hr using this
  exact ⟨Φ, hΦ, hr⟩

variable (x0 x1 x2 x3 : Vec Ideal S128x512 .f32) (x4 : Vec Ideal S2x512 .f32) (x5 : Vec Ideal S1x512 .f32) (x6 : Vec Ideal S16x4x128x128 .f32)

/-- Rows of sequence `n` at head `hh`. -/
def brows (x : Vec Ideal S128x512 .f32) (n : Fin 16) (hh : Fin 4) (t : Fin 8) (c : Fin 128) : EReal := x (ix2 (row n t) (bcol hh c))

/-- The outputs of a block at sequence `n`, head `hh`. -/
theorem outOf_at (h : Small x4) (hh : Fin 4) (n : Fin 16) (t : Fin 8) (d : Fin 128) :
    outOf x0 x1 x2 x3 x4 x5 x6 hh (ix2 (row n t) d)
      = outp (raw (brows x0 n hh) (fun t c => bgate x1 x4 hh (row n t) c) (brows x2 n hh) (fun c d => x6 (ix4 n hh c d)) t)
          (brows x3 n hh t) (fun c => x5 (ix2 0 (bcol hh c))) d := by
  obtain ⟨Φ, hΦ, hr⟩ := gate_range x1 x4 h hh
  have hg : ∀ r c, gate (part hh (k0_pay3 (View.ld x4 r0_0)) (ix2 0 c)) (View.ld x1 (colRect hh) (ix2 r c)) = bgate x1 x4 hh r c := by
    intro r c
    rw [lb_at, ld_cols]; rfl
  unfold outOf
  rw [outHead_at _ _ _ _ _ _ _ Φ (fun r c => (hg r c).trans (hΦ r c)) hr n t d]
  have e0 : seqRows n (View.ld x0 (colRect hh)) = brows x0 n hh := funext fun t => funext fun c => ld_cols x0 hh _ _
  have e2 : seqRows n (View.ld x2 (colRect hh)) = brows x2 n hh := funext fun t => funext fun c => ld_cols x2 hh _ _
  have e3 : seqRows n (View.ld x3 (colRect hh)) = brows x3 n hh := funext fun t => funext fun c => ld_cols x3 hh _ _
  have e1 : seqGate n (View.ld x1 (colRect hh)) (part hh (k0_pay3 (View.ld x4 r0_0))) = fun t c => bgate x1 x4 hh (row n t) c :=
    funext fun t => funext fun c => hg _ _
  have e6 : (fun c d => View.ld x6 (tileRect n hh) (ix4 0 0 c d)) = fun c d => x6 (ix4 n hh c d) :=
    funext fun c => funext fun d => ld_tile x6 n hh c d
  have e5 : (fun c => part hh (k0_pay4 (View.ld x5 r0_1)) (ix2 0 c)) = fun c => x5 (ix2 0 (bcol hh c)) := funext fun c => gn_at x5 hh c
  rw [e0, e1, e2, e3, e6, e5]

/-- The states of a block at sequence `n`, head `hh`. -/
theorem stateOf_at (h : Small x4) (hh : Fin 4) (n : Fin 16) (c d : Fin 128) :
    stateOf x1 x2 x4 x6 n hh (ix4 0 0 c d)
      = state (fun t c => bgate x1 x4 hh (row n t) c) (brows x2 n hh) (fun c d => x6 (ix4 n hh c d)) c d := by
  obtain ⟨Φ, hΦ, hr⟩ := gate_range x1 x4 h hh
  have hg : ∀ r c, gate (part hh (k0_pay3 (View.ld x4 r0_0)) (ix2 0 c)) (View.ld x1 (colRect hh) (ix2 r c)) = bgate x1 x4 hh r c := by
    intro r c
    rw [lb_at, ld_cols]; rfl
  unfold stateOf
  rw [stateHead_at _ _ _ (fun n => View.ld x6 (tileRect n hh)) Φ (fun r c => (hg r c).trans (hΦ r c)) hr n c d]
  have e2 : seqRows n (View.ld x2 (colRect hh)) = brows x2 n hh := funext fun t => funext fun c => ld_cols x2 hh _ _
  have e1 : seqGate n (View.ld x1 (colRect hh)) (part hh (k0_pay3 (View.ld x4 r0_0))) = fun t c => bgate x1 x4 hh (row n t) c :=
    funext fun t => funext fun c => hg _ _
  have e6 : (fun c d => View.ld x6 (tileRect n hh) (ix4 0 0 c d)) = fun c d => x6 (ix4 n hh c d) :=
    funext fun c => funext fun d => ld_tile x6 n hh c d
  rw [e1, e2, e6]

/-- The output block, entry by entry. -/
theorem out7_at (h : Small x4) (hh : Fin 4) (n : Fin 16) (t : Fin 8) (d : Fin 128) :
    out0_7 x0 x1 x2 x3 x4 x5 x6 (ix2 (row n t) (bcol hh d))
      = outp (raw (brows x0 n hh) (fun t c => bgate x1 x4 hh (row n t) c) (brows x2 n hh) (fun c d => x6 (ix4 n hh c d)) t)
          (brows x3 n hh t) (fun c => x5 (ix2 0 (bcol hh c))) d := by
  rw [← outOf_at x0 x1 x2 x3 x4 x5 x6 h hh n t d, out7_eq]
  refine View.canon_eq_of_allAt _ _ _ (View.cover_of_tiled_head r0_5 _ _ rfl _) ?_
  have key : ∀ hh' : Fin 4, View.RectAt (Val := Elt Ideal) (e := .bf16) (ix2 (row n t) (bcol hh d)) (colRect hh') (outOf x0 x1 x2 x3 x4 x5 x6 hh') (outOf x0 x1 x2 x3 x4 x5 x6 hh (ix2 (row n t) d)) := by
    intro hh' x hx
    have h0 : 0 + 1 * (x 0).val = (row n t).val := congrArg Fin.val (congrFun hx 0)
    have h1 : 128 * hh'.val + 1 * (x 1).val = 128 * hh.val + d.val := congrArg Fin.val (congrFun hx 1)
    have hx1 : (x 1).val < 128 := (x 1).isLt
    have e : hh' = hh := by apply Fin.ext; omega
    subst e
    congr 1
    funext a
    fin_cases a
    · apply Fin.ext; show (x 0).val = (row n t).val; omega
    · apply Fin.ext; show (x 1).val = d.val; omega
  exact View.allAt_cons _ _ _ (key 3) (View.allAt_cons _ _ _ (key 2) (View.allAt_cons _ _ _ (key 1) (View.allAt_cons _ _ _ (key 0) (View.allAt_nil _ _))))

/-- The state block, entry by entry. -/
theorem out8_at (h : Small x4) (hh : Fin 4) (n : Fin 16) (c d : Fin 128) :
    out0_8 x0 x1 x2 x3 x4 x5 x6 (ix4 n hh c d)
      = state (fun t c => bgate x1 x4 hh (row n t) c) (brows x2 n hh) (fun c d => x6 (ix4 n hh c d)) c d := by
  refine (congrFun (out8_eq x0 x1 x2 x3 x4 x5 x6) _).trans (Eq.trans ?_ (stateOf_at x1 x2 x4 x6 h hh n c d))
  refine View.canon_ofFn_eq_of_forall (Val := Elt Ideal) (e := .f32) (fun k : Fin 64 => tileRect ⟨15 - k.val / 4, by omega⟩ ⟨3 - k.val % 4, by omega⟩)
    (fun k => stateOf x1 x2 x4 x6 ⟨15 - k.val / 4, by omega⟩ ⟨3 - k.val % 4, by omega⟩) (ix4 n hh c d) (stateOf x1 x2 x4 x6 n hh (ix4 0 0 c d)) ?_ ?_
  · refine ⟨⟨4 * (15 - n.val) + (3 - hh.val), by omega⟩, ?_⟩
    rw [Rect.mem_set_unit]
    intro a
    fin_cases a
    · show 15 - (4 * (15 - n.val) + (3 - hh.val)) / 4 ≤ n.val ∧ n.val < 15 - (4 * (15 - n.val) + (3 - hh.val)) / 4 + 1; omega
    · show 3 - (4 * (15 - n.val) + (3 - hh.val)) % 4 ≤ hh.val ∧ hh.val < 3 - (4 * (15 - n.val) + (3 - hh.val)) % 4 + 1; omega
    · show 0 ≤ c.val ∧ c.val < 0 + 128; omega
    · show 0 ≤ d.val ∧ d.val < 0 + 128; omega
  · intro k x hx
    have h0 : (15 - k.val / 4) + 1 * (x 0).val = n.val := congrArg Fin.val (congrFun hx 0)
    have h1 : (3 - k.val % 4) + 1 * (x 1).val = hh.val := congrArg Fin.val (congrFun hx 1)
    have h2 : 0 + 1 * (x 2).val = c.val := congrArg Fin.val (congrFun hx 2)
    have h3 : 0 + 1 * (x 3).val = d.val := congrArg Fin.val (congrFun hx 3)
    have l0 : (x 0).val < 1 := (x 0).isLt
    have l1 : (x 1).val < 1 := (x 1).isLt
    have en : (⟨15 - k.val / 4, by omega⟩ : Fin 16) = n := by apply Fin.ext; show 15 - k.val / 4 = n.val; omega
    have eh : (⟨3 - k.val % 4, by omega⟩ : Fin 4) = hh := by apply Fin.ext; show 3 - k.val % 4 = hh.val; omega
    show stateOf x1 x2 x4 x6 _ _ x = _
    rw [en, eh]
    congr 1
    funext a
    fin_cases a
    · apply Fin.ext; show (x 0).val = 0; omega
    · apply Fin.ext; show (x 1).val = 0; omega
    · apply Fin.ext; show (x 2).val = c.val; omega
    · apply Fin.ext; show (x 3).val = d.val; omega

end Cert.KernelIdeal.Head

end
-- ==== Proof.HgrnKernel.lean ====
/-
  The recurrence kernel's run over the extended reals: its two result arrays are the recurrence over the argument arrays.
-/
module

public import proofs.«01_k».proof.Proof.HgrnBlock

@[expose] public section

set_option maxRecDepth 16384

noncomputable section

namespace Cert.KernelIdeal.Whole

open Cert.KernelIdeal Cert.KernelIdeal.Gen Cert.KernelIdeal.Head Idealize.ShloMosaic Idealize.ShloMosaic.TcCoe Idealize.SL.Sem
open Idealize.ShloMosaic.Pipeline (Dat)
open Cert.Hgrn (row tok col pcol outArr stateArr Bounded gates)

variable (m : (ℓ : Loc nD τ sig) → Buf (Elt Ideal) ℓ) (ρ : Dev nD → PrngReg) (c : Dev nD)

/-- The projection, the logits of the lower bound, the norm's scale and the states at entry. -/
abbrev A0 : (⟨2, ![1024, 9216]⟩ : Shape).Idx → EReal := m ((c : Thread nD τ).loc main_arg0)
abbrev A1 : (⟨2, ![2, 2048]⟩ : Shape).Idx → EReal := m ((c : Thread nD τ).loc main_arg1)
abbrev A2 : (⟨2, ![1, 2048]⟩ : Shape).Idx → EReal := m ((c : Thread nD τ).loc main_arg2)
abbrev A3 : (⟨5, ![1, 128, 16, 128, 128]⟩ : Shape).Idx → EReal := m ((c : Thread nD τ).loc main_arg3)

theorem idx0 : ∀ t : Fin cfg0.N, win0_0.index t = ![t.val / 4, t.val % 4] ∧ win0_1.index t = ![t.val / 4, 4 + t.val % 4]
    ∧ win0_2.index t = ![t.val / 4, 8 + t.val % 4] ∧ win0_3.index t = ![t.val / 4, 12 + t.val % 4] ∧ win0_4.index t = ![0, t.val % 4]
    ∧ win0_5.index t = ![0, t.val % 4] ∧ win0_6.index t = ![t.val / 4, t.val % 4, 0, 0] ∧ win0_7.index t = ![t.val / 4, t.val % 4]
    ∧ win0_8.index t = ![t.val / 4, t.val % 4, 0, 0] :=
  (by decide +kernel : ∀ t : Fin grid0.N, win0_0.index t = ![t.val / 4, t.val % 4] ∧ win0_1.index t = ![t.val / 4, 4 + t.val % 4]
    ∧ win0_2.index t = ![t.val / 4, 8 + t.val % 4] ∧ win0_3.index t = ![t.val / 4, 12 + t.val % 4] ∧ win0_4.index t = ![0, t.val % 4]
    ∧ win0_5.index t = ![0, t.val % 4] ∧ win0_6.index t = ![t.val / 4, t.val % 4, 0, 0] ∧ win0_7.index t = ![t.val / 4, t.val % 4]
    ∧ win0_8.index t = ![t.val / 4, t.val % 4, 0, 0])

theorem lt_N (t : Fin cfg0.N) : t.val < 32 := t.isLt

/-- The sequence a point's block has at place `n`, and the head it has at place `hh`. -/
def seqOf (t : Fin cfg0.N) (n : Fin 16) : Fin 128 := ⟨t.val / 4 * 16 + n.val, by have := lt_N t; omega⟩
def headOf (t : Fin cfg0.N) (hh : Fin 4) : Fin 16 := ⟨t.val % 4 * 4 + hh.val, by omega⟩

theorem read0 (t : Fin cfg0.N) (n : Fin 16) (hh : Fin 4) (s : Fin 8) (d : Fin 128) :
    iblk m c 0 t (ix2 (row n s) (bcol hh d)) = Hgrn.part (A0 m c) 0 (seqOf t n) (headOf t hh) s d := by
  have := lt_N t
  unfold Hgrn.part
  blk_ext [iblk, V, idx0 t, row, bcol, tok, pcol, seqOf, headOf]

theorem read1 (t : Fin cfg0.N) (n : Fin 16) (hh : Fin 4) (s : Fin 8) (d : Fin 128) :
    iblk m c 1 t (ix2 (row n s) (bcol hh d)) = Hgrn.part (A0 m c) 1 (seqOf t n) (headOf t hh) s d := by
  have := lt_N t
  unfold Hgrn.part
  blk_ext [iblk, V, idx0 t, row, bcol, tok, pcol, seqOf, headOf]

theorem read2 (t : Fin cfg0.N) (n : Fin 16) (hh : Fin 4) (s : Fin 8) (d : Fin 128) :
    iblk m c 2 t (ix2 (row n s) (bcol hh d)) = Hgrn.part (A0 m c) 2 (seqOf t n) (headOf t hh) s d := by
  have := lt_N t
  unfold Hgrn.part
  blk_ext [iblk, V, idx0 t, row, bcol, tok, pcol, seqOf, headOf]

theorem read3 (t : Fin cfg0.N) (n : Fin 16) (hh : Fin 4) (s : Fin 8) (d : Fin 128) :
    iblk m c 3 t (ix2 (row n s) (bcol hh d)) = Hgrn.part (A0 m c) 3 (seqOf t n) (headOf t hh) s d := by
  have := lt_N t
  unfold Hgrn.part
  blk_ext [iblk, V, idx0 t, row, bcol, tok, pcol, seqOf, headOf]

theorem read4 (t : Fin cfg0.N) (i : Fin 2) (hh : Fin 4) (d : Fin 128) :
    iblk m c 4 t (ix2 i (bcol hh d)) = A1 m c (ix2 i (col (headOf t hh) d)) := by
  have := lt_N t
  blk_ext [iblk, V, idx0 t, bcol, col, headOf]

theorem read5 (t : Fin cfg0.N) (hh : Fin 4) (d : Fin 128) :
    iblk m c 5 t (ix2 0 (bcol hh d)) = A2 m c (ix2 0 (col (headOf t hh) d)) := by
  have := lt_N t
  blk_ext! [iblk, V, idx0 t, bcol, col, headOf]

theorem read6 (t : Fin cfg0.N) (n : Fin 16) (hh : Fin 4) (a d : Fin 128) :
    iblk m c 6 t (ix4 n hh a d) = A3 m c (ix5 0 (seqOf t n) (headOf t hh) a d) := by
  have := lt_N t
  blk_ext! [iblk, V, idx0 t, seqOf, headOf]

variable (hb : Bounded (A1 m c))
include hb

theorem small (t : Fin cfg0.N) : Small (iblk m c 4 t) := by
  intro i C
  have e : C = bcol ⟨C.val / 128, by omega⟩ ⟨C.val % 128, by omega⟩ := by
    apply Fin.ext; show C.val = 128 * (C.val / 128) + C.val % 128; omega
  obtain ⟨r, hr, h4⟩ := hb i (col (headOf t ⟨C.val / 128, by omega⟩) ⟨C.val % 128, by omega⟩)
  refine ⟨r, ?_, h4⟩
  rw [← hr, ← read4, ← e]

omit hb in
theorem gates_eq (t : Fin cfg0.N) (hh : Fin 4) (n : Fin 16) :
    (fun s d => bgate (iblk m c 1 t) (iblk m c 4 t) hh (row n s) d) = gates (A0 m c) (A1 m c) (seqOf t n) (headOf t hh) := by
  funext s d
  unfold bgate gates
  rw [read1 m c t n hh s d]
  congr 2
  funext i
  exact read4 m c t i hh d

omit hb in
theorem state_eq (t : Fin cfg0.N) (hh : Fin 4) (n : Fin 16) :
    (fun a d => iblk m c 6 t (ix4 n hh a d)) = fun a d => A3 m c (ix5 0 (seqOf t n) (headOf t hh) a d) :=
  funext fun a => funext fun d => read6 m c t n hh a d

/-- What point `t` writes back of the outputs. -/
theorem block7 (t : Fin cfg0.N) (n : Fin 16) (hh : Fin 4) (s : Fin 8) (d : Fin 128) :
    out0_7 (iblk m c 0 t) (iblk m c 1 t) (iblk m c 2 t) (iblk m c 3 t) (iblk m c 4 t) (iblk m c 5 t) (iblk m c 6 t) (ix2 (row n s) (bcol hh d))
      = Hgrn.outs (A0 m c) (A1 m c) (A2 m c) (A3 m c) (seqOf t n) (headOf t hh) s d := by
  rw [out7_at _ _ _ _ _ _ _ (small m c hb t) hh n s d]
  unfold Hgrn.outs Hgrn.raws
  rw [gates_eq, state_eq, show brows (iblk m c 0 t) n hh = _ from funext fun s => funext fun d => read0 m c t n hh s d,
    show brows (iblk m c 2 t) n hh = _ from funext fun s => funext fun d => read2 m c t n hh s d,
    show brows (iblk m c 3 t) n hh = _ from funext fun s => funext fun d => read3 m c t n hh s d,
    show (fun d => iblk m c 5 t (ix2 0 (bcol hh d))) = _ from funext fun d => read5 m c t hh d]

/-- What point `t` writes back of the states. -/
theorem block8 (t : Fin cfg0.N) (n : Fin 16) (hh : Fin 4) (a d : Fin 128) :
    out0_8 (iblk m c 0 t) (iblk m c 1 t) (iblk m c 2 t) (iblk m c 3 t) (iblk m c 4 t) (iblk m c 5 t) (iblk m c 6 t) (ix4 n hh a d)
      = Hgrn.states (A0 m c) (A1 m c) (A3 m c) (seqOf t n) (headOf t hh) a d := by
  rw [out8_at _ _ _ _ _ _ _ (small m c hb t) hh n a d]
  unfold Hgrn.states
  rw [gates_eq, state_eq, show brows (iblk m c 2 t) n hh = _ from funext fun s => funext fun d => read2 m c t n hh s d]

omit hb in
theorem ix2_split (y : S128x512.Idx) : ∃ n hh s d, y = ix2 (row n s) (bcol hh d) := by
  have h0 : (y 0).val < 128 := (y 0).isLt
  have h1 : (y 1).val < 512 := (y 1).isLt
  refine ⟨⟨(y 0).val / 8, by omega⟩, ⟨(y 1).val / 128, by omega⟩, ⟨(y 0).val % 8, by omega⟩, ⟨(y 1).val % 128, by omega⟩, ?_⟩
  funext a
  fin_cases a
  · apply Fin.ext; show (y 0).val = 8 * ((y 0).val / 8) + (y 0).val % 8; omega
  · apply Fin.ext; show (y 1).val = 128 * ((y 1).val / 128) + (y 1).val % 128; omega

set_option maxHeartbeats 1000000 in
theorem final7 : (dats m 0 c).arrAt 7 cfg0.N = outArr (A0 m c) (A1 m c) (A2 m c) (A3 m c) := by
  refine (dats m 0 c).arrAt_eq_of_covers 7 _ (by decide +kernel) fun t hf y => ?_
  rw [after0_7]
  have := lt_N t
  have hX := block7 m c hb t
  generalize out0_7 (iblk m c 0 t) (iblk m c 1 t) (iblk m c 2 t) (iblk m c 3 t) (iblk m c 4 t) (iblk m c 5 t) (iblk m c 6 t) = X at hX ⊢
  obtain ⟨n, hh, s, d, hy⟩ := ix2_split y
  have e0 : (y 0).val = 8 * n.val + s.val := congrArg Fin.val (congrFun hy 0)
  have e1 : (y 1).val = 128 * hh.val + d.val := congrArg Fin.val (congrFun hy 1)
  refine Eq.trans ?_ ((hX n hh s d).trans ?_)
  · show X y = _
    rw [hy]
  · unfold outArr
    blk_simp [idx0 t]
    congr 1
    · apply Fin.ext; show t.val / 4 * 16 + n.val = (t.val / 4 * 128 + (y 0).val) / 8; omega
    · apply Fin.ext; show t.val % 4 * 4 + hh.val = (t.val % 4 * 512 + (y 1).val) / 128; omega
    · apply Fin.ext; show s.val = (t.val / 4 * 128 + (y 0).val) % 8; omega
    · apply Fin.ext; show d.val = (t.val % 4 * 512 + (y 1).val) % 128; omega

set_option maxHeartbeats 1000000 in
theorem final8 : (dats m 0 c).arrAt 8 cfg0.N = stateArr (A0 m c) (A1 m c) (A3 m c) := by
  refine (dats m 0 c).arrAt_eq_of_covers 8 _ (by decide +kernel) fun t hf y => ?_
  rw [after0_8]
  have := lt_N t
  have hX := block8 m c hb t
  generalize out0_8 (iblk m c 0 t) (iblk m c 1 t) (iblk m c 2 t) (iblk m c 3 t) (iblk m c 4 t) (iblk m c 5 t) (iblk m c 6 t) = X at hX ⊢
  have hy : y = ix4 (y 0) (y 1) (y 2) (y 3) := funext fun a => by fin_cases a <;> rfl
  refine Eq.trans ?_ ((hX (y 0) (y 1) (y 2) (y 3)).trans ?_)
  · show X y = _
    exact congrArg X hy
  · unfold stateArr
    congr 1
    all_goals (apply Fin.ext; blk_simp [idx0 t, seqOf, headOf])

omit hb in
/-- The run: the outputs and the states are the recurrence over the arguments, which end as they were. -/
theorem run (hb : ∀ c, Bounded (A1 m c)) : θ_run defs (onTc (τ := τ) (main (F := Ideal))) ⟨m, fun _ => 0, ρ⟩ fun r => ∀ c : Dev nD,
      r.2.mem ((c : Thread nD τ).loc main_v3_0) = outArr (A0 m c) (A1 m c) (A2 m c) (A3 m c)
      ∧ r.2.mem ((c : Thread nD τ).loc main_v3_1) = stateArr (A0 m c) (A1 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final7 m c (hb c)), (h c).2.1.trans (final8 m c (hb c)), (h c).2.2⟩)
    (Value.run_blocks m ρ)

end Cert.KernelIdeal.Whole

end
-- ==== Proof.HgrnRef.lean ====
/-
  The reference's two results, in stages: lower bound, forget gate, running sums, scores, outputs.
-/
module

public import proofs.«01_k».proof.Proof.Gen.ReferenceIdeal.Run

@[expose] public section

set_option maxRecDepth 16384

noncomputable section

namespace Cert.ReferenceIdeal.Stage

open Cert.ReferenceIdeal Cert.ReferenceIdeal.Gen Idealize.ShloMosaic Idealize.ShloMosaic.TcCoe Idealize.SL.Sem

variable {F : FTy → Type} [FloatOps F]

/-- The exponentials of the softmax over the layers. -/
def expo (x1 : FVec F S2x2048 .f32) : FVec F S2x2048 .f32 :=
  Host.exp (subf x1 (broadcastInDim S2x2048 ![0, 1] bcast_S1x2048_S2x2048_0_1 (broadcastInDim S1x2048 ![1] bcast_S2048_S1x2048_1
    (maximumf (broadcastInDim S2048 ![] bcast_S_S2048 (constant S_ .f32 0xFF800000#32))
      (Host.reduce FloatOps.maximumf x1 (constant S_ .f32 0xFF800000#32) reducesTo_S2x2048_S2048_d0 h_S_)))))

/-- A softmax from its exponentials. -/
def quot (e : FVec F S2x2048 .f32) : FVec F S2x2048 .f32 :=
  Host.divf e (broadcastInDim S2x2048 ![0, 1] bcast_S1x2048_S2x2048_0_1 (broadcastInDim S1x2048 ![1] bcast_S2048_S1x2048_1
    (Host.reduceAdd e (constant S_ .f32 0x00000000#32) reducesTo_S2x2048_S2048_d0 h_S_)))

/-- The running sum over the layers. -/
def layerSum (sm : FVec F S2x2048 .f32) : FVec F S2x2048 .f32 :=
  Host.reduceWindowAdd ![2, 1] ![1, 1] ![1, 0] ![0, 0] sm (broadcastInDim S_ ![] bcast_S_S_ (constant S_ .f32 0x00000000#32)) reduceWindows_S2x2048_S2x2048_w2s1p1_0_w1s1p0_0 h_S_

/-- The lower bound of the gate, from the running sum and the softmax. -/
def bound (cs sm : FVec F S2x2048 .f32) : FVec F S2048 .f32 :=
  shapeCast _ (subf (extractStridedSlice S1x2048 ![1, 0] cs slices_S2x2048_S1x2048_1_0)
    (broadcastInDim S1x2048 ![1] bcast_S2048_S1x2048_1 (shapeCast _ (extractStridedSlice S1x2048 ![0, 0] sm slices_S2x2048_S1x2048_0_0) shapeCasts_S1x2048_S2048))) shapeCasts_S1x2048_S2048

/-- The lower bound of the gate. -/
def lb (x1 : FVec F S2x2048 .f32) : FVec F S2048 .f32 := bound (layerSum (quot (expo x1))) (quot (expo x1))

/-- The tokens by sequence. -/
def zs (x0 : FVec F S1024x9216 .f32) : FVec F S128x8x8192 .f32 :=
  shapeCast _ (extractStridedSlice S1024x8192 ![0, 0] x0 slices_S1024x9216_S1024x8192_0_0) shapeCasts_S1024x8192_S128x8x8192

/-- The sigmoid, as it is spelled out. -/
def sigm (x : FVec F S128x8x2048 .f32) : FVec F S128x8x2048 .f32 :=
  Host.divf (broadcastInDim S128x8x2048 ![] bcast_S_S128x8x2048 (constant S_ .f32 0x3F800000#32))
    (addf (broadcastInDim S128x8x2048 ![] bcast_S_S128x8x2048 (constant S_ .f32 0x3F800000#32)) (Host.exp (Host.negf x)))

/-- The forget gate. -/
def forget (b : FVec F S2048 .f32) (s : FVec F S128x8x2048 .f32) : FVec F S128x8x2048 .f32 :=
  addf (broadcastInDim S128x8x2048 ![0, 1, 2] bcast_S1x1x2048_S128x8x2048_0_1_2 (broadcastInDim S1x1x2048 ![2] bcast_S2048_S1x1x2048_2 b))
    (mulf (broadcastInDim S128x8x2048 ![0, 1, 2] bcast_S1x1x2048_S128x8x2048_0_1_2 (broadcastInDim S1x1x2048 ![2] bcast_S2048_S1x1x2048_2
      (subf (broadcastInDim S2048 ![] bcast_S_S2048 (constant S_ .f32 0x3F800000#32)) b))) s)

/-- The forget gate of every token. -/
def gate (x0 : FVec F S1024x9216 .f32) (x1 : FVec F S2x2048 .f32) : FVec F S128x8x2048 .f32 :=
  forget (lb x1) (sigm (extractStridedSlice S128x8x2048 ![0, 0, 2048] (zs x0) slices_S128x8x8192_S128x8x2048_0_0_2048))

/-- The keys. -/
def keys (f : FVec F S128x8x2048 .f32) : FVec F S128x8x16x128 .f32 :=
  shapeCast _ (subf (broadcastInDim S128x8x2048 ![] bcast_S_S128x8x2048 (constant S_ .f32 0x3F800000#32)) f) shapeCasts_S128x8x2048_S128x8x16x128

/-- The logarithms of the gate, by head. -/
def logs (f : FVec F S128x8x2048 .f32) : FVec F S128x8x16x128 .f32 :=
  shapeCast _ (Host.log f) shapeCasts_S128x8x2048_S128x8x16x128

/-- The running sums over a sequence. -/
def tokenSum (l : FVec F S128x8x16x128 .f32) : FVec F S128x8x16x128 .f32 :=
  Host.reduceWindowAdd ![1, 8, 1, 1] ![1, 1, 1, 1] ![0, 7, 0, 0] ![0, 0, 0, 0] l (broadcastInDim S_ ![] bcast_S_S_ (constant S_ .f32 0x00000000#32)) reduceWindows_S128x8x16x128_S128x8x16x128_w1s1p0_0_w8s1p7_0_w1s1p0_0_w1s1p0_0 h_S_

/-- The running sums at the last token. -/
def lastSum (b : FVec F S128x8x16x128 .f32) : FVec F S128x16x128 .f32 :=
  shapeCast _ (extractStridedSlice S128x1x16x128 ![0, 7, 0, 0] b slices_S128x8x16x128_S128x1x16x128_0_7_0_0) shapeCasts_S128x1x16x128_S128x16x128

/-- The queries. -/
def queries (x0 : FVec F S1024x9216 .f32) : FVec F S128x8x16x128 .f32 :=
  shapeCast _ (extractStridedSlice S128x8x2048 ![0, 0, 0] (zs x0) slices_S128x8x8192_S128x8x2048_0_0_0) shapeCasts_S128x8x2048_S128x8x16x128

/-- The values. -/
def values (x0 : FVec F S1024x9216 .f32) : FVec F S128x8x16x128 .f32 :=
  shapeCast _ (extractStridedSlice S128x8x2048 ![0, 0, 4096] (zs x0) slices_S128x8x8192_S128x8x2048_0_0_4096) shapeCasts_S128x8x2048_S128x8x16x128

/-- The states at entry. -/
def state0 (x3 : FVec F S1x128x16x128x128 .f32) : FVec F S128x16x128x128 .f32 :=
  shapeCast _ x3 shapeCasts_S1x128x16x128x128_S128x16x128x128

/-- Which pairs of tokens are causal. -/
def causal : IVec S8x8 1 :=
  select (cmpi .sge (addi (iotaInDim S8x8 32 0) (broadcastInDim S8x8 ![] bcast_S_S8x8 (constantI S_ 32 0#32))) (iotaInDim S8x8 32 1))
    (broadcastInDim S8x8 ![] bcast_S_S8x8 (constantI S_ 1 1#1)) (broadcastInDim S8x8 ![] bcast_S_S8x8 (constantI S_ 1 0#1))

/-- The scores between the tokens of a sequence. -/
def scores (q k b : FVec F S128x8x16x128 .f32) : FVec F S128x8x8x16 .f32 :=
  Host.reduceAdd (mulf (mulf
      (broadcastInDim S128x8x8x16x128 ![0, 1, 2, 3, 4] bcast_S128x8x1x16x128_S128x8x8x16x128_0_1_2_3_4 (broadcastInDim S128x8x1x16x128 ![0, 1, 3, 4] bcast_S128x8x16x128_S128x8x1x16x128_0_1_3_4 q))
      (broadcastInDim S128x8x8x16x128 ![0, 1, 2, 3, 4] bcast_S128x1x8x16x128_S128x8x8x16x128_0_1_2_3_4 (broadcastInDim S128x1x8x16x128 ![0, 2, 3, 4] bcast_S128x8x16x128_S128x1x8x16x128_0_2_3_4 k)))
    (Host.exp (select (broadcastInDim S128x8x8x16x128 ![0, 1, 2, 3, 4] bcast_S1x8x8x1x1_S128x8x8x16x128_0_1_2_3_4 (broadcastInDim S1x8x8x1x1 ![1, 2] bcast_S8x8_S1x8x8x1x1_1_2 causal))
      (subf
        (broadcastInDim S128x8x8x16x128 ![0, 1, 2, 3, 4] bcast_S128x8x1x16x128_S128x8x8x16x128_0_1_2_3_4 (broadcastInDim S128x8x1x16x128 ![0, 1, 3, 4] bcast_S128x8x16x128_S128x8x1x16x128_0_1_3_4 b))
        (broadcastInDim S128x8x8x16x128 ![0, 1, 2, 3, 4] bcast_S128x1x8x16x128_S128x8x8x16x128_0_1_2_3_4 (broadcastInDim S128x1x8x16x128 ![0, 2, 3, 4] bcast_S128x8x16x128_S128x1x8x16x128_0_2_3_4 b)))
      (broadcastInDim S128x8x8x16x128 ![] bcast_S_S128x8x8x16x128 (id (constant S_ .f32 0xFF800000#32))))))
    (constant S_ .f32 0x00000000#32) reducesTo_S128x8x8x16x128_S128x8x8x16_d4 h_S_

/-- The outputs before their normalisation. -/
def outRaw (q v b : FVec F S128x8x16x128 .f32) (a : FVec F S128x8x8x16 .f32) (s0 : FVec F S128x16x128x128 .f32) : FVec F S128x8x16x128 .f32 :=
  addf (transpose S128x8x16x128 [0, 3, 1, 2] (Host.dotGeneral dot_S128x8x16x128_S128x8x8x16_S128x16x128x8_1_2_3_1_02_03 none v a) transposes_S128x16x128x8_S128x8x16x128_0_3_1_2)
    (transpose S128x8x16x128 [0, 3, 1, 2] (Host.dotGeneral dot_S128x16x128x128_S128x8x16x128_S128x16x128x8_2_3_3_1_01_02 none s0 (mulf q (Host.exp b))) transposes_S128x16x128x8_S128x8x16x128_0_3_1_2)

/-- The states after the tokens. -/
def stateEnd (k v b : FVec F S128x8x16x128 .f32) (e : FVec F S128x16x128 .f32) (s0 : FVec F S128x16x128x128 .f32) : FVec F S128x16x128x128 .f32 :=
  addf (mulf (broadcastInDim S128x16x128x128 ![0, 1, 2, 3] bcast_S128x16x128x1_S128x16x128x128_0_1_2_3 (broadcastInDim S128x16x128x1 ![0, 1, 2] bcast_S128x16x128_S128x16x128x1_0_1_2 (Host.exp e))) s0)
    (Host.dotGeneral dot_S128x8x16x128_S128x8x16x128_S128x16x128x128_1_1_3_3_02_02 none
      (mulf k (Host.exp (subf (broadcastInDim S128x8x16x128 ![0, 1, 2, 3] bcast_S128x1x16x128_S128x8x16x128_0_1_2_3 (broadcastInDim S128x1x16x128 ![0, 2, 3] bcast_S128x16x128_S128x1x16x128_0_2_3 e)) b))) v)

/-- The normalised outputs. -/
def normed (o : FVec F S128x8x16x128 .f32) (x2 : FVec F S1x2048 .f32) : FVec F S128x8x16x128 .f32 :=
  mulf (mulf o (broadcastInDim S128x8x16x128 ![0, 1, 2, 3] bcast_S128x8x16x1_S128x8x16x128_0_1_2_3 (Host.rsqrt (addf
    (Host.divf (broadcastInDim S128x8x16x1 ![0, 1, 2] bcast_S128x8x16_S128x8x16x1_0_1_2 (Host.reduceAdd (mulf o o) (constant S_ .f32 0x00000000#32) reducesTo_S128x8x16x128_S128x8x16_d3 h_S_))
      (broadcastInDim S128x8x16x1 ![] bcast_S_S128x8x16x1 (constant S_ .f32 0x43000000#32)))
    (broadcastInDim S128x8x16x1 ![] bcast_S_S128x8x16x1 (constant S_ .f32 0x358637BD#32))))))
    (broadcastInDim S128x8x16x128 ![0, 1, 2, 3] bcast_S1x1x16x128_S128x8x16x128_0_1_2_3 (broadcastInDim S1x1x16x128 ![2, 3] bcast_S16x128_S1x1x16x128_2_3 (shapeCast _ (shapeCast _ x2 shapeCasts_S1x2048_S2048) shapeCasts_S2048_S16x128)))

/-- The gated outputs. -/
def gated (y : FVec F S128x8x16x128 .f32) (hg : FVec F S128x8x2048 .f32) : FVec F S1024x2048 .bf16 :=
  truncf .bf16 (shapeCast _ (mulf (shapeCast _ y shapeCasts_S128x8x16x128_S128x8x2048) (mulf hg (sigm hg))) shapeCasts_S128x8x2048_S1024x2048) bitsLt_bf16_f32

/-- The running sums of the logarithms of the gate. -/
def sums (x0 : FVec F S1024x9216 .f32) (x1 : FVec F S2x2048 .f32) : FVec F S128x8x16x128 .f32 := tokenSum (logs (gate x0 x1))

/-- The outputs before their normalisation, from the arguments. -/
def raw (x0 : FVec F S1024x9216 .f32) (x1 : FVec F S2x2048 .f32) (x3 : FVec F S1x128x16x128x128 .f32) : FVec F S128x8x16x128 .f32 :=
  outRaw (queries x0) (values x0) (sums x0 x1) (scores (queries x0) (keys (gate x0 x1)) (sums x0 x1)) (state0 x3)

/-- The reference's states. -/
theorem res_state (m : (ℓ : Loc nD τ sig) → Buf (Elt F) ℓ) (c : Dev nD) (x0 : FVec F S1024x9216 .f32) (x1 : FVec F S2x2048 .f32) (x3 : FVec F S1x128x16x128x128 .f32)
    (h0 : m ((c.tc : Thread nD τ).loc main_arg0) = x0) (h1 : m ((c.tc : Thread nD τ).loc main_arg1) = x1) (h3 : m ((c.tc : Thread nD τ).loc main_arg3) = x3) :
    Value.res_main_v83 m c = stateEnd (keys (gate x0 x1)) (values x0) (sums x0 x1) (lastSum (sums x0 x1)) (state0 x3) := by
  subst h0 h1 h3; rfl

/-- The reference's outputs. -/
theorem res_out (m : (ℓ : Loc nD τ sig) → Buf (Elt F) ℓ) (c : Dev nD) (x0 : FVec F S1024x9216 .f32) (x1 : FVec F S2x2048 .f32) (x2 : FVec F S1x2048 .f32) (x3 : FVec F S1x128x16x128x128 .f32)
    (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) :
    Value.res_main_v103 m c = gated (normed (raw x0 x1 x3) x2) (extractStridedSlice S128x8x2048 ![0, 0, 6144] (zs x0) slices_S128x8x8192_S128x8x2048_0_0_6144) := by
  subst h0 h1 h2 h3; rfl

end Cert.ReferenceIdeal.Stage

end
-- ==== Proof.HgrnRefAt.lean ====
/-
  The reference's stages read at an index: its results are the recurrence of HgrnSpec.
-/
module

public import proofs.«01_k».proof.Proof.HgrnRef
public import proofs.«01_k».proof.Proof.HgrnSpec

@[expose] public section

set_option maxRecDepth 16384

noncomputable section

namespace Cert.ReferenceIdeal.Stage

open Cert.ReferenceIdeal Cert.ReferenceIdeal.Gen Idealize.ShloMosaic Idealize.ShloMosaic.TcCoe Idealize.SL.Sem Cert.Hgrn

theorem foldl_add {ι : Type} (g : ι → EReal) (L : List ι) (a : EReal) : L.foldl (fun r n => r + g n) a = a + (L.map g).sum := by
  induction L generalizing a with
  | nil => simp
  | cons b L ih => rw [List.foldl_cons, ih, List.map_cons, List.sum_cons, add_assoc]

/-- A window sum from zero is the sum over the window's positions. -/
theorem window_sum {s t u : Shape} (window strides lo hi : Fin s.rank → Nat) (x : FVec Ideal s .f32) (init : u.Idx → Ideal .f32)
    (h : s.ReduceWindows window strides lo hi t) (hu : 0 < u.numel) (hi0 : init (Shape.Idx.first hu) = 0) (j : t.Idx) :
    Host.reduceWindowAdd (F := Ideal) window strides lo hi x init h hu j
      = ∑ w : (⟨s.rank, window⟩ : Shape).Idx,
        (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else (0 : EReal)) := by
  unfold Host.reduceWindowAdd
  rw [hi0]
  show Host.reduceWindow (· + ·) window strides lo hi x (fun _ : (⟨0, ![]⟩ : Shape).Idx => (0 : EReal)) h (by decide) j = _
  unfold Host.reduceWindow
  rw [foldl_add, zero_add, ← List.ofFn_eq_map, List.sum_ofFn]
  refine Eq.trans (Finset.sum_congr rfl fun n _ => dite_congr rfl (fun _ => rfl) (fun _ => rfl)) (Equiv.sum_comp (⟨s.rank, window⟩ : Shape).rowMajor.symm fun w : (⟨s.rank, window⟩ : Shape).Idx =>
        (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else (0 : EReal)))

/-- The second running sum over the layers is the sum of both. -/
theorem layerSum_at (sm : FVec Ideal S2x2048 .f32) (c : Fin 2048) : layerSum sm (ix2 1 c) = sm (ix2 0 c) + sm (ix2 1 c) := by
  unfold layerSum
  rw [window_sum _ _ _ _ _ _ _ _ (by pointwise [])]
  refine (Fintype.sum_equiv (ι := _) (κ := Fin 2) ⟨fun w => w 0, fun n => ix2 n 0, fun w => ?_, fun n => rfl⟩ _ (fun n => sm (ix2 n c)) fun w => ?_).trans
    (Fin.sum_univ_two _)
  · funext a; match a with
    | ⟨0, _⟩ => rfl
    | ⟨1, _⟩ => exact Subsingleton.elim (α := Fin 1) _ _
  · have h0 : (w 0).val < 2 := (w 0).isLt
    have h1 : (w 1).val < 1 := (w 1).isLt
    have hc := c.isLt
    rw [dif_pos]
    · refine congrArg sm (funext fun a => ?_)
      match a with
      | ⟨0, _⟩ => refine Fin.ext ?_; show 1 * 1 + (w 0).val - 1 = (w 0).val; omega
      | ⟨1, _⟩ => refine Fin.ext ?_; show c.val * 1 + (w 1).val - 0 = c.val; omega
    · intro a
      match a with
      | ⟨0, _⟩ => show 1 ≤ 1 * 1 + (w 0).val ∧ 1 * 1 + (w 0).val - 1 < 2; omega
      | ⟨1, _⟩ => show 0 ≤ c.val * 1 + (w 1).val ∧ c.val * 1 + (w 1).val - 0 < 2048; omega

/-- The window over the tokens up to `t`, as a sum over the tokens. -/
theorem shift_sum (g : Fin 8 → EReal) (t : Fin 8) :
    (∑ n : Fin 8, if h : 7 ≤ t.val + n.val then g ⟨t.val + n.val - 7, by omega⟩ else 0) = ∑ s : Fin 8, if s ≤ t then g s else 0 := by
  fin_cases t <;> simp [Fin.sum_univ_eight]

/-- The running sums over a sequence. -/
theorem tokenSum_at (l : FVec Ideal S128x8x16x128 .f32) (b : Fin 128) (t : Fin 8) (h : Fin 16) (c : Fin 128) :
    tokenSum l (ix4 b t h c) = ∑ s : Fin 8, if s ≤ t then l (ix4 b s h c) else 0 := by
  unfold tokenSum
  rw [window_sum _ _ _ _ _ _ _ _ (by pointwise []), ← shift_sum (fun s => l (ix4 b s h c))]
  refine Fintype.sum_equiv (ι := _) (κ := Fin 8) ⟨fun w => w 1, fun n => ix4 0 n 0 0, fun w => ?_, fun n => rfl⟩ _ _ fun w => ?_
  · funext a; match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  · have h0 : (w 0).val < 1 := (w 0).isLt
    have h1 : (w 1).val < 8 := (w 1).isLt
    have h2 : (w 2).val < 1 := (w 2).isLt
    have h3 : (w 3).val < 1 := (w 3).isLt
    have hb := b.isLt
    have ht := t.isLt
    have hh := h.isLt
    have hc := c.isLt
    by_cases hle : 7 ≤ t.val + (w 1).val
    · refine (dif_pos ?_).trans (Eq.trans ?_ (dif_pos hle).symm)
      rotate_left
      · refine congrArg l (funext fun a => ?_)
        match a with
        | ⟨0, _⟩ => refine Fin.ext ?_; show b.val * 1 + (w 0).val - 0 = b.val; omega
        | ⟨1, _⟩ => refine Fin.ext ?_; show t.val * 1 + (w 1).val - 7 = t.val + (w 1).val - 7; omega
        | ⟨2, _⟩ => refine Fin.ext ?_; show h.val * 1 + (w 2).val - 0 = h.val; omega
        | ⟨3, _⟩ => refine Fin.ext ?_; show c.val * 1 + (w 3).val - 0 = c.val; omega
      · intro a
        match a with
        | ⟨0, _⟩ => show 0 ≤ b.val * 1 + (w 0).val ∧ b.val * 1 + (w 0).val - 0 < 128; omega
        | ⟨1, _⟩ => show 7 ≤ t.val * 1 + (w 1).val ∧ t.val * 1 + (w 1).val - 7 < 8; omega
        | ⟨2, _⟩ => show 0 ≤ h.val * 1 + (w 2).val ∧ h.val * 1 + (w 2).val - 0 < 16; omega
        | ⟨3, _⟩ => show 0 ≤ c.val * 1 + (w 3).val ∧ c.val * 1 + (w 3).val - 0 < 128; omega
    · refine (dif_neg fun hin => ?_).trans (Eq.symm ?_)
      rotate_left
      · exact dif_neg hle
      have hq : 7 ≤ t.val * 1 + (w 1).val := (hin 1).1
      omega

/-- The lower bound of the gate. -/
theorem lb_at (x1 : FVec Ideal S2x2048 .f32) (hx : Bounded x1) (c : Fin 2048) : lb x1 (ix1 c) = Hgrn.bound fun i => x1 (ix2 i c) := by
  have hbot : Ideal.ofBits FTy.f32 0xFF800000#32 = ⊥ := by simp [Ideal.ofBits, Ideal.ieee]
  have hq : ∀ r : Fin 2, quot (expo x1) (ix2 r c) = Ideal.div (Ideal.exp (x1 (ix2 r c) - Finset.fold max (Ideal.ofBits FTy.f32 0xFF800000#32) (fun x => x1 (ix2 x c)) Finset.univ))
      (∑ x, Ideal.exp (x1 (ix2 x c) - Finset.fold max (Ideal.ofBits FTy.f32 0xFF800000#32) (fun x => x1 (ix2 x c)) Finset.univ)) := by
    intro r
    unfold quot expo
    pointwise []
    rw [hbot]
    simp only [bot_le, max_eq_right]
  have hb : Hgrn.bound (fun i => x1 (ix2 i c)) = quot (expo x1) (ix2 1 c) := (hq 1).symm
  obtain ⟨l0, h0, -⟩ := bound_real (fun i => x1 (ix2 (1 - i) c)) fun i => hx _ _
  have hsw : Hgrn.bound (fun i => x1 (ix2 (1 - i) c)) = quot (expo x1) (ix2 0 c) := by
    rw [hq 0]
    unfold Hgrn.bound
    have hf : Finset.fold max (Ideal.ofBits FTy.f32 0xFF800000#32) (fun i : Fin 2 => x1 (ix2 (1 - i) c)) Finset.univ
        = Finset.fold max (Ideal.ofBits FTy.f32 0xFF800000#32) (fun x => x1 (ix2 x c)) Finset.univ := by
      rw [show (Finset.univ : Finset (Fin 2)) = {0, 1} from rfl, Finset.fold_insert (by decide), Finset.fold_singleton,
        Finset.fold_insert (by decide), Finset.fold_singleton, hbot]
      simp [max_comm]
    rw [hf, Fin.sum_univ_two, Fin.sum_univ_two, add_comm]
    rfl
  rw [hb]
  unfold lb Stage.bound
  pointwise []
  rw [layerSum_at, ← hsw, h0]
  obtain ⟨l1, h1, -⟩ := bound_real (fun i => x1 (ix2 i c)) fun i => hx _ _
  rw [← hb, h1, ← EReal.coe_add, ← EReal.coe_sub, add_sub_cancel_left]

/-- The gate. -/
theorem gate_at (x0 : FVec Ideal S1024x9216 .f32) (x1 : FVec Ideal S2x2048 .f32) (hx : Bounded x1) (b : Fin 128) (t : Fin 8) (h : Fin 16) (c : Fin 128) :
    gate x0 x1 (ix3 b t (col h c)) = gates x0 x1 b h t c := by
  unfold gate forget sigm zs
  pointwise []
  rw [lb_at x1 hx]
  rfl

/-- The running sums of the logarithms of the gate. -/
theorem sums_at (x0 : FVec Ideal S1024x9216 .f32) (x1 : FVec Ideal S2x2048 .f32) (hx : Bounded x1) (b : Fin 128) (t : Fin 8) (h : Fin 16) (c : Fin 128) :
    sums x0 x1 (ix4 b t h c) = cum (gates x0 x1 b h) t c := by
  unfold sums
  rw [tokenSum_at]
  unfold cum
  refine Finset.sum_congr rfl fun s _ => ?_
  rw [show logs (gate x0 x1) (ix4 b s h c) = Ideal.log (gates x0 x1 b h s c) from ?_]
  rw [← gate_at x0 x1 hx]
  unfold logs
  pointwise []
  rfl

/-- The keys. -/
theorem keys_at (x0 : FVec Ideal S1024x9216 .f32) (x1 : FVec Ideal S2x2048 .f32) (hx : Bounded x1) (b : Fin 128) (t : Fin 8) (h : Fin 16) (c : Fin 128) :
    keys (gate x0 x1) (ix4 b t h c) = 1 - gates x0 x1 b h t c := by
  rw [← gate_at x0 x1 hx]
  unfold keys
  pointwise []
  rfl

theorem queries_at (x0 : FVec Ideal S1024x9216 .f32) (b : Fin 128) (t : Fin 8) (h : Fin 16) (c : Fin 128) :
    queries x0 (ix4 b t h c) = part x0 0 b h t c := by
  unfold queries zs part
  pointwise []
  refine congrArg x0 (congrArg₂ ix2 rfl (Fin.ext ?_))
  simp [pcol]

theorem values_at (x0 : FVec Ideal S1024x9216 .f32) (b : Fin 128) (t : Fin 8) (h : Fin 16) (c : Fin 128) :
    values x0 (ix4 b t h c) = part x0 2 b h t c := by
  unfold values zs part
  pointwise []
  rfl

theorem causal_word : ∀ t s : Fin 8, (Scalar.select (α := BitVec 1) (IntOp.cmpi CmpIPredicate.sge (IntOp.addi (BitVec.ofNat 32 t.val) 0#32) (BitVec.ofNat 32 s.val)) 1#1 0#1)
    = if s ≤ t then 1#1 else 0#1 := by decide +kernel

/-- The scores. -/
theorem scores_at (x0 : FVec Ideal S1024x9216 .f32) (x1 : FVec Ideal S2x2048 .f32) (hx : Bounded x1) (b : Fin 128) (t s : Fin 8) (h : Fin 16) :
    scores (queries x0) (keys (gate x0 x1)) (sums x0 x1) (ix4 b t s h) = score (part x0 0 b h) (gates x0 x1 b h) t s := by
  have hbot : constant (F := Ideal) S_ FTy.f32 4286578688#32 ix0 = (⊥ : EReal) := by
    pointwise []
    simp [Ideal.ofBits, Ideal.ieee]
  unfold scores causal
  pointwise []
  unfold score
  refine Finset.sum_congr rfl fun x _ => ?_
  rw [queries_at, keys_at x0 x1 hx, sums_at x0 x1 hx, sums_at x0 x1 hx, causal_word]
  refine congrArg (fun e => part x0 0 b h t x * (1 - gates x0 x1 b h s x) * Ideal.exp e) ?_
  by_cases hst : s ≤ t
  · rw [if_pos hst, if_pos hst]; rfl
  · rw [if_neg hst, if_neg hst]
    exact hbot

/-- The outputs before their normalisation. -/
theorem raw_at (x0 : FVec Ideal S1024x9216 .f32) (x1 : FVec Ideal S2x2048 .f32) (x3 : FVec Ideal S1x128x16x128x128 .f32) (hx : Bounded x1) (b : Fin 128) (t : Fin 8) (h : Fin 16) (c : Fin 128) :
    raw x0 x1 x3 (ix4 b t h c) = raws x0 x1 x3 b h t c := by
  unfold raw outRaw
  pointwise []
  unfold raws Hgrn.raw
  refine congrArg₂ (· + ·) (Finset.sum_congr rfl fun x _ => ?_) (Finset.sum_congr rfl fun x _ => ?_)
  · rw [values_at, scores_at x0 x1 hx]
  · rw [queries_at, sums_at x0 x1 hx]
    refine congrArg (fun e : EReal => e * (part x0 0 b h t x * Ideal.exp (cum (gates x0 x1 b h) t x))) ?_
    unfold state0
    pointwise []

/-- The states. -/
theorem state_at (x0 : FVec Ideal S1024x9216 .f32) (x1 : FVec Ideal S2x2048 .f32) (x3 : FVec Ideal S1x128x16x128x128 .f32) (hx : Bounded x1) (b : Fin 128) (h : Fin 16) (c d : Fin 128) :
    stateEnd (keys (gate x0 x1)) (values x0) (sums x0 x1) (lastSum (sums x0 x1)) (state0 x3) (ix4 b h c d) = states x0 x1 x3 b h c d := by
  unfold stateEnd lastSum
  pointwise []
  unfold states state
  refine congrArg₂ (· + ·) ?_ (Finset.sum_congr rfl fun x _ => ?_)
  · rw [sums_at x0 x1 hx]
    refine congrArg (fun e : EReal => Ideal.exp (cum (gates x0 x1 b h) 7 c) * e) ?_
    unfold state0
    pointwise []
  · rw [keys_at x0 x1 hx, values_at, sums_at x0 x1 hx, sums_at x0 x1 hx]

/-- The outputs. -/
theorem out_at (x0 : FVec Ideal S1024x9216 .f32) (x1 : FVec Ideal S2x2048 .f32) (x2 : FVec Ideal S1x2048 .f32) (x3 : FVec Ideal S1x128x16x128x128 .f32) (hx : Bounded x1) (j : S1024x2048.Idx) :
    gated (normed (raw x0 x1 x3) x2) (extractStridedSlice S128x8x2048 ![0, 0, 6144] (zs x0) slices_S128x8x8192_S128x8x2048_0_0_6144) j = outArr x0 x1 x2 x3 j := by
  idx_vars j
  unfold gated sigm zs
  pointwise []
  have hn : ∀ (b : Fin 128) (t : Fin 8) (h : Fin 16) (c : Fin 128), normed (raw x0 x1 x3) x2 (ix4 b t h c)
      = raws x0 x1 x3 b h t c * Ideal.rsqrt (Ideal.div (∑ x, raws x0 x1 x3 b h t x * raws x0 x1 x3 b h t x) (Ideal.ofBits FTy.f32 0x43000000#32) + Ideal.ofBits FTy.f32 0x358637BD#32)
        * x2 (ix2 0 (col h c)) := by
    intro b t h c
    unfold normed
    pointwise []
    simp only [raw_at x0 x1 x3 hx]
    rfl
  rw [hn]
  refine congrArg₂ (· * ·) (congrArg₂ (· * ·) rfl ?_) ?_
  · rfl
  · have h1 := j1.isLt
    have h0 := j0.isLt
    have hp : part x0 3 ⟨j0.val / 8, by omega⟩ ⟨j1.val / 128, by omega⟩ ⟨j0.val % 8, by omega⟩ ⟨j1.val % 128, by omega⟩ = x0 (ix2 j0 ⟨6144 + j1.val, by omega⟩) := by
      unfold part tok pcol
      refine congrArg x0 (congrArg₂ ix2 (Fin.ext ?_) (Fin.ext ?_))
      · show j0.val / 8 * 8 + j0.val % 8 = j0.val; omega
      · show 3 * 2048 + (j1.val / 128 * 128 + j1.val % 128) = 6144 + j1.val; omega
    rw [← hp]
    rfl

end Cert.ReferenceIdeal.Stage

end
-- ==== Proof.HgrnClaims.lean ====
/-
  The claims about the recurrence kernel.
-/
module

public import proofs.«01_k».proof.Defs
public import proofs.«01_k».proof.Proof.HgrnKernel
public import proofs.«01_k».proof.Proof.HgrnRefAt
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_lb_bounded
public import Idealize.ShloMosaic.Lib.Quiescent

@[expose] public section

set_option maxRecDepth 16384

noncomputable section

namespace Cert.Proof.HgrnClaims

open Idealize.ShloMosaic Idealize.ShloMosaic.TcCoe Idealize.SL.Sem
open Cert.Hgrn (outArr stateArr Bounded)

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_lb_bounded := fun m ρ _ => Cert.KernelIdeal.Gen.frame m ρ
theorem frame_ri : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)
theorem frame_ri_pre : Cert.quiescent_ReferenceIdeal_pre_lb_bounded := fun m ρ _ => frame_ri m ρ trivial

/-- The named constant has the value that its name is given. -/
theorem preserves : Cert.preserves_Kernel_KernelIdeal :=
  IdealRules.named_const.statement Cert.KernelIdeal.κ "log2e" .f32 0x3FB8AA3B#32 (((Real.log 2)⁻¹ : ℝ) : EReal) rfl

/-- The precondition, read: each logit is a number of size at most four. -/
theorem bounded_of_pre (x0 : FVec Ideal ⟨2, ![1024, 9216]⟩ .f32) (x1 : FVec Ideal ⟨2, ![2, 2048]⟩ .f32) (x2 : FVec Ideal ⟨2, ![1, 2048]⟩ .f32)
    (x3 : FVec Ideal ⟨5, ![1, 128, 16, 128, 128]⟩ .f32) (h : Cert.Pre_lb_bounded.fn (F := Ideal) x0 x1 x2 x3 = fun _ => 1#1) : Bounded x1 := by
  intro i c
  have h1 := congrFun h (ix2 i c)
  unfold Cert.Pre_lb_bounded.fn at h1
  have h4 : Ideal.ofBits FTy.f32 0x40800000#32 = ((4 : ℝ) : EReal) := by
    simp [Ideal.ofBits, Ideal.ieee, -EReal.coe_mul]; norm_num
  replace h1 : Ideal.cmp .ole (max (x1 (ix2 i c)) (-(x1 (ix2 i c)))) (Ideal.ofBits FTy.f32 0x40800000#32) = 1#1 := h1
  rw [h4] at h1
  generalize x1 (ix2 i c) = x at h1 ⊢
  have h2 : max x (-x) ≤ ((4 : ℝ) : EReal) := by
    by_contra hn
    simp [Ideal.cmp, hn] at h1
  induction x using EReal.rec with
  | bot => simp at h2
  | top => simp at h2
  | coe r =>
    refine ⟨r, rfl, ?_⟩
    rw [max_le_iff, ← EReal.coe_neg, EReal.coe_le_coe_iff, EReal.coe_le_coe_iff] at h2
    exact abs_le.mpr ⟨by linarith [h2.2], h2.1⟩

/-- The kernel's two results are the reference's. -/
theorem algebraic : Cert.algebraic_KernelIdeal_ReferenceIdeal_pre_lb_bounded := by
  intro m ρ m' ρ' hpre hag
  have hb : ∀ c, Bounded (Cert.KernelIdeal.Whole.A1 m c) := fun c => bounded_of_pre _ _ _ _ (hpre c)
  refine ⟨_, _, Cert.KernelIdeal.Whole.run m ρ hb, (θ_run Cert.ReferenceIdeal.defs _ _).mono (fun r h c => ?_) (Cert.ReferenceIdeal.Value.run (F := Ideal) m' ρ')⟩
  obtain ⟨a0, a1, a2, a3⟩ := hag c
  refine ⟨(h c).1.trans ?_, (h c).2.1.trans ?_, (h c).2.2⟩
  · refine (Cert.ReferenceIdeal.Stage.res_out m' c _ _ _ _ a0 a1 a2 a3).trans (funext fun j => ?_)
    exact Cert.ReferenceIdeal.Stage.out_at _ _ _ _ (hb c) j
  · refine (Cert.ReferenceIdeal.Stage.res_state m' c _ _ _ a0 a1 a3).trans (funext fun j => ?_)
    have e : j = ix4 (j 0) (j 1) (j 2) (j 3) := funext fun a => by fin_cases a <;> rfl
    rw [e]
    exact Cert.ReferenceIdeal.Stage.state_at _ _ _ (hb c) _ _ _ _

end Cert.Proof.HgrnClaims

end
-- ==== Proof.TrunkSpec.lean ====
/-
  The pieces of the layer's trunk, over the extended reals: a row scaled to unit mean square, and a row's product with a matrix.
-/
module

public import Idealize.ShloMosaic.Lib.Pointwise

@[expose] public section

noncomputable section

namespace Cert.Trunk

open Idealize.ShloMosaic

/-- An entry of a row of 2048, over the root of the row's mean square. -/
def unit (x : Fin 2048 → EReal) (d : Fin 2048) : EReal :=
  x d * Ideal.rsqrt (Ideal.div (∑ e, x e * x e) (Ideal.ofBits .f32 0x45000000#32) + Ideal.ofBits .f32 0x358637BD#32)

/-- The row norm with its scale. -/
def normed (x g : Fin 2048 → EReal) (d : Fin 2048) : EReal := unit x d * g d

/-- The origin of a rectangle of two axes. -/
theorem zero2 : (![0, 0] : Fin 2 → ℕ) = fun _ => 0 := by funext a; fin_cases a <;> rfl

/-- A row's product with a column. -/
def dot {k : ℕ} (x w : Fin k → EReal) : EReal := ∑ e, x e * w e

end Cert.Trunk

end
-- ==== Proof.FfnSpec.lean ====
/-
  The feed-forward's scalars, over the extended reals: the three taps of the causal convolution and the gate's curve.
-/
module

public import proofs.«01_k».proof.Proof.TrunkSpec

@[expose] public section

noncomputable section

namespace Cert.Trunk

open Idealize.ShloMosaic

/-- The tanh approximation of the error-function gate. -/
def gelu (c : EReal) : EReal :=
  Ideal.ofBits .f32 0x3F000000#32 * c * (Ideal.ofBits .f32 0x3F800000#32
    + Ideal.tanh (Ideal.ofBits .f32 0x3F4C422A#32 * (c + Ideal.ofBits .f32 0x3D372713#32 * c * c * c)))

/-- The same curve with its products grouped from the other side. -/
theorem gelu_regrouped (c : EReal) :
    c * (Ideal.ofBits .f32 0x3F000000#32 * (Ideal.ofBits .f32 0x3F800000#32
      + Ideal.tanh (Ideal.ofBits .f32 0x3F4C422A#32 * (c + Ideal.ofBits .f32 0x3D372713#32 * (c * c * c))))) = gelu c := by
  unfold gelu
  rw [show Ideal.ofBits .f32 0x3D372713#32 * (c * c * c) = Ideal.ofBits .f32 0x3D372713#32 * c * c * c by simp only [mul_assoc],
    ← mul_assoc, mul_comm c]

/-- The convolution at a token: the bias, and the tokens two back, one back and at hand by their weights. -/
def taps (w0 w1 w2 bias a2 a1 a : EReal) : EReal := bias + w0 * a2 + w1 * a1 + w2 * a

/-- The same sum gathered from zero before the bias. -/
theorem taps_regrouped (w0 w1 w2 bias a2 a1 a : EReal) : bias + (0 + w0 * a2 + w1 * a1 + w2 * a) = taps w0 w1 w2 bias a2 a1 a := by
  unfold taps
  rw [zero_add, ← add_assoc, ← add_assoc]

end Cert.Trunk

end
-- ==== Proof.FfnBlock.lean ====
/-
  What a grid point of the feed-forward kernel stores, read at an entry of its block.
-/
module

public import proofs.«01_k».proof.Proof.FfnSpec
public import proofs.«01_k».proof.Proof.Gen.FfnIdeal.Value
public import Idealize.ShloMosaic.Lib.Pipeline.ValueKit

@[expose] public section

set_option maxRecDepth 16384

noncomputable section

namespace Cert.FfnIdeal.Whole

open Cert.FfnIdeal Cert.FfnIdeal.Gen Idealize.ShloMosaic Idealize.ShloMosaic.TcCoe Idealize.SL.Sem

/-- A row's place in its sequence of eight. -/
theorem pos_at (r : Fin 512) (C : Fin 256) : k0_pay6 (ix2 r C) = BitVec.ofNat 32 (r.val % 8) := by
  unfold k0_pay6
  pointwise []
  revert r
  decide +kernel

theorem pos_at' (r : Fin 512) (C : Fin 256) : k0_pay13 (ix2 r C) = BitVec.ofNat 32 (r.val % 8) := pos_at r C

theorem first_of (n : ℕ) (x y : EReal) :
    Scalar.select (IntOp.cmpi .eq (BitVec.ofNat 32 (n % 8)) 0#32) x y = if n % 8 = 0 then x else y := by
  have h : n % 8 < 8 := Nat.mod_lt _ (by decide)
  generalize n % 8 = q at h ⊢
  interval_cases q <;> rfl

theorem second_of (n : ℕ) (x y : EReal) :
    Scalar.select (IntOp.cmpi .sle (BitVec.ofNat 32 (n % 8)) 1#32) x y = if n % 8 ≤ 1 then x else y := by
  have h : n % 8 < 8 := Nat.mod_lt _ (by decide)
  generalize n % 8 = q at h ⊢
  interval_cases q <;> rfl

/-- A product of the block's rows with a slab of a weight. -/
theorem prod_at (h : Vec Ideal S512x2048 .bf16) (w : Vec Ideal S2048x256 .bf16) (r : Fin 512) (C : Fin 256) :
    k0_pay11 (F := Ideal) h w (ix2 r C) = Trunk.dot (fun e => h (ix2 r e)) (fun e => w (ix2 e C)) := by
  unfold k0_pay11 Trunk.dot
  pointwise []

/-- The token one back. -/
theorem back1_at (h : Vec Ideal S512x2048 .bf16) (w : Vec Ideal S2048x256 .bf16) (p : Vec Ideal S512x256 .f32) (r : Fin 512) (C : Fin 256) :
    k0_pay14 (F := Ideal) h w p (ix2 r C) = if r.val % 8 = 0 then p (ix2 r C)
      else k0_pay11 (F := Ideal) h w (ix2 ⟨(r.val + 511) % 512, Nat.mod_lt _ (by decide)⟩ C) := by
  unfold k0_pay14
  pointwise []
  rw [pos_at', first_of]; rfl

/-- The token two back. -/
theorem back2_at (h : Vec Ideal S512x2048 .bf16) (w : Vec Ideal S2048x256 .bf16) (p : Vec Ideal S512x256 .f32) (r : Fin 512) (C : Fin 256) :
    k0_pay15 (F := Ideal) h w p (ix2 r C) = if r.val % 8 ≤ 1 then p (ix2 r C)
      else k0_pay11 (F := Ideal) h w (ix2 ⟨(r.val + 510) % 512, Nat.mod_lt _ (by decide)⟩ C) := by
  unfold k0_pay15
  pointwise []
  rw [pos_at', second_of]; rfl

/-- The gated value, from the products and the tokens before. -/
theorem gate_at (a b a1 a2 : FVec Ideal S512x256 .f32) (cw : FVec Ideal S3x256 .f32) (cb : FVec Ideal S1x256 .f32) (r : Fin 512) (C : Fin 256) :
    k0_pay1 (F := Ideal) a b a1 a2 (k0_pay16 cw) (k0_pay17 cb) (ix2 r C)
      = Trunk.gelu (Trunk.taps (cw (ix2 0 C)) (cw (ix2 1 C)) (cw (ix2 2 C)) (cb (ix2 0 C)) (a2 (ix2 r C)) (a1 (ix2 r C)) (a (ix2 r C))) * b (ix2 r C) := by
  unfold k0_pay1 k0_pay16 k0_pay17 Trunk.gelu Trunk.taps
  pointwise []

/-- The first slab's stores are the second's text. -/
theorem first_slab (h : Vec Ideal S512x2048 .bf16) (wa wb : Vec Ideal S2048x256 .bf16) (p1 p2 : Vec Ideal S512x256 .f32) (cw : Vec Ideal S3x256 .f32)
    (cb : Vec Ideal S1x256 .f32) :
    k0_pay9 (F := Ideal) (k0_pay4 h wa) (k0_pay5 h wb) (k0_pay7 h wa p1) k0_pay8 p2 cw cb
      = k0_pay1 (k0_pay11 h wa) (k0_pay12 h wb) (k0_pay14 h wa p1) (k0_pay15 h wa p2) (k0_pay16 cw) (k0_pay17 cb) := rfl

theorem tail_at (h : Vec Ideal S512x2048 .bf16) (w : Vec Ideal S2048x256 .bf16) (r : Fin 512) (C : Fin 256) :
    k0_pay2 (F := Ideal) (k0_pay11 h w) (ix3 0 r C) = Trunk.dot (fun e => h (ix2 r e)) (fun e => w (ix2 e C)) := by
  rw [← prod_at]
  unfold k0_pay2
  pointwise []

/-- The normed rows, as the first column point of a row block leaves them. -/
theorem rows_at (x : Vec Ideal S512x2048 .f32) (g : Vec Ideal S1x2048 .f32) (r : Fin 512) (d : Fin 2048) :
    k0_pay3 (F := Ideal) x g (ix2 r d) = Trunk.normed (fun e => x (ix2 r e)) (fun e => g (ix2 0 e)) d := by
  unfold k0_pay3 Trunk.normed Trunk.unit
  pointwise []

/-- The gated value at an entry of the block, from the normed rows, the weights' columns, the taps and the earlier tokens. -/
def gateAt (h : Vec Ideal S512x2048 .bf16) (wa wb : Vec Ideal S2048x512 .bf16) (cw : Vec Ideal S3x512 .f32) (cb : Vec Ideal S1x512 .f32)
    (p1 p2 : Vec Ideal S512x512 .f32) (r C : Fin 512) : EReal :=
  Trunk.gelu (Trunk.taps (cw (ix2 0 C)) (cw (ix2 1 C)) (cw (ix2 2 C)) (cb (ix2 0 C))
      (if r.val % 8 ≤ 1 then p2 (ix2 r C)
        else Trunk.dot (fun e => h (ix2 ⟨(r.val + 510) % 512, Nat.mod_lt _ (by decide)⟩ e)) (fun e => wa (ix2 e C)))
      (if r.val % 8 = 0 then p1 (ix2 r C)
        else Trunk.dot (fun e => h (ix2 ⟨(r.val + 511) % 512, Nat.mod_lt _ (by decide)⟩ e)) (fun e => wa (ix2 e C)))
      (Trunk.dot (fun e => h (ix2 r e)) (fun e => wa (ix2 e C))))
    * Trunk.dot (fun e => h (ix2 r e)) (fun e => wb (ix2 e C))

/-- A slab's gated value, where its columns are the block's from `o` on. -/
theorem slab_at (h : Vec Ideal S512x2048 .bf16) (wa wb : Vec Ideal S2048x512 .bf16) (cw : Vec Ideal S3x512 .f32) (cb : Vec Ideal S1x512 .f32)
    (p1 p2 : Vec Ideal S512x512 .f32) (ua ub : Vec Ideal S2048x256 .bf16) (uw : Vec Ideal S3x256 .f32) (uc : Vec Ideal S1x256 .f32)
    (u1 u2 : Vec Ideal S512x256 .f32) (r : Fin 512) (C : Fin 256) (D : Fin 512)
    (ha : ∀ e, ua (ix2 e C) = wa (ix2 e D)) (hb : ∀ e, ub (ix2 e C) = wb (ix2 e D)) (hw : ∀ k, uw (ix2 k C) = cw (ix2 k D))
    (hc : uc (ix2 0 C) = cb (ix2 0 D)) (h1 : u1 (ix2 r C) = p1 (ix2 r D)) (h2 : u2 (ix2 r C) = p2 (ix2 r D)) :
    k0_pay1 (F := Ideal) (k0_pay11 h ua) (k0_pay12 h ub) (k0_pay14 h ua u1) (k0_pay15 h ua u2) (k0_pay16 uw) (k0_pay17 uc) (ix2 r C)
      = gateAt h wa wb cw cb p1 p2 r D := by
  rw [gate_at, back1_at, back2_at]
  rw [show k0_pay12 (F := Ideal) h ub = k0_pay11 h ub from rfl]
  simp only [prod_at, ha, hb, hw, hc, h1, h2]
  rfl

/-- A slab of columns, read where it lies. -/
theorem ld_slab {n : ℕ} {e : EltTy} (X : Vec Ideal (⟨2, ![n, 512]⟩ : Shape) e) (o : ℕ)
    (inb : ∀ a, (![0, o] : Fin 2 → ℕ) a + (![n, 256] : Fin 2 → ℕ) a ≤ (⟨2, ![n, 512]⟩ : Shape).size a) (i : Fin n) (C : Fin 256) (D : Fin 512) (h : D.val = o + C.val) :
    View.ld (Val := Elt Ideal) X (Rect.unit (s := (⟨2, ![n, 512]⟩ : Shape)) ![0, o] ![n, 256] inb) (ix2 i C) = X (ix2 i D) := by
  refine congrArg X (funext fun a => ?_)
  fin_cases a
  · apply Fin.ext; show 0 + 1 * i.val = i.val; omega
  · apply Fin.ext; show o + 1 * C.val = D.val; omega

/-- The two slabs' stores of the gated value. -/
def out8Of (h : Vec Ideal S512x2048 .bf16) (wa wb : Vec Ideal S2048x512 .bf16) (cw : Vec Ideal S3x512 .f32) (cb : Vec Ideal S1x512 .f32)
    (p1 p2 : Vec Ideal S512x512 .f32) : Vec Ideal S512x512 .bf16 :=
  View.canon (Val := Elt Ideal) (s := S512x512) (e := .bf16)
      [⟨Rect.unit ![0, 256] ![512, 256] inb_S512x512_S512x256_0_256,
          k0_pay1 (k0_pay11 h (View.ld wa (Rect.unit ![0, 256] ![2048, 256] inb_S2048x512_S2048x256_0_256)))
            (k0_pay12 h (View.ld wb (Rect.unit ![0, 256] ![2048, 256] inb_S2048x512_S2048x256_0_256)))
            (k0_pay14 h (View.ld wa (Rect.unit ![0, 256] ![2048, 256] inb_S2048x512_S2048x256_0_256))
              (View.ld p1 (Rect.unit ![0, 256] ![512, 256] inb_S512x512_S512x256_0_256)))
            (k0_pay15 h (View.ld wa (Rect.unit ![0, 256] ![2048, 256] inb_S2048x512_S2048x256_0_256))
              (View.ld p2 (Rect.unit ![0, 256] ![512, 256] inb_S512x512_S512x256_0_256)))
            (k0_pay16 (View.ld cw (Rect.unit ![0, 256] ![3, 256] inb_S3x512_S3x256_0_256)))
            (k0_pay17 (View.ld cb (Rect.unit ![0, 256] ![1, 256] inb_S1x512_S1x256_0_256)))⟩,
        ⟨Rect.unit ![0, 0] ![512, 256] inb_S512x512_S512x256_0_0,
          k0_pay9 (k0_pay4 h (View.ld wa (Rect.unit ![0, 0] ![2048, 256] inb_S2048x512_S2048x256_0_0)))
            (k0_pay5 h (View.ld wb (Rect.unit ![0, 0] ![2048, 256] inb_S2048x512_S2048x256_0_0)))
            (k0_pay7 h (View.ld wa (Rect.unit ![0, 0] ![2048, 256] inb_S2048x512_S2048x256_0_0))
              (View.ld p1 (Rect.unit ![0, 0] ![512, 256] inb_S512x512_S512x256_0_0)))
            k0_pay8 (View.ld p2 (Rect.unit ![0, 0] ![512, 256] inb_S512x512_S512x256_0_0))
            (View.ld cw (Rect.unit ![0, 0] ![3, 256] inb_S3x512_S3x256_0_0))
            (View.ld cb (Rect.unit ![0, 0] ![1, 256] inb_S1x512_S1x256_0_0))⟩]

/-- The two slabs' stores of the products. -/
def out9Of (h : Vec Ideal S512x2048 .bf16) (wa : Vec Ideal S2048x512 .bf16) : Vec Ideal S1x512x512 .f32 :=
  View.canon (Val := Elt Ideal) (s := S1x512x512) (e := .f32)
      [⟨Rect.unit ![0, 0, 256] ![1, 512, 256] inb_S1x512x512_S1x512x256_0_0_256,
          k0_pay2 (k0_pay11 h (View.ld wa (Rect.unit ![0, 256] ![2048, 256] inb_S2048x512_S2048x256_0_256)))⟩,
        ⟨Rect.unit ![0, 0, 0] ![1, 512, 256] inb_S1x512x512_S1x512x256_0_0_0,
          k0_pay10 (k0_pay4 h (View.ld wa (Rect.unit ![0, 0] ![2048, 256] inb_S2048x512_S2048x256_0_0)))⟩]

/-- The two slabs' stores, at an entry of the block. -/
theorem out8_at (h : Vec Ideal S512x2048 .bf16) (wa wb : Vec Ideal S2048x512 .bf16) (cw : Vec Ideal S3x512 .f32) (cb : Vec Ideal S1x512 .f32)
    (p1 p2 : Vec Ideal S512x512 .f32) (r D : Fin 512) :
    out8Of h wa wb cw cb p1 p2 (ix2 r D)
      = gateAt h wa wb cw cb p1 p2 r D := by
  unfold out8Of
  rw [first_slab]
  canon_tiles x hx
  all_goals (
    obtain ⟨R, C, rfl⟩ : ∃ (R : Fin 512) (C : Fin 256), x = ix2 R C := ⟨x 0, x 1, funext fun a => by fin_cases a <;> rfl⟩
    obtain rfl : R = r := Fin.ext (by have := hx0; simp at this; omega)
    refine slab_at _ _ _ _ _ _ _ _ _ _ _ _ _ R C D ?_ ?_ ?_ ?_ ?_ ?_)
  all_goals (
    try intro e
    refine ld_slab _ _ _ _ C D ?_
    first | exact hx1 | exact hx1.trans (Nat.zero_add _).symm)

/-- The stored products, at an entry of the block. -/
theorem out9_at (h : Vec Ideal S512x2048 .bf16) (wa : Vec Ideal S2048x512 .bf16) (r D : Fin 512) :
    out9Of h wa (ix3 0 r D)
      = Trunk.dot (fun e => h (ix2 r e)) (fun e => wa (ix2 e D)) := by
  unfold out9Of
  rw [show ∀ u, k0_pay10 (F := Ideal) (k0_pay4 h u) = k0_pay2 (k0_pay11 h u) from fun _ => rfl]
  canon_tiles x hx
  all_goals (
    obtain ⟨z, R, C, rfl⟩ : ∃ (z : Fin 1) (R : Fin 512) (C : Fin 256), x = ix3 z R C := ⟨x 0, x 1, x 2, funext fun a => by fin_cases a <;> rfl⟩
    obtain rfl : z = 0 := Subsingleton.elim _ _
    obtain rfl : R = r := Fin.ext (by have := hx1; simp at this; omega)
    rw [tail_at]
    congr 1
    funext e
    refine ld_slab _ _ _ _ C D ?_
    first | exact hx2 | exact hx2.trans (Nat.zero_add _).symm)

end Cert.FfnIdeal.Whole

end
-- ==== Proof.FfnKernel.lean ====
/-
  The feed-forward kernel's arrays: every grid point stores the gated values and the products of its block, from the rows normed
  at the first column point of its row block.
-/
module

public import proofs.«01_k».proof.Proof.FfnBlock
public import Idealize.ShloMosaic.Lib.Pipeline.ValueKit.Held
public import Idealize.ShloMosaic.Lib.Pipeline.ReadBack

@[expose] public section

set_option maxRecDepth 16384

noncomputable section

namespace Cert.FfnIdeal.Whole

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

theorem lt_N (t : Fin cfg0.N) : t.val < 22 := t.isLt

/-- The first column point stores the normed rows of its block. -/
theorem scratch_A (t : Fin cfg0.N) (h : t.val % 11 = 0) : (outsAt0 m c t.val t.isLt).2.2 = k0_pay3 (iblk m c 0 t) (iblk m c 1 t) := by
  rw [outsAt0_A m c t h]
  frame_out

theorem scratch_B (t : Fin cfg0.N) (h : ¬ t.val % 11 = 0) :
    (outsAt0 m c t.val t.isLt).2.2 = (outsAt0 m c (t.val - 1) (by have := t.isLt; omega)).2.2 := by
  rw [outsAt0_B m c t h]
  rfl

theorem scratch_at (t : Fin cfg0.N) :
    (outsAt0 m c t.val t.isLt).2.2 = k0_pay3 (iblk m c 0 ⟨11 * (t.val / 11), Pipeline.run_start_lt t⟩) (iblk m c 1 ⟨11 * (t.val / 11), Pipeline.run_start_lt t⟩) :=
  Pipeline.eq_of_write_hold (fun n h => (outsAt0 m c n h).2.2) 11 (fun t => k0_pay3 (iblk m c 0 t) (iblk m c 1 t)) (fun t h => scratch_A m c t h)
    (fun t h => scratch_B m c t h) t

theorem stored8 (t : Fin cfg0.N) : (outsAt0 m c t.val t.isLt).1
    = out8Of (outsAt0 m c t.val t.isLt).2.2 (iblk m c 2 t) (iblk m c 3 t) (iblk m c 4 t) (iblk m c 5 t) (iblk m c 6 t) (iblk m c 7 t) := by
  by_cases h : t.val % 11 = 0
  · rw [scratch_A m c t h, outsAt0_A m c t h]
    frame_open
    simp (disch := decide) only [↓ View.readCov_skip, ↓ View.readCov_cons_toLoadRect, ↓ View.readCov_fill]
    frame_out
  · rw [scratch_B m c t h, outsAt0_B m c t h]
    frame_out
    simp only [read_unread_whole]

theorem stored9 (t : Fin cfg0.N) : (outsAt0 m c t.val t.isLt).2.1 = out9Of (outsAt0 m c t.val t.isLt).2.2 (iblk m c 2 t) := by
  by_cases h : t.val % 11 = 0
  · rw [scratch_A m c t h, outsAt0_A m c t h]
    frame_open
    simp (disch := decide) only [↓ View.readCov_skip, ↓ View.readCov_cons_toLoadRect, ↓ View.readCov_fill]
    frame_out
  · rw [scratch_B m c t h, outsAt0_B m c t h]
    frame_out
    simp only [read_unread_whole]

theorem idx0 : ∀ t : Fin cfg0.N, win0_0.index t = ![t.val / 11, 0] ∧ win0_1.index t = ![0, 0] ∧ win0_2.index t = ![0, t.val % 11]
    ∧ win0_3.index t = ![0, 11 + t.val % 11] ∧ win0_4.index t = ![0, t.val % 11] ∧ win0_5.index t = ![0, t.val % 11]
    ∧ win0_6.index t = ![t.val / 11, t.val % 11] ∧ win0_7.index t = ![t.val / 11, t.val % 11] ∧ win0_8.index t = ![t.val / 11, t.val % 11]
    ∧ win0_9.index t = ![t.val / 11, 0, t.val % 11] :=
  (by decide +kernel : ∀ t : Fin grid0.N, win0_0.index t = ![t.val / 11, 0] ∧ win0_1.index t = ![0, 0] ∧ win0_2.index t = ![0, t.val % 11]
    ∧ win0_3.index t = ![0, 11 + t.val % 11] ∧ win0_4.index t = ![0, t.val % 11] ∧ win0_5.index t = ![0, t.val % 11]
    ∧ win0_6.index t = ![t.val / 11, t.val % 11] ∧ win0_7.index t = ![t.val / 11, t.val % 11] ∧ win0_8.index t = ![t.val / 11, t.val % 11]
    ∧ win0_9.index t = ![t.val / 11, 0, t.val % 11])

/-- The rows, the norm's scale, the weight, the taps, the bias and the earlier tokens. -/
abbrev A0 : (⟨2, ![1024, 2048]⟩ : Shape).Idx → EReal := m ((c : Thread nD τ).loc main_arg0)
abbrev A1 : (⟨2, ![1, 2048]⟩ : Shape).Idx → EReal := m ((c : Thread nD τ).loc main_arg1)
abbrev A2 : (⟨3, ![1, 2048, 11264]⟩ : Shape).Idx → EReal := m ((c : Thread nD τ).loc main_arg2)
abbrev A3 : (⟨3, ![1, 3, 5632]⟩ : Shape).Idx → EReal := m ((c : Thread nD τ).loc main_arg3)
abbrev A4 : (⟨2, ![1, 5632]⟩ : Shape).Idx → EReal := m ((c : Thread nD τ).loc main_arg4)
abbrev A5 : (⟨4, ![1, 128, 2, 5632]⟩ : Shape).Idx → EReal := m ((c : Thread nD τ).loc main_arg5)

/-- The array row of a block row, the array column of a block column. -/
def arow (t : Fin cfg0.N) (r : Fin 512) : Fin 1024 := ⟨t.val / 11 * 512 + r.val, by have := lt_N t; omega⟩
def acol (t : Fin cfg0.N) (C : Fin 512) : Fin 5632 := ⟨t.val % 11 * 512 + C.val, by omega⟩

theorem read0 (t : Fin cfg0.N) (r : Fin 512) (k : Fin 2048) : iblk m c 0 t (ix2 r k) = A0 m c (ix2 (arow t r) k) := by
  have := lt_N t
  blk_ext! [iblk, V, idx0 t, arow]

theorem read1 (t : Fin cfg0.N) (k : Fin 2048) : iblk m c 1 t (ix2 0 k) = A1 m c (ix2 0 k) := by
  have := lt_N t
  blk_ext! [iblk, V, idx0 t]

theorem read2 (t : Fin cfg0.N) (e : Fin 2048) (C : Fin 512) : iblk m c 2 t (ix2 e C) = A2 m c (ix3 0 e ⟨(acol t C).val, by omega⟩) := by
  have := lt_N t
  blk_ext! [iblk, V, idx0 t, acol]

theorem read3 (t : Fin cfg0.N) (e : Fin 2048) (C : Fin 512) : iblk m c 3 t (ix2 e C) = A2 m c (ix3 0 e ⟨5632 + (acol t C).val, by omega⟩) := by
  have := lt_N t
  blk_ext! [iblk, V, idx0 t, acol]

theorem read4 (t : Fin cfg0.N) (k : Fin 3) (C : Fin 512) : iblk m c 4 t (ix2 k C) = A3 m c (ix3 0 k (acol t C)) := by
  have := lt_N t
  blk_ext! [iblk, V, idx0 t, acol]

theorem read5 (t : Fin cfg0.N) (C : Fin 512) : iblk m c 5 t (ix2 0 C) = A4 m c (ix2 0 (acol t C)) := by
  have := lt_N t
  blk_ext! [iblk, V, idx0 t, acol]

/-- The array the kernel reads for a row's token one back, where that lies before its sequence. -/
def prev1 {F : FTy → Type} [FloatOps F] (x5 : FVec F S1x128x2x5632 .f32) : FVec F S1024x5632 .f32 :=
  shapeCast _ (concatenate S128x8x5632 1
    [⟨S128x1x5632, extractStridedSlice S128x1x5632 ![0, 1, 0] (shapeCast _ x5 shapeCasts_S1x128x2x5632_S128x2x5632) slices_S128x2x5632_S128x1x5632_0_1_0⟩,
      ⟨S128x6x5632, broadcastInDim S128x6x5632 ![] bcast_S_S128x6x5632 (constant S_ .f32 0x00000000#32)⟩,
      ⟨S128x1x5632, broadcastInDim S128x1x5632 ![] bcast_S_S128x1x5632 (constant S_ .f32 0x00000000#32)⟩]
    concatenates_S128x1x5632_S128x6x5632_S128x1x5632_S128x8x5632_d1) shapeCasts_S128x8x5632_S1024x5632

/-- The same for the token two back. -/
def prev2 {F : FTy → Type} [FloatOps F] (x5 : FVec F S1x128x2x5632 .f32) : FVec F S1024x5632 .f32 :=
  shapeCast _ (concatenate S128x8x5632 1
    [⟨S128x2x5632, shapeCast _ x5 shapeCasts_S1x128x2x5632_S128x2x5632⟩,
      ⟨S128x6x5632, broadcastInDim S128x6x5632 ![] bcast_S_S128x6x5632 (constant S_ .f32 0x00000000#32)⟩]
    concatenates_S128x2x5632_S128x6x5632_S128x8x5632_d1) shapeCasts_S128x8x5632_S1024x5632

theorem V5 : V m c main_v5 = prev1 (F := Ideal) (A5 m c) := by
  show StableHlo.after hostOps0 _ main_v5 = _
  after_results_simp
  rfl

theorem V7 : V m c main_v7 = prev2 (F := Ideal) (A5 m c) := by
  show StableHlo.after hostOps0 _ main_v7 = _
  after_results_simp
  rfl

theorem prev1_at (x5 : FVec Ideal S1x128x2x5632 .f32) (b : Fin 128) (f : Fin 5632) :
    prev1 (F := Ideal) x5 (ix2 ⟨b.val * 8, by omega⟩ f) = x5 (ix4 0 b 1 f) := by
  unfold prev1
  pointwise []
  have e : b.val * 8 % 8 = 0 := Nat.mul_mod_left _ _
  rw [dif_pos (by omega)]
  exact congrArg (fun k => x5 (ix4 0 b k f)) (Fin.ext (by show 1 + b.val * 8 % 8 = 1; omega))

theorem prev2_at (x5 : FVec Ideal S1x128x2x5632 .f32) (b : Fin 128) (k : Fin 2) (f : Fin 5632) :
    prev2 (F := Ideal) x5 (ix2 ⟨b.val * 8 + k.val, by omega⟩ f) = x5 (ix4 0 b k f) := by
  unfold prev2
  pointwise []
  have e : (b.val * 8 + k.val) % 8 = k.val := by omega
  rw [dif_pos (by omega)]
  exact congrArg (fun k => x5 (ix4 0 b k f)) (Fin.ext e)

theorem read6V (t : Fin cfg0.N) (r C : Fin 512) : iblk m c 6 t (ix2 r C) = V m c main_v5 (ix2 (arow t r) (acol t C)) := by
  have := lt_N t
  generalize hX : V m c main_v5 = X
  blk_ext! [iblk, hX, idx0 t, acol, arow]

theorem read7V (t : Fin cfg0.N) (r C : Fin 512) : iblk m c 7 t (ix2 r C) = V m c main_v7 (ix2 (arow t r) (acol t C)) := by
  have := lt_N t
  generalize hX : V m c main_v7 = X
  blk_ext! [iblk, hX, idx0 t, acol, arow]

theorem read6 (t : Fin cfg0.N) (r C : Fin 512) (h : r.val % 8 = 0) :
    iblk m c 6 t (ix2 r C) = A5 m c (ix4 0 ⟨(arow t r).val / 8, by omega⟩ 1 (acol t C)) := by
  rw [read6V, V5]
  refine Eq.trans ?_ (prev1_at _ _ _)
  congr 2
  apply Fin.ext
  show t.val / 11 * 512 + r.val = (t.val / 11 * 512 + r.val) / 8 * 8
  omega

theorem read7 (t : Fin cfg0.N) (r C : Fin 512) (h : r.val % 8 ≤ 1) :
    iblk m c 7 t (ix2 r C) = A5 m c (ix4 0 ⟨(arow t r).val / 8, by omega⟩ ⟨(arow t r).val % 8 % 2, by omega⟩ (acol t C)) := by
  rw [read7V, V7]
  refine Eq.trans ?_ (prev2_at _ _ ⟨(arow t r).val % 8 % 2, by omega⟩ _)
  congr 2
  apply Fin.ext
  show t.val / 11 * 512 + r.val = (t.val / 11 * 512 + r.val) / 8 * 8 + (t.val / 11 * 512 + r.val) % 8 % 2
  omega

section Arrays

variable (a0 : (⟨2, ![1024, 2048]⟩ : Shape).Idx → EReal) (a1 : (⟨2, ![1, 2048]⟩ : Shape).Idx → EReal) (a2 : (⟨3, ![1, 2048, 11264]⟩ : Shape).Idx → EReal)
  (a3 : (⟨3, ![1, 3, 5632]⟩ : Shape).Idx → EReal) (a4 : (⟨2, ![1, 5632]⟩ : Shape).Idx → EReal) (a5 : (⟨4, ![1, 128, 2, 5632]⟩ : Shape).Idx → EReal)

/-- A normed row's product with a column of the weight. -/
def actAt (R : Fin 1024) (f : Fin 11264) : EReal :=
  Trunk.dot (Trunk.normed (fun e => a0 (ix2 R e)) (fun e => a1 (ix2 0 e))) (fun e => a2 (ix3 0 e f))

/-- The gated value at a token and a column: the convolution of the token's product with those of the two tokens before it in its
    sequence of eight (before the sequence's first they are given), the gate's curve, times the product with the second half. -/
def gateVal (R : Fin 1024) (f : Fin 5632) : EReal :=
  Trunk.gelu (Trunk.taps (a3 (ix3 0 0 f)) (a3 (ix3 0 1 f)) (a3 (ix3 0 2 f)) (a4 (ix2 0 f))
      (if R.val % 8 ≤ 1 then a5 (ix4 0 ⟨R.val / 8, by omega⟩ ⟨R.val % 8 % 2, by omega⟩ f) else actAt a0 a1 a2 ⟨R.val - 2, by omega⟩ ⟨f.val, by omega⟩)
      (if R.val % 8 = 0 then a5 (ix4 0 ⟨R.val / 8, by omega⟩ 1 f) else actAt a0 a1 a2 ⟨R.val - 1, by omega⟩ ⟨f.val, by omega⟩)
      (actAt a0 a1 a2 R ⟨f.val, by omega⟩))
    * actAt a0 a1 a2 R ⟨5632 + f.val, by omega⟩

def gateArr : (⟨2, ![1024, 5632]⟩ : Shape).Idx → EReal := fun y => gateVal a0 a1 a2 a3 a4 a5 (y 0) (y 1)

/-- The products themselves, in two halves of the rows. -/
def prodArr : (⟨3, ![2, 512, 5632]⟩ : Shape).Idx → EReal := fun y =>
  actAt a0 a1 a2 ⟨(y 0).val * 512 + (y 1).val, by have h0 : (y 0).val < 2 := (y 0).isLt; have h1 : (y 1).val < 512 := (y 1).isLt; omega⟩
    ⟨(y 2).val, by have h2 : (y 2).val < 5632 := (y 2).isLt; omega⟩

end Arrays

/-- A row of the carried scratch is the array's normed row. -/
theorem scratch_row (t : Fin cfg0.N) (r : Fin 512) : (fun e => (outsAt0 m c t.val t.isLt).2.2 (ix2 r e))
    = Trunk.normed (fun e => A0 m c (ix2 (arow t r) e)) (fun e => A1 m c (ix2 0 e)) := by
  funext d
  rw [scratch_at, rows_at]
  congr 1
  · funext e
    rw [read0]
    congr 2
    apply Fin.ext
    show 11 * (t.val / 11) / 11 * 512 + r.val = t.val / 11 * 512 + r.val
    omega
  · funext e
    exact read1 m c _ e

theorem act_a (t : Fin cfg0.N) (r C : Fin 512) :
    Trunk.dot (fun e => (outsAt0 m c t.val t.isLt).2.2 (ix2 r e)) (fun e => iblk m c 2 t (ix2 e C))
      = actAt (A0 m c) (A1 m c) (A2 m c) (arow t r) ⟨(acol t C).val, by omega⟩ := by
  rw [scratch_row, show (fun e => iblk m c 2 t (ix2 e C)) = _ from funext fun e => read2 m c t e C]
  rfl

theorem act_b (t : Fin cfg0.N) (r C : Fin 512) :
    Trunk.dot (fun e => (outsAt0 m c t.val t.isLt).2.2 (ix2 r e)) (fun e => iblk m c 3 t (ix2 e C))
      = actAt (A0 m c) (A1 m c) (A2 m c) (arow t r) ⟨5632 + (acol t C).val, by omega⟩ := by
  rw [scratch_row, show (fun e => iblk m c 3 t (ix2 e C)) = _ from funext fun e => read3 m c t e C]
  rfl

/-- What point `t` stores of the gated values. -/
theorem block8 (t : Fin cfg0.N) (r C : Fin 512) : (outsAt0 m c t.val t.isLt).1 (ix2 r C)
    = gateArr (A0 m c) (A1 m c) (A2 m c) (A3 m c) (A4 m c) (A5 m c) (ix2 (arow t r) (acol t C)) := by
  rw [stored8, out8_at]
  unfold gateAt
  have e8 : (arow t r).val % 8 = r.val % 8 := by show (t.val / 11 * 512 + r.val) % 8 = _; omega
  show _ = gateVal (A0 m c) (A1 m c) (A2 m c) (A3 m c) (A4 m c) (A5 m c) (arow t r) (acol t C)
  unfold gateVal
  simp only [act_a, act_b, read4, read5]
  congr 3
  · by_cases h : r.val % 8 ≤ 1
    · rw [if_pos h, if_pos (by omega), read7 m c t r C h]
    · rw [if_neg h, if_neg (by omega)]
      congr 1
      apply Fin.ext
      show t.val / 11 * 512 + (r.val + 510) % 512 = t.val / 11 * 512 + r.val - 2
      omega
  · by_cases h : r.val % 8 = 0
    · rw [if_pos h, if_pos (by omega), read6 m c t r C h]
    · rw [if_neg h, if_neg (by omega)]
      congr 1
      apply Fin.ext
      show t.val / 11 * 512 + (r.val + 511) % 512 = t.val / 11 * 512 + r.val - 1
      omega

/-- What it stores of the products. -/
theorem block9 (t : Fin cfg0.N) (r C : Fin 512) : (outsAt0 m c t.val t.isLt).2.1 (ix3 0 r C)
    = prodArr (A0 m c) (A1 m c) (A2 m c) (ix3 ⟨t.val / 11, by have := lt_N t; omega⟩ r (acol t C)) := by
  rw [stored9, out9_at, act_a]
  rfl

theorem final8 : (dats m 0 c).arrAt 8 cfg0.N = gateArr (A0 m c) (A1 m c) (A2 m c) (A3 m c) (A4 m c) (A5 m c) := by
  refine (dats m 0 c).arrAt_eq_of_covers 8 _ (by decide +kernel) fun t hf y => ?_
  rw [after0_8]
  have hX := block8 m c t
  generalize (outsAt0 m c t.val t.isLt).1 = X at hX ⊢
  have hy : y = ix2 (y 0) (y 1) := funext fun a => by fin_cases a <;> rfl
  refine Eq.trans ?_ ((hX (y 0) (y 1)).trans ?_)
  · show X y = _
    exact congrArg X hy
  · congr 1
    funext a
    fin_cases a
    all_goals (apply Fin.ext; blk_simp [idx0 t]; rfl)

theorem final9 : (dats m 0 c).arrAt 9 cfg0.N = prodArr (A0 m c) (A1 m c) (A2 m c) := by
  refine (dats m 0 c).arrAt_eq_of_covers 9 _ (by decide +kernel) fun t hf y => ?_
  rw [after0_9]
  have hX := block9 m c t
  generalize (outsAt0 m c t.val t.isLt).2.1 = X at hX ⊢
  have hy : y = ix3 0 (y 1) (y 2) := funext fun a => by
    fin_cases a
    · exact Subsingleton.elim (α := Fin 1) _ _
    · rfl
    · rfl
  refine Eq.trans ?_ ((hX (y 1) (y 2)).trans ?_)
  · show X y = _
    exact congrArg X hy
  · congr 1
    funext a
    have h0 : (y 0).val = 0 := congrArg Fin.val (congrFun hy 0)
    fin_cases a
    all_goals (apply Fin.ext; blk_simp [idx0 t])
    all_goals first | rfl | (show _ = t.val / 11 + (y 0).val; omega) | trace_state

/-- The run: the gated values and the products, and the arguments end as they were. -/
theorem run : θ_run defs (onTc (τ := τ) (main (F := Ideal))) ⟨m, fun _ => 0, ρ⟩ fun r => ∀ c : Dev nD,
      r.2.mem ((c : Thread nD τ).loc main_v15_0) = gateArr (A0 m c) (A1 m c) (A2 m c) (A3 m c) (A4 m c) (A5 m c)
      ∧ r.2.mem ((c : Thread nD τ).loc main_v15_1) = prodArr (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final8 m c), (h c).2.1.trans (final9 m c), (h c).2.2⟩) (Value.run_blocks m ρ)

end Cert.FfnIdeal.Whole

end
-- ==== Proof.FfnRef.lean ====
/-
  The feed-forward's reference: the same gated values and products.
-/
module

public import proofs.«01_k».proof.Proof.FfnKernel
public import proofs.«01_k».proof.Proof.Gen.PlainFfnIdeal.Run

@[expose] public section

set_option maxRecDepth 16384

noncomputable section

namespace Cert.PlainFfnIdeal.Whole

open Cert.PlainFfnIdeal Cert.PlainFfnIdeal.Gen Idealize.ShloMosaic Idealize.ShloMosaic.TcCoe Idealize.SL.Sem

variable {F : FTy → Type} [FloatOps F]

/-- The normed rows, by sequence and token. -/
def rows (x0 : FVec F S1024x2048 .f32) (x1 : FVec F S1x2048 .f32) : FVec F S128x8x2048 .f32 :=
  mulf (mulf (shapeCast _ x0 shapeCasts_S1024x2048_S128x8x2048) (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf (shapeCast _ x0 shapeCasts_S1024x2048_S128x8x2048) (shapeCast _ x0 shapeCasts_S1024x2048_S128x8x2048)) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ x1 shapeCasts_S1x2048_S2048)))

/-- Their products with the weight. -/
def prods (h : FVec F S128x8x2048 .f32) (x2 : FVec F S1x2048x11264 .f32) : FVec F S128x8x11264 .f32 :=
  Host.dotGeneral dot_S128x8x2048_S2048x11264_S128x8x11264_2_0_01_1_n_n none h (shapeCast _ x2 shapeCasts_S1x2048x11264_S2048x11264)

/-- The ten tokens of each sequence: the two given and the eight products. -/
def tokens (p : FVec F S128x8x11264 .f32) (x5 : FVec F S1x128x2x5632 .f32) : FVec F S128x10x5632 .f32 :=
  concatenate S128x10x5632 1 [⟨S128x2x5632, (shapeCast _ x5 shapeCasts_S1x128x2x5632_S128x2x5632)⟩,
    ⟨S128x8x5632, (extractStridedSlice S128x8x5632 ![0, 0, 0] p slices_S128x8x11264_S128x8x5632_0_0_0)⟩] concatenates_S128x2x5632_S128x8x5632_S128x10x5632_d1

/-- The convolution. -/
def conv (k : FVec F S128x10x5632 .f32) (x3 : FVec F S1x3x5632 .f32) (x4 : FVec F S1x5632 .f32) : FVec F S128x8x5632 .f32 :=
  addf (broadcastInDim S128x8x5632 ![0, 1, 2] bcast_S1x1x5632_S128x8x5632_0_1_2 (broadcastInDim S1x1x5632 ![2] bcast_S5632_S1x1x5632_2 (shapeCast _ x4 shapeCasts_S1x5632_S5632))) (addf (addf (addf (broadcastInDim S128x8x5632 ![] bcast_S_S128x8x5632 (constant S_ .f32 0x00000000#32)) (mulf (broadcastInDim S128x8x5632 ![0, 1, 2] bcast_S1x1x5632_S128x8x5632_0_1_2 (broadcastInDim S1x1x5632 ![2] bcast_S5632_S1x1x5632_2 (shapeCast _ (extractStridedSlice S1x5632 ![0, 0] (shapeCast _ x3 shapeCasts_S1x3x5632_S3x5632) slices_S3x5632_S1x5632_0_0) shapeCasts_S1x5632_S5632))) (extractStridedSlice S128x8x5632 ![0, 0, 0] k slices_S128x10x5632_S128x8x5632_0_0_0))) (mulf (broadcastInDim S128x8x5632 ![0, 1, 2] bcast_S1x1x5632_S128x8x5632_0_1_2 (broadcastInDim S1x1x5632 ![2] bcast_S5632_S1x1x5632_2 (shapeCast _ (extractStridedSlice S1x5632 ![1, 0] (shapeCast _ x3 shapeCasts_S1x3x5632_S3x5632) slices_S3x5632_S1x5632_1_0) shapeCasts_S1x5632_S5632))) (extractStridedSlice S128x8x5632 ![0, 1, 0] k slices_S128x10x5632_S128x8x5632_0_1_0))) (mulf (broadcastInDim S128x8x5632 ![0, 1, 2] bcast_S1x1x5632_S128x8x5632_0_1_2 (broadcastInDim S1x1x5632 ![2] bcast_S5632_S1x1x5632_2 (shapeCast _ (extractStridedSlice S1x5632 ![2, 0] (shapeCast _ x3 shapeCasts_S1x3x5632_S3x5632) slices_S3x5632_S1x5632_2_0) shapeCasts_S1x5632_S5632))) (extractStridedSlice S128x8x5632 ![0, 2, 0] k slices_S128x10x5632_S128x8x5632_0_2_0)))

/-- The gate. -/
def gate (v : FVec F S128x8x5632 .f32) (p : FVec F S128x8x11264 .f32) : FVec F S1024x5632 .bf16 :=
  truncf .bf16 (shapeCast _ (mulf (mulf v (mulf (broadcastInDim S128x8x5632 ![] bcast_S_S128x8x5632 (constant S_ .f32 0x3F000000#32)) (addf (broadcastInDim S128x8x5632 ![] bcast_S_S128x8x5632 (constant S_ .f32 0x3F800000#32)) (Host.tanh (mulf (broadcastInDim S128x8x5632 ![] bcast_S_S128x8x5632 (constant S_ .f32 0x3F4C422A#32)) (addf v (mulf (broadcastInDim S128x8x5632 ![] bcast_S_S128x8x5632 (constant S_ .f32 0x3D372713#32)) (mulf (mulf v v) v)))))))) (extractStridedSlice S128x8x5632 ![0, 0, 5632] p slices_S128x8x11264_S128x8x5632_0_0_5632)) shapeCasts_S128x8x5632_S1024x5632) bitsLt_bf16_f32

/-- The products the reference returns beside the gated values. -/
def half (p : FVec F S128x8x11264 .f32) : FVec F S2x512x5632 .f32 :=
  shapeCast _ (extractStridedSlice S128x8x5632 ![0, 0, 0] p slices_S128x8x11264_S128x8x5632_0_0_0) shapeCasts_S128x8x5632_S2x512x5632

theorem prods_at (x0 : FVec Ideal S1024x2048 .f32) (x1 : FVec Ideal S1x2048 .f32) (x2 : FVec Ideal S1x2048x11264 .f32) (b : Fin 128) (s : Fin 8) (f : Fin 11264) :
    prods (F := Ideal) (rows (F := Ideal) x0 x1) x2 (ix3 b s f) = FfnIdeal.Whole.actAt x0 x1 x2 ⟨b.val * 8 + s.val, by omega⟩ f := by
  have e : ∀ d, rows (F := Ideal) x0 x1 (ix3 b s d)
      = Trunk.normed (fun e => x0 (ix2 ⟨b.val * 8 + s.val, by omega⟩ e)) (fun e => x1 (ix2 0 e)) d := by
    intro d
    unfold rows Trunk.normed Trunk.unit
    pointwise []
  unfold FfnIdeal.Whole.actAt Trunk.dot
  simp only [← e]
  generalize rows (F := Ideal) x0 x1 = h
  unfold prods
  pointwise []

theorem tokens_at (p : FVec Ideal S128x8x11264 .f32) (x5 : FVec Ideal S1x128x2x5632 .f32) (b : Fin 128) (s : Fin 10) (f : Fin 5632) :
    tokens (F := Ideal) p x5 (ix3 b s f) = if h : s.val < 2 then x5 (ix4 0 b ⟨s.val, h⟩ f) else p (ix3 b ⟨s.val - 2, by omega⟩ ⟨f.val, by omega⟩) := by
  unfold tokens
  pointwise []

theorem conv_at (k : FVec Ideal S128x10x5632 .f32) (x3 : FVec Ideal S1x3x5632 .f32) (x4 : FVec Ideal S1x5632 .f32) (b : Fin 128) (s : Fin 8) (f : Fin 5632) :
    conv (F := Ideal) k x3 x4 (ix3 b s f) = Trunk.taps (x3 (ix3 0 0 f)) (x3 (ix3 0 1 f)) (x3 (ix3 0 2 f)) (x4 (ix2 0 f))
      (k (ix3 b ⟨s.val, by omega⟩ f)) (k (ix3 b ⟨1 + s.val, by omega⟩ f)) (k (ix3 b ⟨2 + s.val, by omega⟩ f)) := by
  rw [← Trunk.taps_regrouped]
  unfold conv
  pointwise []

theorem gate_at (v : FVec Ideal S128x8x5632 .f32) (p : FVec Ideal S128x8x11264 .f32) (i : Fin 1024) (f : Fin 5632) :
    gate (F := Ideal) v p (ix2 i f) = Trunk.gelu (v (ix3 ⟨i.val / 8, by omega⟩ ⟨i.val % 8, by omega⟩ f))
      * p (ix3 ⟨i.val / 8, by omega⟩ ⟨i.val % 8, by omega⟩ ⟨5632 + f.val, by omega⟩) := by
  rw [← Trunk.gelu_regrouped]
  unfold gate
  pointwise []

theorem half_at (p : FVec Ideal S128x8x11264 .f32) (g : Fin 2) (r : Fin 512) (f : Fin 5632) :
    half (F := Ideal) p (ix3 g r f) = p (ix3 ⟨g.val * 64 + r.val / 8, by omega⟩ ⟨r.val % 8, by omega⟩ ⟨f.val, by omega⟩) := by
  unfold half
  pointwise []

theorem gate_eq (x0 : FVec Ideal S1024x2048 .f32) (x1 : FVec Ideal S1x2048 .f32) (x2 : FVec Ideal S1x2048x11264 .f32) (x3 : FVec Ideal S1x3x5632 .f32)
    (x4 : FVec Ideal S1x5632 .f32) (x5 : FVec Ideal S1x128x2x5632 .f32) :
    gate (F := Ideal) (conv (tokens (prods (rows x0 x1) x2) x5) x3 x4) (prods (rows x0 x1) x2) = FfnIdeal.Whole.gateArr x0 x1 x2 x3 x4 x5 := by
  funext y
  obtain ⟨i, f, rfl⟩ : ∃ (i : Fin 1024) (f : Fin 5632), y = ix2 i f := ⟨y 0, y 1, funext fun a => by fin_cases a <;> rfl⟩
  have e : ∀ h, (⟨i.val / 8 * 8 + i.val % 8, h⟩ : Fin 1024) = i := fun h => Fin.ext (Nat.div_add_mod' i.val 8)
  rw [gate_at, conv_at]
  simp only [tokens_at, prods_at, e]
  show _ = FfnIdeal.Whole.gateVal x0 x1 x2 x3 x4 x5 i f
  unfold FfnIdeal.Whole.gateVal
  congr 3
  · by_cases h : i.val % 8 ≤ 1
    · rw [if_pos h, dif_pos (by omega)]
      congr 2
      apply Fin.ext
      show i.val % 8 = i.val % 8 % 2
      omega
    · rw [if_neg h, dif_neg (by omega)]
      congr 1
      apply Fin.ext
      show i.val / 8 * 8 + (i.val % 8 - 2) = i.val - 2
      omega
  · by_cases h : i.val % 8 = 0
    · rw [if_pos h, dif_pos (by omega)]
      congr 2
      apply Fin.ext
      show 1 + i.val % 8 = 1
      omega
    · rw [if_neg h, dif_neg (by omega)]
      congr 1
      apply Fin.ext
      show i.val / 8 * 8 + (1 + i.val % 8 - 2) = i.val - 1
      omega
  · rw [dif_neg (by omega)]
    congr 1
    apply Fin.ext
    show i.val / 8 * 8 + (2 + i.val % 8 - 2) = i.val
    omega

theorem half_eq (x0 : FVec Ideal S1024x2048 .f32) (x1 : FVec Ideal S1x2048 .f32) (x2 : FVec Ideal S1x2048x11264 .f32) :
    half (F := Ideal) (prods (rows x0 x1) x2) = FfnIdeal.Whole.prodArr x0 x1 x2 := by
  funext y
  obtain ⟨g, r, f, rfl⟩ : ∃ (g : Fin 2) (r : Fin 512) (f : Fin 5632), y = ix3 g r f := ⟨y 0, y 1, y 2, funext fun a => by fin_cases a <;> rfl⟩
  rw [half_at, prods_at]
  show _ = FfnIdeal.Whole.actAt x0 x1 x2 ⟨g.val * 512 + r.val, _⟩ ⟨f.val, _⟩
  congr 1
  apply Fin.ext
  show (g.val * 64 + r.val / 8) * 8 + r.val % 8 = g.val * 512 + r.val
  omega

theorem res_gate (m : (ℓ : Loc nD τ sig) → Buf (Elt Ideal) ℓ) (c : Dev nD) : Value.res_main_v65 m c
    = gate (F := Ideal) (conv (tokens (prods (rows (m ((c.tc : Thread nD τ).loc main_arg0)) (m ((c.tc : Thread nD τ).loc main_arg1))) (m ((c.tc : Thread nD τ).loc main_arg2))) (m ((c.tc : Thread nD τ).loc main_arg5))) (m ((c.tc : Thread nD τ).loc main_arg3)) (m ((c.tc : Thread nD τ).loc main_arg4))) (prods (rows (m ((c.tc : Thread nD τ).loc main_arg0)) (m ((c.tc : Thread nD τ).loc main_arg1))) (m ((c.tc : Thread nD τ).loc main_arg2))) := by
  unfold Value.res_main_v65
  rfl

/-- The reference's run: the gated values and the products. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = FfnIdeal.Whole.gateArr (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v66) = FfnIdeal.Whole.prodArr (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans ((res_gate m c).trans (gate_eq _ _ _ _ _ _)),
    (h c).2.1.trans (half_eq _ _ _), (h c).2.2⟩) (Value.run (F := Ideal) m ρ)

end Cert.PlainFfnIdeal.Whole

end
-- ==== Proof.Down.lean ====
/-
  The projection with its norm and residual, and its reference, over the extended reals: a row's product with the weight, the norm
  of that row, and the residual's row added.
-/
module

public import proofs.«01_k».proof.Proof.TrunkSpec
public import proofs.«01_k».proof.Proof.Gen.DownIdeal.Value
public import proofs.«01_k».proof.Proof.Gen.PlainDownIdeal.Run
public import Idealize.ShloMosaic.Lib.Pipeline.ValueKit

@[expose] public section

set_option maxRecDepth 16384

noncomputable section

namespace Cert.DownIdeal.Whole

open Cert.DownIdeal Cert.DownIdeal.Gen Idealize.ShloMosaic Idealize.ShloMosaic.TcCoe Idealize.SL.Sem
open Idealize.ShloMosaic.Pipeline (Dat)

/-- What a grid point leaves in its output block. -/
theorem out_at (x0 : FVec Ideal S256x5632 .bf16) (x1 : FVec Ideal S5632x2048 .bf16) (x2 : FVec Ideal S1x2048 .f32) (x3 : FVec Ideal S256x2048 .f32)
    (r : Fin 256) (d : Fin 2048) :
    out0_4 (F := Ideal) x0 x1 x2 x3 (ix2 r d) = x3 (ix2 r d)
      + Trunk.normed (fun e => Trunk.dot (fun k => x0 (ix2 r k)) (fun k => x1 (ix2 k e))) (fun e => x2 (ix2 0 e)) d := by
  unfold out0_4
  rw [View.canon_unit_zero Trunk.zero2]
  rw [View.ld_unit_zero (S := S256x5632) Trunk.zero2, View.ld_unit_zero (S := S5632x2048) Trunk.zero2, View.ld_unit_zero (S := S256x2048) Trunk.zero2,
    View.ld_unit_zero (S := S1x2048) Trunk.zero2]
  unfold k0_pay1 Trunk.dot Trunk.normed Trunk.unit
  pointwise []

variable (m : (ℓ : Loc nD τ sig) → Buf (Elt Ideal) ℓ) (ρ : Dev nD → PrngReg) (c : Dev nD)

/-- The activations, the weight, the norm's scale and the residual. -/
abbrev A0 : (⟨2, ![1024, 5632]⟩ : Shape).Idx → EReal := m ((c : Thread nD τ).loc main_arg0)
abbrev A1 : (⟨3, ![1, 5632, 2048]⟩ : Shape).Idx → EReal := m ((c : Thread nD τ).loc main_arg1)
abbrev A2 : (⟨2, ![1, 2048]⟩ : Shape).Idx → EReal := m ((c : Thread nD τ).loc main_arg2)
abbrev A3 : (⟨2, ![1024, 2048]⟩ : Shape).Idx → EReal := m ((c : Thread nD τ).loc main_arg3)

/-- The residual's rows with the norm of the products added. -/
def downArr (a0 : (⟨2, ![1024, 5632]⟩ : Shape).Idx → EReal) (a1 : (⟨3, ![1, 5632, 2048]⟩ : Shape).Idx → EReal) (a2 : (⟨2, ![1, 2048]⟩ : Shape).Idx → EReal)
    (a3 : (⟨2, ![1024, 2048]⟩ : Shape).Idx → EReal) : (⟨2, ![1024, 2048]⟩ : Shape).Idx → EReal := fun y =>
  a3 (ix2 (y 0) (y 1)) + Trunk.normed (fun e => Trunk.dot (fun k => a0 (ix2 (y 0) k)) (fun k => a1 (ix3 0 k e))) (fun e => a2 (ix2 0 e)) (y 1)

theorem idx0 : ∀ t : Fin cfg0.N, win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, win0_0.index t = ![t.val, 0] ∧ win0_1.index t = ![0, 0] ∧ win0_2.index t = ![0, 0] ∧ win0_3.index t = ![t.val, 0]
    ∧ win0_4.index t = ![t.val, 0])

theorem lt_N (t : Fin cfg0.N) : t.val < 4 := t.isLt

/-- The array row of a block row. -/
def arow (t : Fin cfg0.N) (r : Fin 256) : Fin 1024 := ⟨t.val * 256 + r.val, by have := lt_N t; omega⟩

theorem read0 (t : Fin cfg0.N) (r : Fin 256) (k : Fin 5632) : iblk m c 0 t (ix2 r k) = A0 m c (ix2 (arow t r) k) := by
  have := lt_N t
  blk_ext! [iblk, V, idx0 t, arow]

theorem read1 (t : Fin cfg0.N) (k : Fin 5632) (d : Fin 2048) : iblk m c 1 t (ix2 k d) = A1 m c (ix3 0 k d) := by
  have := lt_N t
  blk_ext! [iblk, V, idx0 t]

theorem read2 (t : Fin cfg0.N) (d : Fin 2048) : iblk m c 2 t (ix2 0 d) = A2 m c (ix2 0 d) := by
  have := lt_N t
  blk_ext! [iblk, V, idx0 t]

theorem read3 (t : Fin cfg0.N) (r : Fin 256) (d : Fin 2048) : iblk m c 3 t (ix2 r d) = A3 m c (ix2 (arow t r) d) := by
  have := lt_N t
  blk_ext! [iblk, V, idx0 t, arow]

/-- What point `t` writes back. -/
theorem block (t : Fin cfg0.N) (r : Fin 256) (d : Fin 2048) :
    out0_4 (iblk m c 0 t) (iblk m c 1 t) (iblk m c 2 t) (iblk m c 3 t) (ix2 r d) = downArr (A0 m c) (A1 m c) (A2 m c) (A3 m c) (ix2 (arow t r) d) := by
  refine (out_at _ _ _ _ r d).trans ?_
  rw [read3 m c t r d, show (fun k => iblk m c 0 t (ix2 r k)) = _ from funext fun k => read0 m c t r k,
    show (fun e => iblk m c 2 t (ix2 0 e)) = _ from funext fun e => read2 m c t e,
    show (fun e => Trunk.dot (fun k => A0 m c (ix2 (arow t r) k)) (fun k => iblk m c 1 t (ix2 k e))) = _ from
      funext fun e => congrArg (Trunk.dot _) (funext fun k => read1 m c t k e)]
  rfl

theorem final4 : (dats m 0 c).arrAt 4 cfg0.N = downArr (A0 m c) (A1 m c) (A2 m c) (A3 m c) := by
  refine (dats m 0 c).arrAt_eq_of_covers 4 _ (by decide +kernel) fun t hf y => ?_
  rw [after0_4]
  have hX := block m c t
  generalize out0_4 (iblk m c 0 t) (iblk m c 1 t) (iblk m c 2 t) (iblk m c 3 t) = X at hX ⊢
  have hy : y = ix2 (y 0) (y 1) := funext fun a => by fin_cases a <;> rfl
  refine Eq.trans ?_ ((hX (y 0) (y 1)).trans ?_)
  · show X y = _
    exact congrArg X hy
  · congr 1
    funext a
    fin_cases a
    all_goals (apply Fin.ext; blk_simp [idx0 t]; rfl)

/-- The run: the result is the residual with the norm of the products, and the arguments end as they were. -/
theorem run : θ_run defs (onTc (τ := τ) (main (F := Ideal))) ⟨m, fun _ => 0, ρ⟩ fun r => ∀ c : Dev nD,
      r.2.mem ((c : Thread nD τ).loc main_v4) = downArr (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2⟩) (Value.run_blocks m ρ)

end Cert.DownIdeal.Whole

namespace Cert.PlainDownIdeal.Whole

open Cert.PlainDownIdeal Cert.PlainDownIdeal.Gen Idealize.ShloMosaic Idealize.ShloMosaic.TcCoe Idealize.SL.Sem

/-- The reference's products. -/
def prod {F : FTy → Type} [FloatOps F] (x0 : FVec F S1024x5632 .bf16) (x1 : FVec F S1x5632x2048 .f32) : FVec F S128x8x2048 .f32 :=
  Host.dotGeneral dot_S128x8x5632_S5632x2048_S128x8x2048_2_0_01_1_n_n none (shapeCast _ (extf .f32 x0 bitsLt_bf16_f32) shapeCasts_S1024x5632_S128x8x5632)
    (shapeCast _ x1 shapeCasts_S1x5632x2048_S5632x2048)

/-- The reference's result, from its products. -/
def res {F : FTy → Type} [FloatOps F] (p : FVec F S128x8x2048 .f32) (x2 : FVec F S1x2048 .f32) (x3 : FVec F S1024x2048 .f32) : FVec F S1024x2048 .f32 :=
  shapeCast _ (addf (shapeCast _ x3 shapeCasts_S1024x2048_S128x8x2048)
    (mulf (mulf p (broadcastInDim S128x8x2048 ![0, 1, 2] bcast_S128x8x1_S128x8x2048_0_1_2 (Host.rsqrt (addf (Host.divf (broadcastInDim S128x8x1 ![0, 1] bcast_S128x8_S128x8x1_0_1
        (Host.reduceAdd (mulf p p) (constant S_ .f32 0x00000000#32) reducesTo_S128x8x2048_S128x8_d2 h_S_)) (broadcastInDim S128x8x1 ![] bcast_S_S128x8x1 (constant S_ .f32 0x45000000#32)))
        (broadcastInDim S128x8x1 ![] bcast_S_S128x8x1 (constant S_ .f32 0x358637BD#32))))))
      (broadcastInDim S128x8x2048 ![0, 1, 2] bcast_S1x1x2048_S128x8x2048_0_1_2 (broadcastInDim S1x1x2048 ![2] bcast_S2048_S1x1x2048_2 (shapeCast _ x2 shapeCasts_S1x2048_S2048)))))
    shapeCasts_S128x8x2048_S1024x2048

theorem prod_at (x0 : FVec Ideal S1024x5632 .bf16) (x1 : FVec Ideal S1x5632x2048 .f32) (b : Fin 128) (s : Fin 8) (d : Fin 2048) :
    prod (F := Ideal) x0 x1 (ix3 b s d) = Trunk.dot (fun k => x0 (ix2 ⟨b.val * 8 + s.val, by omega⟩ k)) (fun k => x1 (ix3 0 k d)) := by
  unfold prod Trunk.dot
  pointwise []

theorem res_at (p : FVec Ideal S128x8x2048 .f32) (x2 : FVec Ideal S1x2048 .f32) (x3 : FVec Ideal S1024x2048 .f32) (i : Fin 1024) (d : Fin 2048) :
    res (F := Ideal) p x2 x3 (ix2 i d) = x3 (ix2 i d)
      + Trunk.normed (fun e => p (ix3 ⟨i.val / 8, by omega⟩ ⟨i.val % 8, by omega⟩ e)) (fun e => x2 (ix2 0 e)) d := by
  unfold res Trunk.normed Trunk.unit
  pointwise []

theorem res_eq (x0 : FVec Ideal S1024x5632 .bf16) (x1 : FVec Ideal S1x5632x2048 .f32) (x2 : FVec Ideal S1x2048 .f32) (x3 : FVec Ideal S1024x2048 .f32) :
    res (F := Ideal) (prod (F := Ideal) x0 x1) x2 x3 = DownIdeal.Whole.downArr x0 x1 x2 x3 := by
  funext y
  have hy : y = ix2 (y 0) (y 1) := funext fun a => by fin_cases a <;> rfl
  rw [hy]
  generalize y 0 = i
  generalize y 1 = j
  refine (res_at _ _ _ i j).trans ?_
  have e : ∀ h, (⟨i.val / 8 * 8 + i.val % 8, h⟩ : Fin 1024) = i := fun h => Fin.ext (Nat.div_add_mod' i.val 8)
  simp only [prod_at, e]
  rfl

/-- The reference's run: the result is the residual with the norm of the products. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = DownIdeal.Whole.downArr (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (res_eq _ _ _ _), (h c).2⟩) (Value.run (F := Ideal) m ρ)

end Cert.PlainDownIdeal.Whole

end
-- ==== Proof.DownP.lean ====
/-
  The projection with its norm and residual for the prompt, and its reference: as for the sample call, over 16384 rows, which the
  reference lays out as 8 sequences of 2048 tokens.
-/
module

public import proofs.«01_k».proof.Proof.TrunkSpec
public import proofs.«01_k».proof.Proof.Gen.DownPIdeal.Value
public import proofs.«01_k».proof.Proof.Gen.PlainDownPIdeal.Run
public import Idealize.ShloMosaic.Lib.Pipeline.ValueKit

@[expose] public section

set_option maxRecDepth 16384

noncomputable section

namespace Cert.DownPIdeal.Whole

open Cert.DownPIdeal Cert.DownPIdeal.Gen Idealize.ShloMosaic Idealize.ShloMosaic.TcCoe Idealize.SL.Sem
open Idealize.ShloMosaic.Pipeline (Dat)

/-- What a grid point leaves in its output block. -/
theorem out_at (x0 : FVec Ideal S256x5632 .bf16) (x1 : FVec Ideal S5632x2048 .bf16) (x2 : FVec Ideal S1x2048 .f32) (x3 : FVec Ideal S256x2048 .f32)
    (r : Fin 256) (d : Fin 2048) :
    out0_4 (F := Ideal) x0 x1 x2 x3 (ix2 r d) = x3 (ix2 r d)
      + Trunk.normed (fun e => Trunk.dot (fun k => x0 (ix2 r k)) (fun k => x1 (ix2 k e))) (fun e => x2 (ix2 0 e)) d := by
  unfold out0_4
  rw [View.canon_unit_zero Trunk.zero2]
  rw [View.ld_unit_zero (S := S256x5632) Trunk.zero2, View.ld_unit_zero (S := S5632x2048) Trunk.zero2, View.ld_unit_zero (S := S256x2048) Trunk.zero2,
    View.ld_unit_zero (S := S1x2048) Trunk.zero2]
  unfold k0_pay1 Trunk.dot Trunk.normed Trunk.unit
  pointwise []

variable (m : (ℓ : Loc nD τ sig) → Buf (Elt Ideal) ℓ) (ρ : Dev nD → PrngReg) (c : Dev nD)

/-- The activations, the weight, the norm's scale and the residual. -/
abbrev A0 : (⟨2, ![16384, 5632]⟩ : Shape).Idx → EReal := m ((c : Thread nD τ).loc main_arg0)
abbrev A1 : (⟨3, ![1, 5632, 2048]⟩ : Shape).Idx → EReal := m ((c : Thread nD τ).loc main_arg1)
abbrev A2 : (⟨2, ![1, 2048]⟩ : Shape).Idx → EReal := m ((c : Thread nD τ).loc main_arg2)
abbrev A3 : (⟨2, ![16384, 2048]⟩ : Shape).Idx → EReal := m ((c : Thread nD τ).loc main_arg3)

/-- The residual's rows with the norm of the products added. -/
def downArr (a0 : (⟨2, ![16384, 5632]⟩ : Shape).Idx → EReal) (a1 : (⟨3, ![1, 5632, 2048]⟩ : Shape).Idx → EReal) (a2 : (⟨2, ![1, 2048]⟩ : Shape).Idx → EReal)
    (a3 : (⟨2, ![16384, 2048]⟩ : Shape).Idx → EReal) : (⟨2, ![16384, 2048]⟩ : Shape).Idx → EReal := fun y =>
  a3 (ix2 (y 0) (y 1)) + Trunk.normed (fun e => Trunk.dot (fun k => a0 (ix2 (y 0) k)) (fun k => a1 (ix3 0 k e))) (fun e => a2 (ix2 0 e)) (y 1)

theorem idx0 : ∀ t : Fin cfg0.N, win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, win0_0.index t = ![t.val, 0] ∧ win0_1.index t = ![0, 0] ∧ win0_2.index t = ![0, 0] ∧ win0_3.index t = ![t.val, 0]
    ∧ win0_4.index t = ![t.val, 0])

theorem lt_N (t : Fin cfg0.N) : t.val < 64 := t.isLt

/-- The array row of a block row. -/
def arow (t : Fin cfg0.N) (r : Fin 256) : Fin 16384 := ⟨t.val * 256 + r.val, by have := lt_N t; omega⟩

theorem read0 (t : Fin cfg0.N) (r : Fin 256) (k : Fin 5632) : iblk m c 0 t (ix2 r k) = A0 m c (ix2 (arow t r) k) := by
  have := lt_N t
  blk_ext! [iblk, V, idx0 t, arow]

theorem read1 (t : Fin cfg0.N) (k : Fin 5632) (d : Fin 2048) : iblk m c 1 t (ix2 k d) = A1 m c (ix3 0 k d) := by
  have := lt_N t
  blk_ext! [iblk, V, idx0 t]

theorem read2 (t : Fin cfg0.N) (d : Fin 2048) : iblk m c 2 t (ix2 0 d) = A2 m c (ix2 0 d) := by
  have := lt_N t
  blk_ext! [iblk, V, idx0 t]

theorem read3 (t : Fin cfg0.N) (r : Fin 256) (d : Fin 2048) : iblk m c 3 t (ix2 r d) = A3 m c (ix2 (arow t r) d) := by
  have := lt_N t
  blk_ext! [iblk, V, idx0 t, arow]

/-- What point `t` writes back. -/
theorem block (t : Fin cfg0.N) (r : Fin 256) (d : Fin 2048) :
    out0_4 (iblk m c 0 t) (iblk m c 1 t) (iblk m c 2 t) (iblk m c 3 t) (ix2 r d) = downArr (A0 m c) (A1 m c) (A2 m c) (A3 m c) (ix2 (arow t r) d) := by
  refine (out_at _ _ _ _ r d).trans ?_
  rw [read3 m c t r d, show (fun k => iblk m c 0 t (ix2 r k)) = _ from funext fun k => read0 m c t r k,
    show (fun e => iblk m c 2 t (ix2 0 e)) = _ from funext fun e => read2 m c t e,
    show (fun e => Trunk.dot (fun k => A0 m c (ix2 (arow t r) k)) (fun k => iblk m c 1 t (ix2 k e))) = _ from
      funext fun e => congrArg (Trunk.dot _) (funext fun k => read1 m c t k e)]
  rfl

theorem final4 : (dats m 0 c).arrAt 4 cfg0.N = downArr (A0 m c) (A1 m c) (A2 m c) (A3 m c) := by
  refine (dats m 0 c).arrAt_eq_of_covers 4 _ (by decide +kernel) fun t hf y => ?_
  rw [after0_4]
  have hX := block m c t
  generalize out0_4 (iblk m c 0 t) (iblk m c 1 t) (iblk m c 2 t) (iblk m c 3 t) = X at hX ⊢
  have hy : y = ix2 (y 0) (y 1) := funext fun a => by fin_cases a <;> rfl
  refine Eq.trans ?_ ((hX (y 0) (y 1)).trans ?_)
  · show X y = _
    exact congrArg X hy
  · congr 1
    funext a
    fin_cases a
    all_goals (apply Fin.ext; blk_simp [idx0 t]; rfl)

/-- The run: the result is the residual with the norm of the products, and the arguments end as they were. -/
theorem run : θ_run defs (onTc (τ := τ) (main (F := Ideal))) ⟨m, fun _ => 0, ρ⟩ fun r => ∀ c : Dev nD,
      r.2.mem ((c : Thread nD τ).loc main_v4) = downArr (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2⟩) (Value.run_blocks m ρ)

end Cert.DownPIdeal.Whole

namespace Cert.PlainDownPIdeal.Whole

open Cert.PlainDownPIdeal Cert.PlainDownPIdeal.Gen Idealize.ShloMosaic Idealize.ShloMosaic.TcCoe Idealize.SL.Sem

/-- The reference's products. -/
def prod {F : FTy → Type} [FloatOps F] (x0 : FVec F S16384x5632 .bf16) (x1 : FVec F S1x5632x2048 .f32) : FVec F S8x2048x2048 .f32 :=
  Host.dotGeneral dot_S8x2048x5632_S5632x2048_S8x2048x2048_2_0_01_1_n_n none (shapeCast _ (extf .f32 x0 bitsLt_bf16_f32) shapeCasts_S16384x5632_S8x2048x5632)
    (shapeCast _ x1 shapeCasts_S1x5632x2048_S5632x2048)

/-- The reference's result, from its products. -/
def res {F : FTy → Type} [FloatOps F] (p : FVec F S8x2048x2048 .f32) (x2 : FVec F S1x2048 .f32) (x3 : FVec F S16384x2048 .f32) : FVec F S16384x2048 .f32 :=
  shapeCast _ (addf (shapeCast _ x3 shapeCasts_S16384x2048_S8x2048x2048)
    (mulf (mulf p (broadcastInDim S8x2048x2048 ![0, 1, 2] bcast_S8x2048x1_S8x2048x2048_0_1_2 (Host.rsqrt (addf (Host.divf (broadcastInDim S8x2048x1 ![0, 1] bcast_S8x2048_S8x2048x1_0_1
        (Host.reduceAdd (mulf p p) (constant S_ .f32 0x00000000#32) reducesTo_S8x2048x2048_S8x2048_d2 h_S_)) (broadcastInDim S8x2048x1 ![] bcast_S_S8x2048x1 (constant S_ .f32 0x45000000#32)))
        (broadcastInDim S8x2048x1 ![] bcast_S_S8x2048x1 (constant S_ .f32 0x358637BD#32))))))
      (broadcastInDim S8x2048x2048 ![0, 1, 2] bcast_S1x1x2048_S8x2048x2048_0_1_2 (broadcastInDim S1x1x2048 ![2] bcast_S2048_S1x1x2048_2 (shapeCast _ x2 shapeCasts_S1x2048_S2048)))))
    shapeCasts_S8x2048x2048_S16384x2048

theorem prod_at (x0 : FVec Ideal S16384x5632 .bf16) (x1 : FVec Ideal S1x5632x2048 .f32) (b : Fin 8) (s : Fin 2048) (d : Fin 2048) :
    prod (F := Ideal) x0 x1 (ix3 b s d) = Trunk.dot (fun k => x0 (ix2 ⟨b.val * 2048 + s.val, by omega⟩ k)) (fun k => x1 (ix3 0 k d)) := by
  unfold prod Trunk.dot
  pointwise []

theorem res_at (p : FVec Ideal S8x2048x2048 .f32) (x2 : FVec Ideal S1x2048 .f32) (x3 : FVec Ideal S16384x2048 .f32) (i : Fin 16384) (d : Fin 2048) :
    res (F := Ideal) p x2 x3 (ix2 i d) = x3 (ix2 i d)
      + Trunk.normed (fun e => p (ix3 ⟨i.val / 2048, by omega⟩ ⟨i.val % 2048, by omega⟩ e)) (fun e => x2 (ix2 0 e)) d := by
  unfold res Trunk.normed Trunk.unit
  pointwise []

theorem res_eq (x0 : FVec Ideal S16384x5632 .bf16) (x1 : FVec Ideal S1x5632x2048 .f32) (x2 : FVec Ideal S1x2048 .f32) (x3 : FVec Ideal S16384x2048 .f32) :
    res (F := Ideal) (prod (F := Ideal) x0 x1) x2 x3 = DownPIdeal.Whole.downArr x0 x1 x2 x3 := by
  funext y
  have hy : y = ix2 (y 0) (y 1) := funext fun a => by fin_cases a <;> rfl
  rw [hy]
  generalize y 0 = i
  generalize y 1 = j
  refine (res_at _ _ _ i j).trans ?_
  have e : ∀ h, (⟨i.val / 2048 * 2048 + i.val % 2048, h⟩ : Fin 16384) = i := fun h => Fin.ext (Nat.div_add_mod' i.val 2048)
  simp only [prod_at, e]
  rfl

/-- The reference's run: the result is the residual with the norm of the products. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = DownPIdeal.Whole.downArr (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (res_eq _ _ _ _), (h c).2⟩) (Value.run (F := Ideal) m ρ)

end Cert.PlainDownPIdeal.Whole

end
-- ==== Proof.Proj.lean ====
/-
  The projection kernel and its reference over the extended reals: a row's norm, then its product with the weight.
-/
module

public import proofs.«01_k».proof.Proof.TrunkSpec
public import proofs.«01_k».proof.Proof.Gen.ProjIdeal.Value
public import proofs.«01_k».proof.Proof.Gen.PlainProjIdeal.Run
public import Idealize.ShloMosaic.Lib.Pipeline.ValueKit

@[expose] public section

set_option maxRecDepth 16384

noncomputable section

namespace Cert.ProjIdeal.Whole

open Cert.ProjIdeal Cert.ProjIdeal.Gen Idealize.ShloMosaic Idealize.ShloMosaic.TcCoe Idealize.SL.Sem
open Idealize.ShloMosaic.Pipeline (Dat)

/-- What a grid point leaves in its output block. -/
theorem out_at (x0 : FVec Ideal S512x2048 .f32) (x1 : FVec Ideal S1x2048 .f32) (x2 : FVec Ideal S2048x2048 .bf16) (r : Fin 512) (d : Fin 2048) :
    out0_3 (F := Ideal) x0 x1 x2 (ix2 r d) = Trunk.dot (Trunk.normed (fun e => x0 (ix2 r e)) (fun e => x1 (ix2 0 e))) (fun e => x2 (ix2 e d)) := by
  unfold out0_3
  rw [View.canon_unit_zero Trunk.zero2]
  rw [View.ld_unit_zero (S := S512x2048) Trunk.zero2, View.ld_unit_zero (S := S1x2048) Trunk.zero2, View.ld_unit_zero (S := S2048x2048) Trunk.zero2]
  unfold k0_pay1 Trunk.dot Trunk.normed Trunk.unit
  pointwise []

variable (m : (ℓ : Loc nD τ sig) → Buf (Elt Ideal) ℓ) (ρ : Dev nD → PrngReg) (c : Dev nD)

/-- The rows, the norm's scale and the weight. -/
abbrev A0 : (⟨3, ![8, 256, 2048]⟩ : Shape).Idx → EReal := m ((c : Thread nD τ).loc main_arg0)
abbrev A1 : (⟨2, ![1, 2048]⟩ : Shape).Idx → EReal := m ((c : Thread nD τ).loc main_arg1)
abbrev A2 : (⟨3, ![1, 2048, 2048]⟩ : Shape).Idx → EReal := m ((c : Thread nD τ).loc main_arg2)

/-- The projected rows. -/
def projArr (a0 : (⟨3, ![8, 256, 2048]⟩ : Shape).Idx → EReal) (a1 : (⟨2, ![1, 2048]⟩ : Shape).Idx → EReal) (a2 : (⟨3, ![1, 2048, 2048]⟩ : Shape).Idx → EReal) :
    (⟨2, ![2048, 2048]⟩ : Shape).Idx → EReal := fun y =>
  Trunk.dot (Trunk.normed (fun e => a0 (ix3 ⟨(y 0).val / 256, by have := (y 0).isLt; simp at this; omega⟩ ⟨(y 0).val % 256, by omega⟩ e)) (fun e => a1 (ix2 0 e)))
    (fun e => a2 (ix3 0 e (y 1)))

theorem idx0 : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0])

theorem lt_N (t : Fin cfg0.N) : t.val < 4 := t.isLt

theorem read0 (t : Fin cfg0.N) (r : Fin 512) (d : Fin 2048) :
    iblk m c 0 t (ix2 r d) = A0 m c (ix3 ⟨(t.val * 512 + r.val) / 256, by have := lt_N t; omega⟩ ⟨(t.val * 512 + r.val) % 256, by omega⟩ d) := by
  have := lt_N t
  blk_ext! [iblk, V, idx0 t]

theorem read1 (t : Fin cfg0.N) (d : Fin 2048) : iblk m c 1 t (ix2 0 d) = A1 m c (ix2 0 d) := by
  have := lt_N t
  blk_ext! [iblk, V, idx0 t]

theorem read2 (t : Fin cfg0.N) (e d : Fin 2048) : iblk m c 2 t (ix2 e d) = A2 m c (ix3 0 e d) := by
  have := lt_N t
  blk_ext! [iblk, V, idx0 t]

/-- What point `t` writes back. -/
theorem block (t : Fin cfg0.N) (r : Fin 512) (d : Fin 2048) :
    out0_3 (iblk m c 0 t) (iblk m c 1 t) (iblk m c 2 t) (ix2 r d)
      = projArr (A0 m c) (A1 m c) (A2 m c) (ix2 ⟨t.val * 512 + r.val, by have := lt_N t; omega⟩ d) := by
  refine (out_at _ _ _ r d).trans ?_
  rw [show (fun e => iblk m c 0 t (ix2 r e)) = _ from funext fun e => read0 m c t r e,
    show (fun e => iblk m c 1 t (ix2 0 e)) = _ from funext fun e => read1 m c t e,
    show (fun e => iblk m c 2 t (ix2 e d)) = _ from funext fun e => read2 m c t e d]
  rfl

theorem final3 : (dats m 0 c).arrAt 3 cfg0.N = projArr (A0 m c) (A1 m c) (A2 m c) := by
  refine (dats m 0 c).arrAt_eq_of_covers 3 _ (by decide +kernel) fun t hf y => ?_
  rw [after0_3]
  have hX := block m c t
  generalize out0_3 (iblk m c 0 t) (iblk m c 1 t) (iblk m c 2 t) = X at hX ⊢
  have hy : y = ix2 (y 0) (y 1) := funext fun a => by fin_cases a <;> rfl
  refine Eq.trans ?_ ((hX (y 0) (y 1)).trans ?_)
  · show X y = _
    exact congrArg X hy
  · congr 1
    funext a
    fin_cases a
    all_goals (apply Fin.ext; blk_simp [idx0 t]; rfl)

/-- The run: the result is the projected rows, and the arguments end as they were. -/
theorem run : θ_run defs (onTc (τ := τ) (main (F := Ideal))) ⟨m, fun _ => 0, ρ⟩ fun r => ∀ c : Dev nD,
      r.2.mem ((c : Thread nD τ).loc main_v5) = projArr (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (Value.run_blocks m ρ)

end Cert.ProjIdeal.Whole

namespace Cert.PlainProjIdeal.Whole

open Cert.PlainProjIdeal Cert.PlainProjIdeal.Gen Idealize.ShloMosaic Idealize.ShloMosaic.TcCoe Idealize.SL.Sem

/-- The reference's result, from its arguments. -/
def res {F : FTy → Type} [FloatOps F] (x0 : FVec F S8x256x2048 .f32) (x1 : FVec F S1x2048 .f32) (x2 : FVec F S1x2048x2048 .f32) : FVec F S2048x2048 .f32 :=
  shapeCast _ (Host.dotGeneral dot_S8x256x2048_S2048x2048_S8x256x2048_2_0_01_1_n_n none
    (mulf (mulf x0 (broadcastInDim S8x256x2048 ![0, 1, 2] bcast_S8x256x1_S8x256x2048_0_1_2 (Host.rsqrt (addf (Host.divf (broadcastInDim S8x256x1 ![0, 1] bcast_S8x256_S8x256x1_0_1
        (Host.reduceAdd (mulf x0 x0) (constant S_ .f32 0x00000000#32) reducesTo_S8x256x2048_S8x256_d2 h_S_)) (broadcastInDim S8x256x1 ![] bcast_S_S8x256x1 (constant S_ .f32 0x45000000#32)))
        (broadcastInDim S8x256x1 ![] bcast_S_S8x256x1 (constant S_ .f32 0x358637BD#32))))))
      (broadcastInDim S8x256x2048 ![0, 1, 2] bcast_S1x1x2048_S8x256x2048_0_1_2 (broadcastInDim S1x1x2048 ![2] bcast_S2048_S1x1x2048_2 (shapeCast _ x1 shapeCasts_S1x2048_S2048))))
    (shapeCast _ x2 shapeCasts_S1x2048x2048_S2048x2048)) shapeCasts_S8x256x2048_S2048x2048

theorem res_at (x0 : FVec Ideal S8x256x2048 .f32) (x1 : FVec Ideal S1x2048 .f32) (x2 : FVec Ideal S1x2048x2048 .f32) :
    res (F := Ideal) x0 x1 x2 = ProjIdeal.Whole.projArr x0 x1 x2 := by
  funext y
  have hy : y = ix2 (y 0) (y 1) := funext fun a => by fin_cases a <;> rfl
  rw [hy]
  generalize y 0 = i
  generalize y 1 = j
  unfold res ProjIdeal.Whole.projArr Trunk.dot Trunk.normed Trunk.unit
  pointwise []

/-- The reference's run: the result is the projected rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = ProjIdeal.Whole.projArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (res_at _ _ _), (h c).2⟩) (Value.run (F := Ideal) m ρ)

end Cert.PlainProjIdeal.Whole

end
-- ==== Proof.TrunkClaims.lean ====
/-
  The claims about the feed-forward, the projection back with its norm and residual, and the projection of normed rows.
-/
module

public import proofs.«01_k».proof.Defs
public import proofs.«01_k».proof.Proof.FfnRef
public import proofs.«01_k».proof.Proof.Down
public import proofs.«01_k».proof.Proof.DownP
public import proofs.«01_k».proof.Proof.Proj
public import proofs.«01_k».proof.Proof.Gen.Ffn.Frame
public import proofs.«01_k».proof.Proof.Gen.Down.Frame
public import proofs.«01_k».proof.Proof.Gen.DownP.Frame
public import proofs.«01_k».proof.Proof.Gen.Proj.Frame
public import Idealize.ShloMosaic.Lib.Quiescent

@[expose] public section

set_option maxRecDepth 16384

noncomputable section

namespace Cert.Proof.TrunkClaims

open Idealize.ShloMosaic Idealize.ShloMosaic.TcCoe Idealize.SL.Sem

theorem ffn_p : Cert.quiescent_Ffn := fun m ρ _ => Cert.Ffn.Gen.frame m ρ
theorem ffn_pi : Cert.quiescent_FfnIdeal := fun m ρ _ => Cert.FfnIdeal.Gen.frame m ρ
theorem ffn_ri : Cert.quiescent_PlainFfnIdeal := fun m ρ _ =>
  (θ_run Cert.PlainFfnIdeal.defs _ _).mono (fun r h => ⟨fun c => (h c).2.2, Idealize.ShloMosaic.sem_eq_zero_of_no_sems (by decide) r.2⟩)
    (Cert.PlainFfnIdeal.Value.run (F := Ideal) m ρ)
theorem ffn_preserves : Cert.preserves_Ffn_FfnIdeal := trivial
theorem ffn_algebraic : Cert.algebraic_FfnIdeal_PlainFfnIdeal := by
  intro m ρ m' ρ' _ hag
  refine ⟨_, _, Cert.FfnIdeal.Whole.run m ρ, (θ_run Cert.PlainFfnIdeal.defs _ _).mono (fun r h c => ?_) (Cert.PlainFfnIdeal.Whole.run m' ρ')⟩
  obtain ⟨a0, a1, a2, a3, a4, a5⟩ := hag c
  refine ⟨(h c).1.trans ?_, (h c).2.1.trans ?_, (h c).2.2⟩
  · rw [a0, a1, a2, a3, a4, a5]
  · rw [a0, a1, a2]

theorem down_p : Cert.quiescent_Down := fun m ρ _ => Cert.Down.Gen.frame m ρ
theorem down_pi : Cert.quiescent_DownIdeal := fun m ρ _ => Cert.DownIdeal.Gen.frame m ρ
theorem down_ri : Cert.quiescent_PlainDownIdeal := fun m ρ _ =>
  (θ_run Cert.PlainDownIdeal.defs _ _).mono (fun r h => ⟨fun c => (h c).2, Idealize.ShloMosaic.sem_eq_zero_of_no_sems (by decide) r.2⟩)
    (Cert.PlainDownIdeal.Value.run (F := Ideal) m ρ)
theorem down_preserves : Cert.preserves_Down_DownIdeal := trivial
theorem down_algebraic : Cert.algebraic_DownIdeal_PlainDownIdeal := by
  intro m ρ m' ρ' _ hag
  refine ⟨_, Cert.DownIdeal.Whole.run m ρ, (θ_run Cert.PlainDownIdeal.defs _ _).mono (fun r h c => ?_) (Cert.PlainDownIdeal.Whole.run m' ρ')⟩
  obtain ⟨a0, a1, a2, a3⟩ := hag c
  refine ⟨(h c).1.trans ?_, (h c).2⟩
  rw [a0, a1, a2, a3]

theorem down_prompt_p : Cert.quiescent_DownP := fun m ρ _ => Cert.DownP.Gen.frame m ρ
theorem down_prompt_pi : Cert.quiescent_DownPIdeal := fun m ρ _ => Cert.DownPIdeal.Gen.frame m ρ
theorem down_prompt_ri : Cert.quiescent_PlainDownPIdeal := fun m ρ _ =>
  (θ_run Cert.PlainDownPIdeal.defs _ _).mono (fun r h => ⟨fun c => (h c).2, Idealize.ShloMosaic.sem_eq_zero_of_no_sems (by decide) r.2⟩)
    (Cert.PlainDownPIdeal.Value.run (F := Ideal) m ρ)
theorem down_prompt_preserves : Cert.preserves_DownP_DownPIdeal := trivial
theorem down_prompt_algebraic : Cert.algebraic_DownPIdeal_PlainDownPIdeal := by
  intro m ρ m' ρ' _ hag
  refine ⟨_, Cert.DownPIdeal.Whole.run m ρ, (θ_run Cert.PlainDownPIdeal.defs _ _).mono (fun r h c => ?_) (Cert.PlainDownPIdeal.Whole.run m' ρ')⟩
  obtain ⟨a0, a1, a2, a3⟩ := hag c
  refine ⟨(h c).1.trans ?_, (h c).2⟩
  rw [a0, a1, a2, a3]

theorem proj_p : Cert.quiescent_Proj := fun m ρ _ => Cert.Proj.Gen.frame m ρ
theorem proj_pi : Cert.quiescent_ProjIdeal := fun m ρ _ => Cert.ProjIdeal.Gen.frame m ρ
theorem proj_ri : Cert.quiescent_PlainProjIdeal := fun m ρ _ =>
  (θ_run Cert.PlainProjIdeal.defs _ _).mono (fun r h => ⟨fun c => (h c).2, Idealize.ShloMosaic.sem_eq_zero_of_no_sems (by decide) r.2⟩)
    (Cert.PlainProjIdeal.Value.run (F := Ideal) m ρ)
theorem proj_preserves : Cert.preserves_Proj_ProjIdeal := trivial
theorem proj_algebraic : Cert.algebraic_ProjIdeal_PlainProjIdeal := by
  intro m ρ m' ρ' _ hag
  refine ⟨_, Cert.ProjIdeal.Whole.run m ρ, (θ_run Cert.PlainProjIdeal.defs _ _).mono (fun r h c => ?_) (Cert.PlainProjIdeal.Whole.run m' ρ')⟩
  obtain ⟨a0, a1, a2⟩ := hag c
  refine ⟨(h c).1.trans ?_, (h c).2⟩
  rw [a0, a1, a2]

end Cert.Proof.TrunkClaims

end
-- ==== Proof.MixBody.lean ====
/-
  The mixer's input projection, one run of its body.

  The body has three parts.  At the first column block of a row block it norms the rows, keeps them in a scratch buffer
  and stores the narrow side product.  At the first seven column blocks it stores a product into the first output, at
  the last nine into the second.  The three theorems here say what each kind of point leaves in every buffer.
-/
module

public import proofs.«01_k».proof.Proof.Gen.MixIdeal.Frame
public import Idealize.ShloMosaic.Lib.VecWindow
public import Idealize.ShloMosaic.Lib.Pipeline.ReadBack
public import Idealize.ShloMosaic.Lib.Pipeline.Value

@[expose] public section

set_option maxRecDepth 16384

noncomputable section

namespace Cert.MixIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The normed rows, as the scratch buffer keeps them. -/
def hOf (x : Vec F S1024x2048 .f32) (g : Vec F S1x2048 .f32) : FVec F S1024x2048 .bf16 :=
  have y : FVec F S1024x2048 .f32 := shapeCast S1024x2048 x shapeCasts_S1024x2048_S1024x2048
  have g' : FVec F S1x2048 .f32 := shapeCast S1x2048 g shapeCasts_S1x2048_S1x2048
  have sq : FVec F S1024 .f32 := multiReduction .add [1] S1024 (mulf y y) 0x00000000#32 reduces_S1024x2048_S1024 (.inl rfl) rfl
  have mean : FVec F S1024x1 .f32 := divf (shapeCast S1024x1 sq shapeCasts_S1024_S1024x1) (broadcast S1024x1 (Scalar.ofBits .f32 0x45000000#32 : F .f32))
  have inv : FVec F S1024x1 .f32 := rsqrt (addf mean (broadcast S1024x1 (Scalar.ofBits .f32 0x358637BD#32 : F .f32)))
  truncf .bf16 (mulf (mulf y (broadcastTo S1024x2048 inv broadcasts_S1024x1_S1024x2048)) (broadcastTo S1024x2048 g' broadcasts_S1x2048_S1024x2048)) bitsLt_bf16_f32

/-- The side product of the normed rows. -/
def sideOf (h : FVec F S1024x2048 .bf16) (w : Vec F S2048x128 .bf16) : FVec F S1024x128 .f32 :=
  matmul dot_S1024x2048_S2048x128_S1024x128_1_0_0_1_n_n none h (shapeCast S2048x128 w shapeCasts_S2048x128_S2048x128 : FVec F S2048x128 .bf16)
    (constant S1024x128 .f32 0x00000000#32)

/-- The product at a column block of the second output. -/
def highOf (h : FVec F S1024x2048 .bf16) (w : Vec F S2048x1024 .bf16) : FVec F S1024x1024 .f32 :=
  matmul dot_S1024x2048_S2048x1024_S1024x1024_1_0_0_1_n_n none h (shapeCast S2048x1024 w shapeCasts_S2048x1024_S2048x1024 : FVec F S2048x1024 .bf16)
    (constant S1024x1024 .f32 0x00000000#32)

/-- The product at a column block of the first output. -/
def lowOf (h : FVec F S1024x2048 .bf16) (w : Vec F S2048x1024 .bf16) : FVec F S1024x1024 .bf16 :=
  truncf .bf16 (highOf h w) bitsLt_bf16_f32

section
variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S2048x128 .bf16) (harg5 : arg5.IsWhole)
  (arg6 : Memref sig .tc .vmem S1024x1024 .bf16) (harg6 : arg6.IsWhole) (arg7 : Memref sig .tc .vmem S1024x1024 .f32) (harg7 : arg7.IsWhole)
  (arg8 : Memref sig .tc .vmem S1024x128 .f32) (harg8 : arg8.IsWhole) (arg9 : Memref sig .tc .vmem S1024x2048 .bf16) (harg9 : arg9.IsWhole)
  (x0 : Vec F S1024x2048 .f32) (x1 : Vec F S1x2048 .f32) (x2 : Vec F S2048x1024 .bf16) (x3 : Vec F S2048x128 .bf16)
  (y4 : Vec F S1024x1024 .bf16) (y5 : Vec F S1024x1024 .f32) (y6 : Vec F S1024x128 .f32) (xs : Vec F S1024x2048 .bf16)

/-- Everything the body is handed at a point, at given contents. -/
def hands : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare y4 ∗ owns (c : Thread nD τ) arg7 fullShare y5
    ∗ owns (c : Thread nD τ) arg8 fullShare y6 ∗ owns (c : Thread nD τ) arg9 fullShare xs)

set_option maxHeartbeats 1000000 in
/-- At the last nine column blocks the body stores the second output's block. -/
theorem run_high (h1 : ¬ k0_cond1 i = 1#1) (h2 : ¬ k0_cond2 i = 1#1) (h3 : k0_cond3 i = 1#1) (E : Set ℕ) (K : PUnit → sProp 𝕄) :
    iprop(hands c arg2 arg3 arg4 arg5 arg6 arg7 arg8 arg9 x0 x1 x2 x3 y4 y5 y6 xs
        ∗ (hands c arg2 arg3 arg4 arg5 arg6 arg7 arg8 arg9 x0 x1 x2 x3 y4 (highOf xs x2) y6 xs -∗ K ⟨⟩))
      ⊢ wp frame (wpE (defs₀ (F := F)) Variants.none c none) E
          (cc0_mix_in_proj i arg2 harg2 arg3 harg3 arg4 harg4 arg5 harg5 arg6 harg6 arg7 harg7 arg8 harg8 arg9 harg9) K := by
  unfold hands cc0_mix_in_proj owns
  iintro ⟨⟨H0, H1, ⟨%f2, %hf2, H2⟩, H3, H4, ⟨%f5, -, H5⟩, H6, ⟨%fs, %hfs, HS⟩⟩, Hk⟩
  obtain rfl := harg4.eq_unread hf2; obtain rfl := harg9.eq_unread hfs
  sl_exec (disch := first | sl_exact h1 | sl_exact h2 | sl_exact h3)
  sl_step
  iapply Hk
  isplitl [H0]; · iexact H0
  isplitl [H1]; · iexact H1
  isplitl [H2]
  · iexists _; isplitr; · ipureintro; exact hf2
    iexact H2
  isplitl [H3]; · iexact H3
  isplitl [H4]; · iexact H4
  isplitl [H5]
  · iexists _; isplitr
    swap; · iexact H5
    ipureintro
    rw [View.read_writes_full]
    sl_unfold_run_names
    rw [View.readAt_full, View.readAt_full, hf2, hfs]
    rfl
  isplitl [H6]; · iexact H6
  iexists _; isplitr; · ipureintro; exact hfs
  iexact HS

set_option maxHeartbeats 1000000 in
/-- At the second to seventh column blocks the body stores the first output's block. -/
theorem run_low (h1 : ¬ k0_cond1 i = 1#1) (h2 : k0_cond2 i = 1#1) (h3 : ¬ k0_cond3 i = 1#1) (E : Set ℕ) (K : PUnit → sProp 𝕄) :
    iprop(hands c arg2 arg3 arg4 arg5 arg6 arg7 arg8 arg9 x0 x1 x2 x3 y4 y5 y6 xs
        ∗ (hands c arg2 arg3 arg4 arg5 arg6 arg7 arg8 arg9 x0 x1 x2 x3 (lowOf xs x2) y5 y6 xs -∗ K ⟨⟩))
      ⊢ wp frame (wpE (defs₀ (F := F)) Variants.none c none) E
          (cc0_mix_in_proj i arg2 harg2 arg3 harg3 arg4 harg4 arg5 harg5 arg6 harg6 arg7 harg7 arg8 harg8 arg9 harg9) K := by
  unfold hands cc0_mix_in_proj owns
  iintro ⟨⟨H0, H1, ⟨%f2, %hf2, H2⟩, H3, ⟨%f4, -, H4⟩, H5, H6, ⟨%fs, %hfs, HS⟩⟩, Hk⟩
  obtain rfl := harg4.eq_unread hf2; obtain rfl := harg9.eq_unread hfs
  sl_exec (disch := first | sl_exact h1 | sl_exact h2 | sl_exact h3)
  sl_step
  iapply Hk
  isplitl [H0]; · iexact H0
  isplitl [H1]; · iexact H1
  isplitl [H2]
  · iexists _; isplitr; · ipureintro; exact hf2
    iexact H2
  isplitl [H3]; · iexact H3
  isplitl [H4]
  · iexists _; isplitr
    swap; · iexact H4
    ipureintro
    rw [View.read_writes_full]
    sl_unfold_run_names
    rw [View.readAt_full, View.readAt_full, hf2, hfs]
    rfl
  isplitl [H5]; · iexact H5
  isplitl [H6]; · iexact H6
  iexists _; isplitr; · ipureintro; exact hfs
  iexact HS

set_option maxHeartbeats 1000000 in
/-- At the first column block the body norms the rows and stores the side product and the first output's block. -/
theorem run_first (h1 : k0_cond1 i = 1#1) (h2 : k0_cond2 i = 1#1) (h3 : ¬ k0_cond3 i = 1#1) (E : Set ℕ) (K : PUnit → sProp 𝕄) :
    iprop(hands c arg2 arg3 arg4 arg5 arg6 arg7 arg8 arg9 x0 x1 x2 x3 y4 y5 y6 xs
        ∗ (hands c arg2 arg3 arg4 arg5 arg6 arg7 arg8 arg9 x0 x1 x2 x3 (lowOf (hOf x0 x1) x2) y5 (sideOf (hOf x0 x1) x3) (hOf x0 x1) -∗ K ⟨⟩))
      ⊢ wp frame (wpE (defs₀ (F := F)) Variants.none c none) E
          (cc0_mix_in_proj i arg2 harg2 arg3 harg3 arg4 harg4 arg5 harg5 arg6 harg6 arg7 harg7 arg8 harg8 arg9 harg9) K := by
  unfold hands cc0_mix_in_proj owns
  iintro ⟨⟨⟨%f0, %hf0, H0⟩, ⟨%f1, %hf1, H1⟩, ⟨%f2, %hf2, H2⟩, ⟨%f3, %hf3, H3⟩, ⟨%f4, -, H4⟩, H5, ⟨%f6, -, H6⟩, ⟨%fs, -, HS⟩⟩, Hk⟩
  obtain rfl := harg2.eq_unread hf0; obtain rfl := harg3.eq_unread hf1; obtain rfl := harg4.eq_unread hf2; obtain rfl := harg5.eq_unread hf3
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [View.read_writes_full]
    sl_unfold_run_names
    rw [View.readCov_full, View.readAt_full, View.readAt_full, View.readAt_full, hf0, hf1, hf2]
    exact (show _ = lowOf (shapeCast S1024x2048 (hOf x0 x1) shapeCasts_S1024x2048_S1024x2048) x2 from rfl).trans (by rw [shapeCast_self])
  isplitl [H5]; · iexact H5
  isplitl [H6]
  · iexists _; isplitr
    swap; · iexact H6
    ipureintro
    rw [View.read_writes_full]
    sl_unfold_run_names
    rw [View.readAt_full, View.readAt_full, View.readAt_full, hf0, hf1, hf3]
    rfl
  iexists _; isplitr
  swap; · iexact HS
  ipureintro
  sl_unfold_run_names
  rw [View.read_writes_full, View.readAt_full, View.readAt_full, hf0, hf1]
  exact (show _ = shapeCast S1024x2048 (hOf x0 x1) shapeCasts_S1024x2048_S1024x2048 from rfl).trans (shapeCast_self _ _)
end

end Cert.MixIdeal

end
-- ==== Proof.MixSpec.lean ====
/-
  The mixer's input projection, what it should compute: a normed row's product with the columns of the weight, the columns
  laid out in three arrays.
-/
module

public import proofs.«01_k».proof.Proof.TrunkSpec

@[expose] public section

noncomputable section

namespace Cert.MixSpec

open Idealize.ShloMosaic

/-- The weight's column behind a column of the first array: the queries, the two gates, the index queries. -/
def lowCol (f : Fin 7168) : Fin 16464 :=
  ⟨if f.val < 2048 then f.val else if f.val < 6144 then f.val + 10320 else f.val - 3072, by split <;> [skip; split] <;> omega⟩

/-- The one behind a column of the second array: the recurrence's four parts, the keys, the values. -/
def highCol (f : Fin 9216) : Fin 16464 := ⟨if f.val < 8192 then f.val + 4176 else f.val - 6144, by split <;> omega⟩

/-- The one behind a column of the third array: the index keys, the index weights. -/
def sideCol (f : Fin 80) : Fin 16464 := ⟨if f.val < 64 then f.val + 4112 else f.val + 4032, by split <;> omega⟩

/-- The weight's columns in the order the kernel is given them: the first array's, then the second's. -/
def mainCol (p : Fin 16384) : Fin 16464 := if h : p.val < 7168 then lowCol ⟨p.val, h⟩ else highCol ⟨p.val - 7168, by omega⟩

theorem mainCol_val (p : Fin 16384) : (mainCol p).val = if p.val < 2048 then p.val else if p.val < 6144 then p.val + 10320
    else if p.val < 7168 then p.val - 3072 else if p.val < 15360 then p.val - 2992 else p.val - 13312 := by
  unfold mainCol lowCol highCol
  split <;> dsimp only <;> split_ifs <;> omega

/-- A row of the prompt, normed: row `R` is token `R % 2048` of sequence `R / 2048`. -/
def rowAt (a0 : (⟨3, ![8, 2048, 2048]⟩ : Shape).Idx → EReal) (a1 : (⟨2, ![1, 2048]⟩ : Shape).Idx → EReal) (R : Fin 16384) : Fin 2048 → EReal :=
  Trunk.normed (fun e => a0 (ix3 ⟨R.val / 2048, by omega⟩ ⟨R.val % 2048, by omega⟩ e)) (fun e => a1 (ix2 0 e))

/-- A row of the sample call, normed: row `R` is token `R % 8` of sequence `R / 8`. -/
def sampleRowAt (a0 : (⟨3, ![128, 8, 2048]⟩ : Shape).Idx → EReal) (a1 : (⟨2, ![1, 2048]⟩ : Shape).Idx → EReal) (R : Fin 1024) : Fin 2048 → EReal :=
  Trunk.normed (fun e => a0 (ix3 ⟨R.val / 8, by omega⟩ ⟨R.val % 8, by omega⟩ e)) (fun e => a1 (ix2 0 e))

section
variable {n : ℕ} (row : Fin n → Fin 2048 → EReal) (a2 : (⟨3, ![1, 2048, 16464]⟩ : Shape).Idx → EReal)

/-- A normed row's product with a column of the weight. -/
def prodAt (R : Fin n) (C : Fin 16464) : EReal := Trunk.dot (row R) (fun e => a2 (ix3 0 e C))

def lowArr : (⟨2, ![n, 7168]⟩ : Shape).Idx → EReal := fun y => prodAt row a2 (y 0) (lowCol (y 1))

def highArr : (⟨2, ![n, 9216]⟩ : Shape).Idx → EReal := fun y => prodAt row a2 (y 0) (highCol (y 1))

/-- The third array's last 48 columns are zero. -/
def sideVal (R : Fin n) (C : Fin 128) : EReal := if h : C.val < 80 then prodAt row a2 R (sideCol ⟨C.val, h⟩) else 0

def sideArr : (⟨2, ![n, 128]⟩ : Shape).Idx → EReal := fun y => sideVal row a2 (y 0) (y 1)

end

end Cert.MixSpec

end
-- ==== Proof.MixValue.lean ====
/-
  The mixer's input projection over the extended reals: the arrays its run leaves.
-/
module

public import proofs.«01_k».proof.Proof.MixRun
public import proofs.«01_k».proof.Proof.MixSpec
public import Idealize.ShloMosaic.Lib.Pipeline.ValueKit

@[expose] public section

set_option maxRecDepth 16384

noncomputable section

namespace Cert.MixIdeal.Whole

open Cert.MixIdeal Cert.MixIdeal.Gen Cert.MixSpec Idealize.ShloMosaic Idealize.ShloMosaic.TcCoe Idealize.SL.Sem
open Idealize.ShloMosaic.Pipeline (Dat)

/-! ## What a point stores, at an index -/

theorem hOf_at (x : FVec Ideal S1024x2048 .f32) (g : FVec Ideal S1x2048 .f32) (r : Fin 1024) (d : Fin 2048) :
    hOf (F := Ideal) x g (ix2 r d) = Trunk.normed (fun e => x (ix2 r e)) (fun e => g (ix2 0 e)) d := by
  unfold hOf Trunk.normed Trunk.unit
  pointwise []

theorem highOf_at (h : FVec Ideal S1024x2048 .bf16) (w : FVec Ideal S2048x1024 .bf16) (r C : Fin 1024) :
    highOf (F := Ideal) h w (ix2 r C) = Trunk.dot (fun e => h (ix2 r e)) (fun e => w (ix2 e C)) := by
  unfold highOf Trunk.dot
  pointwise []

theorem lowOf_at (h : FVec Ideal S1024x2048 .bf16) (w : FVec Ideal S2048x1024 .bf16) (r C : Fin 1024) :
    lowOf (F := Ideal) h w (ix2 r C) = Trunk.dot (fun e => h (ix2 r e)) (fun e => w (ix2 e C)) :=
  highOf_at h w r C

theorem sideOf_at (h : FVec Ideal S1024x2048 .bf16) (w : FVec Ideal S2048x128 .bf16) (r : Fin 1024) (C : Fin 128) :
    sideOf (F := Ideal) h w (ix2 r C) = Trunk.dot (fun e => h (ix2 r e)) (fun e => w (ix2 e C)) := by
  unfold sideOf Trunk.dot
  pointwise []

/-! ## The weights the kernel is given -/

/-- The weight's columns, the first output's before the second's. -/
def mainW {F : FTy → Type} [FloatOps F] (w : FVec F S1x2048x16464 .f32) : FVec F S2048x16384 .bf16 :=
  concatenate S2048x16384 1
    [⟨S2048x2048, truncf .bf16 (extractStridedSlice S2048x2048 ![0, 0] (shapeCast _ w shapeCasts_S1x2048x16464_S2048x16464) slices_S2048x16464_S2048x2048_0_0) bitsLt_bf16_f32⟩,
      ⟨S2048x4096, truncf .bf16 (extractStridedSlice S2048x4096 ![0, 12368] (shapeCast _ w shapeCasts_S1x2048x16464_S2048x16464) slices_S2048x16464_S2048x4096_0_12368) bitsLt_bf16_f32⟩,
      ⟨S2048x1024, truncf .bf16 (extractStridedSlice S2048x1024 ![0, 3072] (shapeCast _ w shapeCasts_S1x2048x16464_S2048x16464) slices_S2048x16464_S2048x1024_0_3072) bitsLt_bf16_f32⟩,
      ⟨S2048x8192, truncf .bf16 (extractStridedSlice S2048x8192 ![0, 4176] (shapeCast _ w shapeCasts_S1x2048x16464_S2048x16464) slices_S2048x16464_S2048x8192_0_4176) bitsLt_bf16_f32⟩,
      ⟨S2048x1024, truncf .bf16 (extractStridedSlice S2048x1024 ![0, 2048] (shapeCast _ w shapeCasts_S1x2048x16464_S2048x16464) slices_S2048x16464_S2048x1024_0_2048) bitsLt_bf16_f32⟩]
    concatenates_S2048x2048_S2048x4096_S2048x1024_S2048x8192_S2048x1024_S2048x16384_d1

/-- The columns of the side product, and zeros up to 128. -/
def sideW {F : FTy → Type} [FloatOps F] (w : FVec F S1x2048x16464 .f32) : FVec F S2048x128 .bf16 :=
  truncf .bf16 (concatenate S2048x128 1
    [⟨S2048x64, extractStridedSlice S2048x64 ![0, 4112] (shapeCast _ w shapeCasts_S1x2048x16464_S2048x16464) slices_S2048x16464_S2048x64_0_4112⟩,
      ⟨S2048x16, extractStridedSlice S2048x16 ![0, 4096] (shapeCast _ w shapeCasts_S1x2048x16464_S2048x16464) slices_S2048x16464_S2048x16_0_4096⟩,
      ⟨S2048x48, broadcastInDim S2048x48 ![] bcast_S_S2048x48 (constant S_ .f32 0x00000000#32)⟩]
    concatenates_S2048x64_S2048x16_S2048x48_S2048x128_d1 : FVec F S2048x128 .f32) bitsLt_bf16_f32

theorem mainW_at (w : FVec Ideal S1x2048x16464 .f32) (e : Fin 2048) (p : Fin 16384) :
    mainW (F := Ideal) w (ix2 e p) = w (ix3 0 e (mainCol p)) := by
  unfold mainW
  pointwise []
  have hc := mainCol_val p
  split_ifs <;> refine congrArg (fun k => w (ix3 0 e k)) (Fin.ext (Eq.trans ?_ hc.symm)) <;> dsimp only <;> split_ifs <;> omega

theorem sideW_at (w : FVec Ideal S1x2048x16464 .f32) (e : Fin 2048) (p : Fin 128) :
    sideW (F := Ideal) w (ix2 e p) = if h : p.val < 80 then w (ix3 0 e (sideCol ⟨p.val, h⟩)) else 0 := by
  unfold sideW
  pointwise []
  split_ifs <;> first | omega | rfl | (rw [dif_pos (by omega)]; refine congrArg (fun k => w (ix3 0 e k)) (Fin.ext ?_)) | rw [dif_neg (by omega)]
  all_goals (dsimp only [sideCol]; split_ifs <;> omega)

variable (m : (ℓ : Loc nD τ sig) → Buf (Elt Ideal) ℓ) (ρ : Dev nD → PrngReg) (c : Dev nD)

/-- The rows, the norm's scale and the weight. -/
abbrev A0 : (⟨3, ![8, 2048, 2048]⟩ : Shape).Idx → EReal := m ((c : Thread nD τ).loc main_arg0)
abbrev A1 : (⟨2, ![1, 2048]⟩ : Shape).Idx → EReal := m ((c : Thread nD τ).loc main_arg1)
abbrev A2 : (⟨3, ![1, 2048, 16464]⟩ : Shape).Idx → EReal := m ((c : Thread nD τ).loc main_arg2)

theorem V11 : V m c main_v11 = mainW (F := Ideal) (A2 m c) := by
  show StableHlo.after hostOps0 _ main_v11 = _
  after_results_simp
  rfl

theorem V16 : V m c main_v16 = sideW (F := Ideal) (A2 m c) := by
  show StableHlo.after hostOps0 _ main_v16 = _
  after_results_simp
  rfl

/-! ## The blocks a point reads -/

theorem idx0 : ∀ t : Fin cfg0.N, win0_0.index t = ![t.val / 16, 0] ∧ win0_1.index t = ![0, 0] ∧ win0_2.index t = ![0, t.val % 16]
    ∧ win0_3.index t = ![0, 0] ∧ win0_4.index t = ![t.val / 16, min (t.val % 16) 6] ∧ win0_5.index t = ![t.val / 16, t.val % 16 - 7]
    ∧ win0_6.index t = ![t.val / 16, 0] :=
  (by decide +kernel : ∀ t : Fin grid0.N, win0_0.index t = ![t.val / 16, 0] ∧ win0_1.index t = ![0, 0] ∧ win0_2.index t = ![0, t.val % 16]
    ∧ win0_3.index t = ![0, 0] ∧ win0_4.index t = ![t.val / 16, min (t.val % 16) 6] ∧ win0_5.index t = ![t.val / 16, t.val % 16 - 7]
    ∧ win0_6.index t = ![t.val / 16, 0])

/-- The array row of a block row. -/
def arow (t : Fin cfg0.N) (r : Fin 1024) : Fin 16384 := ⟨t.val / 16 * 1024 + r.val, by have := lt_N t; omega⟩

theorem arow_rowPt (t : Fin cfg0.N) (r : Fin 1024) : arow (rowPt t) r = arow t r :=
  Fin.ext (show 16 * (t.val / 16) / 16 * 1024 + r.val = t.val / 16 * 1024 + r.val by omega)

theorem read0 (t : Fin cfg0.N) (r : Fin 1024) (k : Fin 2048) :
    iblk m c 0 t (ix2 r k) = A0 m c (ix3 ⟨(arow t r).val / 2048, by omega⟩ ⟨(arow t r).val % 2048, by omega⟩ k) := by
  have := lt_N t
  blk_ext! [iblk, V, idx0 t, arow]

theorem read1 (t : Fin cfg0.N) (k : Fin 2048) : iblk m c 1 t (ix2 0 k) = A1 m c (ix2 0 k) := by
  have := lt_N t
  blk_ext! [iblk, V, idx0 t]

theorem read2 (t : Fin cfg0.N) (e : Fin 2048) (C : Fin 1024) :
    iblk m c 2 t (ix2 e C) = A2 m c (ix3 0 e (mainCol ⟨t.val % 16 * 1024 + C.val, by omega⟩)) := by
  have := lt_N t
  refine Eq.trans ?_ (mainW_at _ _ _)
  rw [← V11 m c]
  generalize hX : V m c main_v11 = X
  blk_ext! [iblk, hX, idx0 t]

theorem read3 (t : Fin cfg0.N) (e : Fin 2048) (C : Fin 128) :
    iblk m c 3 t (ix2 e C) = if h : C.val < 80 then A2 m c (ix3 0 e (sideCol ⟨C.val, h⟩)) else 0 := by
  have := lt_N t
  refine Eq.trans ?_ (sideW_at _ _ _)
  rw [← V16 m c]
  generalize hX : V m c main_v16 = X
  blk_ext! [iblk, hX, idx0 t]

/-! ## The blocks a point writes -/

theorem hAt_row (t : Fin cfg0.N) (r : Fin 1024) : (fun e => hAt m c t (ix2 r e)) = rowAt (A0 m c) (A1 m c) (arow t r) := by
  funext d
  unfold hAt
  rw [hOf_at, show (fun e => iblk m c 0 (rowPt t) (ix2 r e)) = _ from funext fun e => read0 m c (rowPt t) r e,
    show (fun e => iblk m c 1 (rowPt t) (ix2 0 e)) = _ from funext fun e => read1 m c (rowPt t) e]
  show rowAt (A0 m c) (A1 m c) (arow (rowPt t) r) d = _
  rw [arow_rowPt]

theorem block4 (t : Fin cfg0.N) (r C : Fin 1024) : (dats m 0 c).after 4 t (ix2 r C)
    = lowArr (rowAt (A0 m c) (A1 m c)) (A2 m c) (ix2 (arow t r) ⟨min (t.val % 16) 6 * 1024 + C.val, by omega⟩) := by
  rw [after_4, lowOf_at, hAt_row, show (fun e => iblk m c 2 (lowPt t) (ix2 e C)) = _ from funext fun e => read2 m c (lowPt t) e C]
  show prodAt _ _ _ _ = prodAt (rowAt (A0 m c) (A1 m c)) (A2 m c) (arow t r) (lowCol ⟨min (t.val % 16) 6 * 1024 + C.val, _⟩)
  congr 1
  have e : (lowPt t).val % 16 = min (t.val % 16) 6 := by
    show (16 * (t.val / 16) + min (t.val % 16) 6) % 16 = _
    omega
  unfold mainCol
  rw [dif_pos (by show (lowPt t).val % 16 * 1024 + C.val < 7168; omega)]
  congr 1
  exact Fin.ext (show (lowPt t).val % 16 * 1024 + C.val = min (t.val % 16) 6 * 1024 + C.val by rw [e])

theorem block5 (t : Fin cfg0.N) (h : 7 ≤ t.val % 16) (r C : Fin 1024) : (dats m 0 c).after 5 t (ix2 r C)
    = highArr (rowAt (A0 m c) (A1 m c)) (A2 m c) (ix2 (arow t r) ⟨(t.val % 16 - 7) * 1024 + C.val, by omega⟩) := by
  rw [after_5, highOf_at, hAt_row, show (fun e => iblk m c 2 t (ix2 e C)) = _ from funext fun e => read2 m c t e C]
  refine congrArg (prodAt (rowAt (A0 m c) (A1 m c)) (A2 m c) (arow t r)) (?_ : _ = highCol ⟨(t.val % 16 - 7) * 1024 + C.val, _⟩)
  unfold mainCol
  rw [dif_neg (by show ¬ t.val % 16 * 1024 + C.val < 7168; omega)]
  refine congrArg highCol (Fin.ext ?_)
  dsimp only
  omega

theorem block6 (t : Fin cfg0.N) (r : Fin 1024) (C : Fin 128) : (dats m 0 c).after 6 t (ix2 r C)
    = sideArr (rowAt (A0 m c) (A1 m c)) (A2 m c) (ix2 (arow t r) C) := by
  rw [after_6, sideOf_at, hAt_row, show (fun e => iblk m c 3 (rowPt t) (ix2 e C)) = _ from funext fun e => read3 m c (rowPt t) e C]
  show _ = sideVal (rowAt (A0 m c) (A1 m c)) (A2 m c) (arow t r) C
  unfold sideVal
  by_cases h : C.val < 80
  · rw [dif_pos h]
    simp only [dif_pos h]
    rfl
  · rw [dif_neg h]
    simp only [dif_neg h]
    unfold Trunk.dot
    simp only [mul_zero, Finset.sum_const_zero]

/-! ## The arrays at the end -/

theorem final4 : (dats m 0 c).arrAt 4 cfg0.N = lowArr (rowAt (A0 m c) (A1 m c)) (A2 m c) := by
  refine (dats m 0 c).arrAt_eq_of_covers 4 _ (by decide +kernel) fun t hf y => ?_
  have hX := block4 m c t
  generalize (dats m 0 c).after 4 t = X at hX ⊢
  have hy : y = ix2 (y 0) (y 1) := funext fun a => by fin_cases a <;> rfl
  refine Eq.trans ?_ ((hX (y 0) (y 1)).trans ?_)
  · show X y = _
    exact congrArg X hy
  · congr 1
    funext a
    fin_cases a
    all_goals (apply Fin.ext; blk_simp [idx0 t]; rfl)

theorem final5 : (dats m 0 c).arrAt 5 cfg0.N = highArr (rowAt (A0 m c) (A1 m c)) (A2 m c) := by
  refine (dats m 0 c).arrAt_eq_of_covers 5 _ (by decide +kernel) fun t hf y => ?_
  have h7 : 7 ≤ t.val % 16 := by
    by_contra h
    rw [flush5 t (by omega)] at hf
    exact Bool.false_ne_true hf
  have hX := block5 m c t h7
  generalize (dats m 0 c).after 5 t = X at hX ⊢
  have hy : y = ix2 (y 0) (y 1) := funext fun a => by fin_cases a <;> rfl
  refine Eq.trans ?_ ((hX (y 0) (y 1)).trans ?_)
  · show X y = _
    exact congrArg X hy
  · congr 1
    funext a
    fin_cases a
    all_goals (apply Fin.ext; blk_simp [idx0 t]; rfl)

theorem final6 : (dats m 0 c).arrAt 6 cfg0.N = sideArr (rowAt (A0 m c) (A1 m c)) (A2 m c) := by
  refine (dats m 0 c).arrAt_eq_of_covers 6 _ (by decide +kernel) fun t hf y => ?_
  have hX := block6 m c t
  generalize (dats m 0 c).after 6 t = X at hX ⊢
  have hy : y = ix2 (y 0) (y 1) := funext fun a => by fin_cases a <;> rfl
  refine Eq.trans ?_ ((hX (y 0) (y 1)).trans ?_)
  · show X y = _
    exact congrArg X hy
  · congr 1
    funext a
    fin_cases a
    all_goals (apply Fin.ext; blk_simp [idx0 t]; rfl)

/-- The run: the three arrays, and the arguments end as they were. -/
theorem run : θ_run defs (onTc (τ := τ) (main (F := Ideal))) ⟨m, fun _ => 0, ρ⟩ fun r => ∀ c : Dev nD,
      r.2.mem ((c : Thread nD τ).loc main_v20_0) = lowArr (rowAt (A0 m c) (A1 m c)) (A2 m c)
      ∧ r.2.mem ((c : Thread nD τ).loc main_v20_1) = highArr (rowAt (A0 m c) (A1 m c)) (A2 m c)
      ∧ r.2.mem ((c : Thread nD τ).loc main_v20_2) = sideArr (rowAt (A0 m c) (A1 m c)) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 4).trans (final4 m c), ((h.1 c).1 5).trans (final5 m c), ((h.1 c).1 6).trans (final6 m c), h.2 c⟩)
    (θ_run_and (run_main m ρ) (frame_of m ρ (dats m) (A_eq m) (run_main m ρ)))

end Cert.MixIdeal.Whole

end
-- ==== Proof.MixRef.lean ====
/-
  The mixer's input projection, its reference: the same three arrays.
-/
module

public import proofs.«01_k».proof.Proof.MixSpec
public import proofs.«01_k».proof.Proof.Gen.PlainMixIdeal.Run

@[expose] public section

set_option maxRecDepth 16384

noncomputable section

namespace Cert.PlainMixIdeal.Whole

open Cert.PlainMixIdeal Cert.PlainMixIdeal.Gen Cert.MixSpec Idealize.ShloMosaic Idealize.ShloMosaic.TcCoe Idealize.SL.Sem

variable {F : FTy → Type} [FloatOps F]

/-- The normed rows, by sequence and token. -/
def rows (x0 : FVec F S8x2048x2048 .f32) (x1 : FVec F S1x2048 .f32) : FVec F S8x2048x2048 .f32 :=
  mulf (mulf x0 (broadcastInDim S8x2048x2048 ![0, 1, 2] bcast_S8x2048x1_S8x2048x2048_0_1_2 (Host.rsqrt (addf (Host.divf (broadcastInDim S8x2048x1 ![0, 1] bcast_S8x2048_S8x2048x1_0_1
      (Host.reduceAdd (mulf x0 x0) (constant S_ .f32 0x00000000#32) reducesTo_S8x2048x2048_S8x2048_d2 h_S_)) (broadcastInDim S8x2048x1 ![] bcast_S_S8x2048x1 (constant S_ .f32 0x45000000#32)))
      (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 (shapeCast _ x1 shapeCasts_S1x2048_S2048)))

/-- Their products with the weight, one row a token. -/
def prods (h : FVec F S8x2048x2048 .f32) (x2 : FVec F S1x2048x16464 .f32) : FVec F S16384x16464 .f32 :=
  shapeCast _ (Host.dotGeneral dot_S8x2048x2048_S2048x16464_S8x2048x16464_2_0_01_1_n_n none h (shapeCast _ x2 shapeCasts_S1x2048x16464_S2048x16464)) shapeCasts_S8x2048x16464_S16384x16464

/-- The first array: the queries, the two gates, the index queries. -/
def low (p : FVec F S16384x16464 .f32) : FVec F S16384x7168 .bf16 :=
  truncf .bf16 (concatenate S16384x7168 1
    [⟨S16384x2048, extractStridedSlice S16384x2048 ![0, 0] p slices_S16384x16464_S16384x2048_0_0⟩,
      ⟨S16384x2048, extractStridedSlice S16384x2048 ![0, 12368] p slices_S16384x16464_S16384x2048_0_12368⟩,
      ⟨S16384x2048, extractStridedSlice S16384x2048 ![0, 14416] p slices_S16384x16464_S16384x2048_0_14416⟩,
      ⟨S16384x1024, extractStridedSlice S16384x1024 ![0, 3072] p slices_S16384x16464_S16384x1024_0_3072⟩]
    concatenates_S16384x2048_S16384x2048_S16384x2048_S16384x1024_S16384x7168_d1 : FVec F S16384x7168 .f32) bitsLt_bf16_f32

/-- The second: the recurrence's four parts, the keys, the values. -/
def high (p : FVec F S16384x16464 .f32) : FVec F S16384x9216 .f32 :=
  concatenate S16384x9216 1
    [⟨S16384x2048, extractStridedSlice S16384x2048 ![0, 4176] p slices_S16384x16464_S16384x2048_0_4176⟩,
      ⟨S16384x2048, extractStridedSlice S16384x2048 ![0, 6224] p slices_S16384x16464_S16384x2048_0_6224⟩,
      ⟨S16384x2048, extractStridedSlice S16384x2048 ![0, 8272] p slices_S16384x16464_S16384x2048_0_8272⟩,
      ⟨S16384x2048, extractStridedSlice S16384x2048 ![0, 10320] p slices_S16384x16464_S16384x2048_0_10320⟩,
      ⟨S16384x512, extractStridedSlice S16384x512 ![0, 2048] p slices_S16384x16464_S16384x512_0_2048⟩,
      ⟨S16384x512, extractStridedSlice S16384x512 ![0, 2560] p slices_S16384x16464_S16384x512_0_2560⟩]
    concatenates_S16384x2048_S16384x2048_S16384x2048_S16384x2048_S16384x512_S16384x512_S16384x9216_d1

/-- The third: the index keys, the index weights, zeros. -/
def side (p : FVec F S16384x16464 .f32) : FVec F S16384x128 .f32 :=
  concatenate S16384x128 1
    [⟨S16384x64, extractStridedSlice S16384x64 ![0, 4112] p slices_S16384x16464_S16384x64_0_4112⟩,
      ⟨S16384x16, extractStridedSlice S16384x16 ![0, 4096] p slices_S16384x16464_S16384x16_0_4096⟩,
      ⟨S16384x48, broadcastInDim S16384x48 ![] bcast_S_S16384x48 (constant S_ .f32 0x00000000#32)⟩]
    concatenates_S16384x64_S16384x16_S16384x48_S16384x128_d1

section
variable (x0 : FVec Ideal S8x2048x2048 .f32) (x1 : FVec Ideal S1x2048 .f32) (x2 : FVec Ideal S1x2048x16464 .f32) (p : FVec Ideal S16384x16464 .f32)

theorem prods_at (R : Fin 16384) (C : Fin 16464) : prods (F := Ideal) (rows (F := Ideal) x0 x1) x2 (ix2 R C) = prodAt (rowAt x0 x1) x2 R C := by
  have e : ∀ d, rows (F := Ideal) x0 x1 (ix3 ⟨R.val / 2048, by omega⟩ ⟨R.val % 2048, by omega⟩ d) = rowAt x0 x1 R d := by
    intro d
    unfold rows rowAt Trunk.normed Trunk.unit
    pointwise []
  unfold prodAt Trunk.dot
  simp only [← e]
  generalize rows (F := Ideal) x0 x1 = h
  unfold prods
  pointwise []

theorem low_at (R : Fin 16384) (f : Fin 7168) : low (F := Ideal) p (ix2 R f) = p (ix2 R (lowCol f)) := by
  unfold low
  pointwise []
  split_ifs <;> refine congrArg (fun k => p (ix2 R k)) (Fin.ext ?_) <;> dsimp only [lowCol] <;> split_ifs <;> omega

theorem high_at (R : Fin 16384) (f : Fin 9216) : high (F := Ideal) p (ix2 R f) = p (ix2 R (highCol f)) := by
  unfold high
  pointwise []
  split_ifs <;> refine congrArg (fun k => p (ix2 R k)) (Fin.ext ?_) <;> dsimp only [highCol] <;> split_ifs <;> omega

theorem side_at (R : Fin 16384) (f : Fin 128) : side (F := Ideal) p (ix2 R f) = if h : f.val < 80 then p (ix2 R (sideCol ⟨f.val, h⟩)) else 0 := by
  unfold side
  pointwise []
  split_ifs <;> first | omega | rfl | (rw [dif_pos (by omega)]; refine congrArg (fun k => p (ix2 R k)) (Fin.ext ?_)) | rw [dif_neg (by omega)]
  all_goals (dsimp only [sideCol]; split_ifs <;> omega)

theorem low_eq : low (F := Ideal) (prods (rows x0 x1) x2) = lowArr (rowAt x0 x1) x2 := by
  funext y
  obtain ⟨R, f, rfl⟩ : ∃ (R : Fin 16384) (f : Fin 7168), y = ix2 R f := ⟨y 0, y 1, funext fun a => by fin_cases a <;> rfl⟩
  rw [low_at, prods_at]
  rfl

theorem high_eq : high (F := Ideal) (prods (rows x0 x1) x2) = highArr (rowAt x0 x1) x2 := by
  funext y
  obtain ⟨R, f, rfl⟩ : ∃ (R : Fin 16384) (f : Fin 9216), y = ix2 R f := ⟨y 0, y 1, funext fun a => by fin_cases a <;> rfl⟩
  rw [high_at, prods_at]
  rfl

theorem side_eq : side (F := Ideal) (prods (rows x0 x1) x2) = sideArr (rowAt x0 x1) x2 := by
  funext y
  obtain ⟨R, f, rfl⟩ : ∃ (R : Fin 16384) (f : Fin 128), y = ix2 R f := ⟨y 0, y 1, funext fun a => by fin_cases a <;> rfl⟩
  rw [side_at]
  simp only [prods_at]
  rfl

end

theorem res_low (m : (ℓ : Loc nD τ sig) → Buf (Elt Ideal) ℓ) (c : Dev nD) : Value.res_main_v30 m c
    = low (F := Ideal) (prods (rows (m ((c.tc : Thread nD τ).loc main_arg0)) (m ((c.tc : Thread nD τ).loc main_arg1))) (m ((c.tc : Thread nD τ).loc main_arg2))) := by
  unfold Value.res_main_v30
  rfl

theorem res_high (m : (ℓ : Loc nD τ sig) → Buf (Elt Ideal) ℓ) (c : Dev nD) : Value.res_main_v31 m c
    = high (F := Ideal) (prods (rows (m ((c.tc : Thread nD τ).loc main_arg0)) (m ((c.tc : Thread nD τ).loc main_arg1))) (m ((c.tc : Thread nD τ).loc main_arg2))) := by
  unfold Value.res_main_v31
  rfl

/-- The reference's run: the three arrays, and the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = lowArr (rowAt (m ((c.tc : Thread nD τ).loc main_arg0)) (m ((c.tc : Thread nD τ).loc main_arg1))) (m ((c.tc : Thread nD τ).loc main_arg2))
      ∧ r.2.mem ((c.tc : Thread nD τ).loc main_v31) = highArr (rowAt (m ((c.tc : Thread nD τ).loc main_arg0)) (m ((c.tc : Thread nD τ).loc main_arg1))) (m ((c.tc : Thread nD τ).loc main_arg2))
      ∧ r.2.mem ((c.tc : Thread nD τ).loc main_v33) = sideArr (rowAt (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((res_low m c).trans (low_eq _ _ _)), (h c).2.1.trans ((res_high m c).trans (high_eq _ _ _)),
    (h c).2.2.1.trans (side_eq _ _ _), (h c).2.2.2⟩) (Value.run (F := Ideal) m ρ)

end Cert.PlainMixIdeal.Whole

end
-- ==== Proof.MixClaims.lean ====
/-
  The mixer's input projection, its claims.
-/
module

public import proofs.«01_k».proof.Defs
public import proofs.«01_k».proof.Proof.MixValue
public import proofs.«01_k».proof.Proof.MixRef
public import proofs.«01_k».proof.Proof.Gen.Mix.Frame
public import Idealize.ShloMosaic.Lib.Quiescent

@[expose] public section

set_option maxRecDepth 16384

noncomputable section

namespace Cert.Proof.MixClaims

open Idealize.ShloMosaic Idealize.ShloMosaic.TcCoe Idealize.SL.Sem

/-- The printed kernel is the idealized one's text over the formats' own values: the two body tables are one. -/
theorem table_eq : Cert.Mix.defs₀ (F := Bits) = Cert.MixIdeal.defs₀ (F := Bits) := by
  unfold Cert.Mix.defs₀ Cert.MixIdeal.defs₀
  refine congrArg Defs.onTc (funext fun l => funext fun a => ?_)
  match l, a with
  | 0, (t, s) => rfl

theorem defs_eq : Cert.Mix.defs (F := Bits) = Cert.MixIdeal.defs (F := Bits) :=
  congrArg (Pipeline.defs (Cert.MixIdeal.pcfgs (F := Bits))) table_eq

theorem mix_p : Cert.quiescent_Mix := fun m ρ _ => by
  rw [defs_eq]
  exact Cert.MixIdeal.frame_mix (F := Bits) m ρ
theorem mix_pi : Cert.quiescent_MixIdeal := fun m ρ _ => Cert.MixIdeal.frame_mix m ρ
theorem mix_ri : Cert.quiescent_PlainMixIdeal := fun m ρ _ =>
  (θ_run Cert.PlainMixIdeal.defs _ _).mono (fun r h => ⟨fun c => (h c).2.2.2, Idealize.ShloMosaic.sem_eq_zero_of_no_sems (by decide) r.2⟩)
    (Cert.PlainMixIdeal.Value.run (F := Ideal) m ρ)
theorem mix_preserves : Cert.preserves_Mix_MixIdeal := trivial
theorem mix_algebraic : Cert.algebraic_MixIdeal_PlainMixIdeal := by
  intro m ρ m' ρ' _ hag
  refine ⟨_, _, _, Cert.MixIdeal.Whole.run m ρ, (θ_run Cert.PlainMixIdeal.defs _ _).mono (fun r h c => ?_) (Cert.PlainMixIdeal.Whole.run m' ρ')⟩
  obtain ⟨a0, a1, a2⟩ := hag c
  refine ⟨(h c).1.trans ?_, (h c).2.1.trans ?_, (h c).2.2.1.trans ?_, (h c).2.2.2⟩
  all_goals rw [a0, a1, a2]

end Cert.Proof.MixClaims

end
-- ==== Proof.MixSBody.lean ====
/-
  The mixer's input projection for the sample call, one run of its body.  The grid has one row block instead of sixteen; what the
  three kinds of point leave is as for the prompt.
-/
module

public import proofs.«01_k».proof.Proof.Gen.MixSIdeal.Frame
public import proofs.«01_k».proof.Proof.MixBody
public import Idealize.ShloMosaic.Lib.VecWindow
public import Idealize.ShloMosaic.Lib.Pipeline.ReadBack
public import Idealize.ShloMosaic.Lib.Pipeline.Value

@[expose] public section

set_option maxRecDepth 16384

noncomputable section

namespace Cert.MixSIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.MixIdeal (hOf sideOf highOf lowOf)

section
variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S2048x128 .bf16) (harg5 : arg5.IsWhole)
  (arg6 : Memref sig .tc .vmem S1024x1024 .bf16) (harg6 : arg6.IsWhole) (arg7 : Memref sig .tc .vmem S1024x1024 .f32) (harg7 : arg7.IsWhole)
  (arg8 : Memref sig .tc .vmem S1024x128 .f32) (harg8 : arg8.IsWhole) (arg9 : Memref sig .tc .vmem S1024x2048 .bf16) (harg9 : arg9.IsWhole)
  (x0 : Vec F S1024x2048 .f32) (x1 : Vec F S1x2048 .f32) (x2 : Vec F S2048x1024 .bf16) (x3 : Vec F S2048x128 .bf16)
  (y4 : Vec F S1024x1024 .bf16) (y5 : Vec F S1024x1024 .f32) (y6 : Vec F S1024x128 .f32) (xs : Vec F S1024x2048 .bf16)

/-- Everything the body is handed at a point, at given contents. -/
def hands : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare y4 ∗ owns (c : Thread nD τ) arg7 fullShare y5
    ∗ owns (c : Thread nD τ) arg8 fullShare y6 ∗ owns (c : Thread nD τ) arg9 fullShare xs)

set_option maxHeartbeats 1000000 in
/-- At the last nine column blocks the body stores the second output's block. -/
theorem run_high (h1 : ¬ k0_cond1 i = 1#1) (h2 : ¬ k0_cond2 i = 1#1) (h3 : k0_cond3 i = 1#1) (E : Set ℕ) (K : PUnit → sProp 𝕄) :
    iprop(hands c arg2 arg3 arg4 arg5 arg6 arg7 arg8 arg9 x0 x1 x2 x3 y4 y5 y6 xs
        ∗ (hands c arg2 arg3 arg4 arg5 arg6 arg7 arg8 arg9 x0 x1 x2 x3 y4 (highOf xs x2) y6 xs -∗ K ⟨⟩))
      ⊢ wp frame (wpE (defs₀ (F := F)) Variants.none c none) E
          (cc0_mix_in_proj i arg2 harg2 arg3 harg3 arg4 harg4 arg5 harg5 arg6 harg6 arg7 harg7 arg8 harg8 arg9 harg9) K := by
  unfold hands cc0_mix_in_proj owns
  iintro ⟨⟨H0, H1, ⟨%f2, %hf2, H2⟩, H3, H4, ⟨%f5, -, H5⟩, H6, ⟨%fs, %hfs, HS⟩⟩, Hk⟩
  obtain rfl := harg4.eq_unread hf2; obtain rfl := harg9.eq_unread hfs
  sl_exec (disch := first | sl_exact h1 | sl_exact h2 | sl_exact h3)
  sl_step
  iapply Hk
  isplitl [H0]; · iexact H0
  isplitl [H1]; · iexact H1
  isplitl [H2]
  · iexists _; isplitr; · ipureintro; exact hf2
    iexact H2
  isplitl [H3]; · iexact H3
  isplitl [H4]; · iexact H4
  isplitl [H5]
  · iexists _; isplitr
    swap; · iexact H5
    ipureintro
    rw [View.read_writes_full]
    sl_unfold_run_names
    rw [View.readAt_full, View.readAt_full, hf2, hfs]
    rfl
  isplitl [H6]; · iexact H6
  iexists _; isplitr; · ipureintro; exact hfs
  iexact HS

set_option maxHeartbeats 1000000 in
/-- At the second to seventh column blocks the body stores the first output's block. -/
theorem run_low (h1 : ¬ k0_cond1 i = 1#1) (h2 : k0_cond2 i = 1#1) (h3 : ¬ k0_cond3 i = 1#1) (E : Set ℕ) (K : PUnit → sProp 𝕄) :
    iprop(hands c arg2 arg3 arg4 arg5 arg6 arg7 arg8 arg9 x0 x1 x2 x3 y4 y5 y6 xs
        ∗ (hands c arg2 arg3 arg4 arg5 arg6 arg7 arg8 arg9 x0 x1 x2 x3 (lowOf xs x2) y5 y6 xs -∗ K ⟨⟩))
      ⊢ wp frame (wpE (defs₀ (F := F)) Variants.none c none) E
          (cc0_mix_in_proj i arg2 harg2 arg3 harg3 arg4 harg4 arg5 harg5 arg6 harg6 arg7 harg7 arg8 harg8 arg9 harg9) K := by
  unfold hands cc0_mix_in_proj owns
  iintro ⟨⟨H0, H1, ⟨%f2, %hf2, H2⟩, H3, ⟨%f4, -, H4⟩, H5, H6, ⟨%fs, %hfs, HS⟩⟩, Hk⟩
  obtain rfl := harg4.eq_unread hf2; obtain rfl := harg9.eq_unread hfs
  sl_exec (disch := first | sl_exact h1 | sl_exact h2 | sl_exact h3)
  sl_step
  iapply Hk
  isplitl [H0]; · iexact H0
  isplitl [H1]; · iexact H1
  isplitl [H2]
  · iexists _; isplitr; · ipureintro; exact hf2
    iexact H2
  isplitl [H3]; · iexact H3
  isplitl [H4]
  · iexists _; isplitr
    swap; · iexact H4
    ipureintro
    rw [View.read_writes_full]
    sl_unfold_run_names
    rw [View.readAt_full, View.readAt_full, hf2, hfs]
    rfl
  isplitl [H5]; · iexact H5
  isplitl [H6]; · iexact H6
  iexists _; isplitr; · ipureintro; exact hfs
  iexact HS

set_option maxHeartbeats 1000000 in
/-- At the first column block the body norms the rows and stores the side product and the first output's block. -/
theorem run_first (h1 : k0_cond1 i = 1#1) (h2 : k0_cond2 i = 1#1) (h3 : ¬ k0_cond3 i = 1#1) (E : Set ℕ) (K : PUnit → sProp 𝕄) :
    iprop(hands c arg2 arg3 arg4 arg5 arg6 arg7 arg8 arg9 x0 x1 x2 x3 y4 y5 y6 xs
        ∗ (hands c arg2 arg3 arg4 arg5 arg6 arg7 arg8 arg9 x0 x1 x2 x3 (lowOf (hOf x0 x1) x2) y5 (sideOf (hOf x0 x1) x3) (hOf x0 x1) -∗ K ⟨⟩))
      ⊢ wp frame (wpE (defs₀ (F := F)) Variants.none c none) E
          (cc0_mix_in_proj i arg2 harg2 arg3 harg3 arg4 harg4 arg5 harg5 arg6 harg6 arg7 harg7 arg8 harg8 arg9 harg9) K := by
  unfold hands cc0_mix_in_proj owns
  iintro ⟨⟨⟨%f0, %hf0, H0⟩, ⟨%f1, %hf1, H1⟩, ⟨%f2, %hf2, H2⟩, ⟨%f3, %hf3, H3⟩, ⟨%f4, -, H4⟩, H5, ⟨%f6, -, H6⟩, ⟨%fs, -, HS⟩⟩, Hk⟩
  obtain rfl := harg2.eq_unread hf0; obtain rfl := harg3.eq_unread hf1; obtain rfl := harg4.eq_unread hf2; obtain rfl := harg5.eq_unread hf3
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [View.read_writes_full]
    sl_unfold_run_names
    rw [View.readCov_full, View.readAt_full, View.readAt_full, View.readAt_full, hf0, hf1, hf2]
    exact (show _ = lowOf (shapeCast S1024x2048 (hOf x0 x1) shapeCasts_S1024x2048_S1024x2048) x2 from rfl).trans (by rw [shapeCast_self])
  isplitl [H5]; · iexact H5
  isplitl [H6]
  · iexists _; isplitr
    swap; · iexact H6
    ipureintro
    rw [View.read_writes_full]
    sl_unfold_run_names
    rw [View.readAt_full, View.readAt_full, View.readAt_full, hf0, hf1, hf3]
    rfl
  iexists _; isplitr
  swap; · iexact HS
  ipureintro
  sl_unfold_run_names
  rw [View.read_writes_full, View.readAt_full, View.readAt_full, hf0, hf1]
  exact (show _ = shapeCast S1024x2048 (hOf x0 x1) shapeCasts_S1024x2048_S1024x2048 from rfl).trans (shapeCast_self _ _)
end

end Cert.MixSIdeal

end
-- ==== Proof.MixSRun.lean ====
/-
  The mixer's input projection for the sample call, its whole run, for any float values: as for the prompt, with one row block.
-/
module

public import proofs.«01_k».proof.Proof.MixSBody
public import Idealize.ShloMosaic.Lib.Pipeline.TableIdle
public import Idealize.ShloMosaic.Lib.Claim

@[expose] public section

set_option maxRecDepth 16384

noncomputable section

namespace Cert.MixSIdeal

open Cert.MixIdeal (hOf sideOf highOf lowOf)

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The points -/

theorem lt_N (t : Fin cfg0.N) : t.val < 16 := Nat.lt_of_lt_of_eq t.isLt N_0

/-- The first point of a point's row block. -/
def rowPt (t : Fin cfg0.N) : Fin cfg0.N := ⟨16 * (t.val / 16), Nat.lt_of_le_of_lt (by omega) t.isLt⟩

/-- The last point at or before a point, in its row block, that stores the first output. -/
def lowPt (t : Fin cfg0.N) : Fin cfg0.N := ⟨16 * (t.val / 16) + min (t.val % 16) 6, Nat.lt_of_le_of_lt (by omega) t.isLt⟩

theorem rowPt_first (t : Fin cfg0.N) (h : t.val % 16 = 0) : rowPt t = t := Fin.ext (show 16 * (t.val / 16) = t.val by omega)

theorem lowPt_low (t : Fin cfg0.N) (h : t.val % 16 < 7) : lowPt t = t :=
  Fin.ext (show 16 * (t.val / 16) + min (t.val % 16) 6 = t.val by omega)

theorem rowPt_prev (t : Fin cfg0.N) (h : ¬ t.val % 16 = 0) (hp : t.val - 1 < cfg0.N) : rowPt ⟨t.val - 1, hp⟩ = rowPt t :=
  Fin.ext (show 16 * ((t.val - 1) / 16) = 16 * (t.val / 16) by omega)

theorem lowPt_prev (t : Fin cfg0.N) (h : 7 ≤ t.val % 16) (hp : t.val - 1 < cfg0.N) : lowPt ⟨t.val - 1, hp⟩ = lowPt t :=
  Fin.ext (show 16 * ((t.val - 1) / 16) + min ((t.val - 1) % 16) 6 = 16 * (t.val / 16) + min (t.val % 16) 6 by omega)

theorem rowPt_lowPt (t : Fin cfg0.N) : rowPt (lowPt t) = rowPt t :=
  Fin.ext (show 16 * ((16 * (t.val / 16) + min (t.val % 16) 6) / 16) = 16 * (t.val / 16) by omega)

theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)
theorem cond2_iff : ∀ t : Fin cfg0.N, k0_cond2 (grid0.coords t) = 1#1 ↔ t.val % 16 < 7 :=
  (by decide +kernel : ∀ t : Fin grid0.N, k0_cond2 (grid0.coords t) = 1#1 ↔ t.val % 16 < 7)
theorem cond3_iff : ∀ t : Fin cfg0.N, k0_cond3 (grid0.coords t) = 1#1 ↔ ¬ t.val % 16 < 7 :=
  (by decide +kernel : ∀ t : Fin grid0.N, k0_cond3 (grid0.coords t) = 1#1 ↔ ¬ t.val % 16 < 7)

theorem idle4 : ∀ t : Fin cfg0.N, cfg0.idle 4 (grid0.coords t) = decide (7 ≤ t.val % 16) := by decide +kernel
theorem idle5 : ∀ t : Fin cfg0.N, cfg0.idle 5 (grid0.coords t) = decide (t.val % 16 < 7) := by decide +kernel
theorem idle6 : ∀ t : Fin cfg0.N, cfg0.idle 6 (grid0.coords t) = decide (¬ t.val % 16 = 0) := by decide +kernel
theorem flush5 : ∀ t : Fin cfg0.N, t.val % 16 < 7 → (cfg0.win 5).flush t = false := by decide +kernel

/-- Nothing stored is waiting in the first output's buffer before the row block's first seven points. -/
theorem fresh4 (t : Fin cfg0.N) : cfg0.fresh 4 t.val = decide (t.val % 16 < 7) :=
  Pipeline.Cfg.fresh_tab cfg0 4 (fun n => decide (n % 16 < 7)) rfl (by decide +kernel) t.val (Nat.le_of_lt t.isLt)

theorem fresh6 (t : Fin cfg0.N) : cfg0.fresh 6 t.val = decide (t.val % 16 = 0) :=
  Pipeline.Cfg.fresh_tab cfg0 6 (fun n => decide (n % 16 = 0)) rfl (by decide +kernel) t.val (Nat.le_of_lt t.isLt)

/-! ## What each point leaves -/

/-- The normed rows of a point's row block. -/
def hAt (t : Fin cfg0.N) : FVec F S1024x2048 .bf16 := hOf (iblk m c 0 (rowPt t)) (iblk m c 1 (rowPt t))

abbrev scratch : Memref sig .tc .vmem S1024x2048 .bf16 := Memref.whole cc0_scratch0

/-- Before the first point the scratch holds anything, afterwards the normed rows the point before used. -/
def kept : (n : ℕ) → n ≤ cfg0.N → sProp 𝕄
  | 0, _ => Pipeline.ΦA spec0 c
  | n + 1, hn => iprop(owns (c : Thread nD τ) scratch fullShare (hAt m c ⟨n, hn⟩) ∗ (∃ r, prngReg c r))

theorem kept_pos (n : ℕ) (h : n ≤ cfg0.N) (hz : n ≠ 0) :
    kept m c n h = iprop(owns (c : Thread nD τ) scratch fullShare (hAt m c ⟨n - 1, by omega⟩) ∗ (∃ r, prngReg c r)) := by
  cases n with
  | zero => exact absurd rfl hz
  | succ n => rfl

theorem any_eq : (Pipeline.ΦA spec0 c : sProp 𝕄) = iprop((∃ d, owns (c : Thread nD τ) scratch fullShare d) ∗ (∃ r, prngReg c r)) := by
  unfold Pipeline.ΦA; rw [scopedRest0_eq]; simp only [scratch, owns_whole]; rfl

/-- Before any point the scratch holds something. -/
theorem kept_any (n : ℕ) (h : n ≤ cfg0.N) : kept m c n h ⊢ Pipeline.ΦA spec0 c := by
  cases n with
  | zero => exact Idealize.SL.BI.Entails.refl _
  | succ n =>
    rw [any_eq]
    unfold kept
    iintro ⟨HS, Hg⟩
    isplitl [HS]
    · iexists _; iexact HS
    iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lowOf (hAt m c t) (iblk m c 2 (lowPt t))
    | ⟨5, _⟩ => highOf (hAt m c t) (iblk m c 2 t)
    | ⟨6, _⟩ => sideOf (hAt m c t) (iblk m c 3 (rowPt t))
  Φ t := kept m c t.val (Nat.le_of_lt_succ t.isLt)
  q _ := fullShare
  owed _ := 0

theorem A_eq (c : Dev nD) (w : Fin cfg0.W) : (dats m 0 c).A w = V m c (Pipeline.arrRef spec0 w) := by dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = lowOf (hAt m c t) (iblk m c 2 (lowPt t)) := by dsimp only [dats]
theorem after_5 (t : Fin cfg0.N) : (dats m 0 c).after 5 t = highOf (hAt m c t) (iblk m c 2 t) := by dsimp only [dats]
theorem after_6 (t : Fin cfg0.N) : (dats m 0 c).after 6 t = sideOf (hAt m c t) (iblk m c 3 (rowPt t)) := by dsimp only [dats]

theorem before_0 (t : Fin cfg0.N) (d) : (dats m 0 c).before 0 t d = iblk m c 0 t := before0_0_of m (dats m 0 c) (A_eq m c 0) (after_0 m c) t d
theorem before_1 (t : Fin cfg0.N) (d) : (dats m 0 c).before 1 t d = iblk m c 1 t := before0_1_of m (dats m 0 c) (A_eq m c 1) (after_1 m c) t d
theorem before_2 (t : Fin cfg0.N) (d) : (dats m 0 c).before 2 t d = iblk m c 2 t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d

theorem hAt_first (t : Fin cfg0.N) (h : t.val % 16 = 0) : hAt m c t = hOf (iblk m c 0 t) (iblk m c 1 t) := by
  unfold hAt; rw [rowPt_first t h]

theorem hAt_prev (t : Fin cfg0.N) (h : ¬ t.val % 16 = 0) (hp : t.val - 1 < cfg0.N) : hAt m c ⟨t.val - 1, hp⟩ = hAt m c t := by
  unfold hAt; rw [rowPt_prev t h hp]

/-- After the first seven points the first output's buffer stays as it is. -/
theorem carry_4 (t : Fin cfg0.N) (h : 7 ≤ t.val % 16) (hp : t.val - 1 < cfg0.N) :
    (dats m 0 c).after 4 ⟨t.val - 1, hp⟩ = (dats m 0 c).after 4 t := by
  rw [after_4, after_4, hAt_prev m c t (by omega) hp, lowPt_prev t h hp]

theorem carry_6 (t : Fin cfg0.N) (h : ¬ t.val % 16 = 0) (hp : t.val - 1 < cfg0.N) :
    (dats m 0 c).after 6 ⟨t.val - 1, hp⟩ = (dats m 0 c).after 6 t := by
  rw [after_6, after_6, hAt_prev m c t h hp, rowPt_prev t h hp]

theorem before_4 (t : Fin cfg0.N) (h : 7 ≤ t.val % 16) (d) : (dats m 0 c).before 4 t d = (dats m 0 c).after 4 t := by
  rw [Dat.before_out_traj _ 4 rfl (fun _ _ => rfl) (fun t _ hi _ => (carry_4 m c t (by rw [idle4] at hi; exact of_decide_eq_true hi) _).symm) t.val t rfl d,
    if_neg (by rw [fresh4, decide_eq_false (by omega)]; exact Bool.false_ne_true)]
  exact carry_4 m c t h _

theorem before_6 (t : Fin cfg0.N) (h : ¬ t.val % 16 = 0) (d) : (dats m 0 c).before 6 t d = (dats m 0 c).after 6 t := by
  rw [Dat.before_out_traj _ 6 rfl (fun _ _ => rfl) (fun t _ hi _ => (carry_6 m c t (by rw [idle6] at hi; exact of_decide_eq_true hi) _).symm) t.val t rfl d,
    if_neg (by rw [fresh6, decide_eq_false h]; exact Bool.false_ne_true)]
  exact carry_6 m c t h _

/-! ## The body at any point -/

/-- A window whose buffer the body finds and leaves at the same contents is given back in order. -/
theorem leaves_same (w : Fin cfg0.W) (t : Fin cfg0.N) (hb : ∀ d, (dats m 0 c).before w t d = (dats m 0 c).after w t) (d) :
    owns (c : Thread nD τ) ((cfg0.win w).stage (cfg0.slots t w)) fullShare ((dats m 0 c).before w t d) ⊢ (dats m 0 c).leavesExact w t := by
  rw [hb]
  unfold Dat.leavesExact
  split
  · split
    · iintro H
      iexists ((dats m 0 c).after w t)
      rw [hb]
      iexact H
    · exact .rfl
  · exact .rfl

theorem leaves_live (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- What the body is called with at a point. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- The body's post from what a run hands back: the inputs as found, the outputs at given contents that are in order. -/
theorem post_of (t : Fin cfg0.N) (y4 : Vec F S1024x1024 .bf16) (y5 : Vec F S1024x1024 .f32) (y6 : Vec F S1024x128 .f32)
    (h4 : owns (c : Thread nD τ) (st0_4 t) fullShare y4 ⊢ (dats m 0 c).leavesExact 4 t)
    (h5 : owns (c : Thread nD τ) (st0_5 t) fullShare y5 ⊢ (dats m 0 c).leavesExact 5 t)
    (h6 : owns (c : Thread nD τ) (st0_6 t) fullShare y6 ⊢ (dats m 0 c).leavesExact 6 t) :
    iprop((∃ r, prngReg c r) ∗ (dats m 0 c).owesAt () t.castSucc
      ∗ hands c (st0_0 t) (st0_1 t) (st0_2 t) (st0_3 t) (st0_4 t) (st0_5 t) (st0_6 t) scratch
          (iblk m c 0 t) (iblk m c 1 t) (iblk m c 2 t) (iblk m c 3 t) y4 y5 y6 (hAt m c t)) ⊢ bodyPost m c t := by
  unfold bodyPost hands
  rw [show (dats m 0 c).owesAt () t.succ = (dats m 0 c).owesAt () t.castSucc from rfl]
  rw [show (dats m 0 c).Φ t.succ = iprop(owns (c : Thread nD τ) scratch fullShare (hAt m c t) ∗ (∃ r, prngReg c r)) from rfl]
  rw [leaves_live m c 0 t rfl, leaves_live m c 1 t rfl, leaves_live m c 2 t rfl, leaves_live m c 3 t rfl, after_0, after_1, after_2, after_3]
  iintro ⟨Hg, Ho, H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iapply h4; iexact H4
  isplitl [H5]; · iapply h5; iexact H5
  iapply h6; iexact H6

/-- The second output's buffer is handed back as found at the first seven points. -/
theorem leaves_idle_5 (t : Fin cfg0.N) (h : t.val % 16 < 7) (d) :
    owns (c : Thread nD τ) (st0_5 t) fullShare ((dats m 0 c).before 5 t d) ⊢ (dats m 0 c).leavesExact 5 t := by
  rw [Dat.leavesExact_idle (dats m 0 c) 5 t (by rw [idle5]; exact decide_eq_true h) (flush5 t h)]
  iintro H
  iexists d
  iexact H

set_option maxHeartbeats 1000000 in
/-- The body's triple at any point. -/
theorem sound_body (t : Fin cfg0.N) :
    bodyPre m c t ⊢ wp frame (wpE (defs₀ (F := F)) Variants.none c none) Set.univ (bodyAt0 t) (fun _ => bodyPost m c t) := by
  unfold bodyPre bodyAt0
  simp only [before_0, before_1, before_2, before_3]
  rw [show (dats m 0 c).Φ t.castSucc = kept m c t.val (Nat.le_of_lt t.isLt) from rfl]
  by_cases h0 : t.val % 16 = 0
  · refine (sep_mono (kept_any m c t.val (Nat.le_of_lt t.isLt)) .rfl).trans ?_
    rw [any_eq]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
    iapply run_first c (grid0.coords t) _ _ _ _ _ _ _ _ _ _ _ _ _ _ _ _ (iblk m c 0 t) (iblk m c 1 t) (iblk m c 2 t) (iblk m c 3 t)
      ((dats m 0 c).before 4 t d4) ((dats m 0 c).before 5 t d5) ((dats m 0 c).before 6 t d6) ds
      ((cond1_iff t).mpr h0) ((cond2_iff t).mpr (by omega)) (fun h => (cond3_iff t).mp h (by omega))
    isplitl [H0 H1 H2 H3 H4 H5 H6 HS]
    · unfold hands
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iintro H
    rw [← hAt_first m c t h0]
    iapply post_of m c t _ _ _
      (by rw [leaves_live m c 4 t (by rw [idle4]; exact decide_eq_false (by omega)), after_4, lowPt_low t (by omega)])
      (leaves_idle_5 m c t (by omega) d5)
      (by rw [leaves_live m c 6 t (by rw [idle6]; exact decide_eq_false (by omega)), after_6, rowPt_first t h0])
    isplitl [Hg]; · iexact Hg
    isplitl [Ho]; · iexact Ho
    iexact H
  · rw [kept_pos m c t.val _ (by omega), hAt_prev m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    by_cases h7 : t.val % 16 < 7
    · iapply run_low c (grid0.coords t) _ _ _ _ _ _ _ _ _ _ _ _ _ _ _ _ (iblk m c 0 t) (iblk m c 1 t) (iblk m c 2 t) (iblk m c 3 t)
        ((dats m 0 c).before 4 t d4) ((dats m 0 c).before 5 t d5) ((dats m 0 c).before 6 t d6) (hAt m c t)
        (fun h => h0 ((cond1_iff t).mp h)) ((cond2_iff t).mpr h7) (fun h => (cond3_iff t).mp h h7)
      isplitl [H0 H1 H2 H3 H4 H5 H6 HS]
      · unfold hands
        isplitl [H0]; · iexact H0
        isplitl [H1]; · iexact H1
        isplitl [H2]; · iexact H2
        isplitl [H3]; · iexact H3
        isplitl [H4]; · iexact H4
        isplitl [H5]; · iexact H5
        isplitl [H6]; · iexact H6
        iexact HS
      iintro H
      iapply post_of m c t _ _ _
        (by rw [leaves_live m c 4 t (by rw [idle4]; exact decide_eq_false (by omega)), after_4, lowPt_low t h7])
        (leaves_idle_5 m c t h7 d5)
        (leaves_same m c 6 t (before_6 m c t h0) d6)
      isplitl [Hg]; · iexact Hg
      isplitl [Ho]; · iexact Ho
      iexact H
    · iapply run_high c (grid0.coords t) _ _ _ _ _ _ _ _ _ _ _ _ _ _ _ _ (iblk m c 0 t) (iblk m c 1 t) (iblk m c 2 t) (iblk m c 3 t)
        ((dats m 0 c).before 4 t d4) ((dats m 0 c).before 5 t d5) ((dats m 0 c).before 6 t d6) (hAt m c t)
        (fun h => h0 ((cond1_iff t).mp h)) (fun h => h7 ((cond2_iff t).mp h)) ((cond3_iff t).mpr h7)
      isplitl [H0 H1 H2 H3 H4 H5 H6 HS]
      · unfold hands
        isplitl [H0]; · iexact H0
        isplitl [H1]; · iexact H1
        isplitl [H2]; · iexact H2
        isplitl [H3]; · iexact H3
        isplitl [H4]; · iexact H4
        isplitl [H5]; · iexact H5
        isplitl [H6]; · iexact H6
        iexact HS
      iintro H
      iapply post_of m c t _ _ _
        (leaves_same m c 4 t (before_4 m c t (by omega)) d4)
        (by rw [leaves_live m c 5 t (by rw [idle5]; exact decide_eq_false h7), after_5])
        (leaves_same m c 6 t (before_6 m c t h0) d6)
      isplitl [Hg]; · iexact Hg
      isplitl [Ho]; · iexact Ho
      iexact H

/-! ## The run -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: every array of the pipeline ends as the proof data say, and no counter is left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun c => kept_any m c cfg0.N (Nat.le_refl _))

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and no counter is left raised. -/
theorem frame_mix : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.MixSIdeal

end
-- ==== Proof.MixSValue.lean ====
/-
  The mixer's input projection for the sample call over the extended reals: the arrays its run leaves.
-/
module

public import proofs.«01_k».proof.Proof.MixSRun
public import proofs.«01_k».proof.Proof.MixValue
public import proofs.«01_k».proof.Proof.MixSpec
public import Idealize.ShloMosaic.Lib.Pipeline.ValueKit

@[expose] public section

set_option maxRecDepth 16384

noncomputable section

namespace Cert.MixSIdeal.Whole

open Cert.MixSIdeal Cert.MixSIdeal.Gen Cert.MixSpec Idealize.ShloMosaic Idealize.ShloMosaic.TcCoe Idealize.SL.Sem
open Cert.MixIdeal (hOf sideOf highOf lowOf)
open Cert.MixIdeal.Whole (hOf_at highOf_at lowOf_at sideOf_at mainW sideW mainW_at sideW_at)
open Idealize.ShloMosaic.Pipeline (Dat)

variable (m : (ℓ : Loc nD τ sig) → Buf (Elt Ideal) ℓ) (ρ : Dev nD → PrngReg) (c : Dev nD)

/-- The rows, the norm's scale and the weight. -/
abbrev A0 : (⟨3, ![128, 8, 2048]⟩ : Shape).Idx → EReal := m ((c : Thread nD τ).loc main_arg0)
abbrev A1 : (⟨2, ![1, 2048]⟩ : Shape).Idx → EReal := m ((c : Thread nD τ).loc main_arg1)
abbrev A2 : (⟨3, ![1, 2048, 16464]⟩ : Shape).Idx → EReal := m ((c : Thread nD τ).loc main_arg2)

theorem V11 : V m c main_v11 = mainW (F := Ideal) (A2 m c) := by
  show StableHlo.after hostOps0 _ main_v11 = _
  after_results_simp
  rfl

theorem V16 : V m c main_v16 = sideW (F := Ideal) (A2 m c) := by
  show StableHlo.after hostOps0 _ main_v16 = _
  after_results_simp
  rfl

/-! ## The blocks a point reads -/

theorem idx0 : ∀ t : Fin cfg0.N, win0_0.index t = ![t.val / 16, 0] ∧ win0_1.index t = ![0, 0] ∧ win0_2.index t = ![0, t.val % 16]
    ∧ win0_3.index t = ![0, 0] ∧ win0_4.index t = ![t.val / 16, min (t.val % 16) 6] ∧ win0_5.index t = ![t.val / 16, t.val % 16 - 7]
    ∧ win0_6.index t = ![t.val / 16, 0] :=
  (by decide +kernel : ∀ t : Fin grid0.N, win0_0.index t = ![t.val / 16, 0] ∧ win0_1.index t = ![0, 0] ∧ win0_2.index t = ![0, t.val % 16]
    ∧ win0_3.index t = ![0, 0] ∧ win0_4.index t = ![t.val / 16, min (t.val % 16) 6] ∧ win0_5.index t = ![t.val / 16, t.val % 16 - 7]
    ∧ win0_6.index t = ![t.val / 16, 0])

/-- The array row of a block row. -/
def arow (t : Fin cfg0.N) (r : Fin 1024) : Fin 1024 := ⟨t.val / 16 * 1024 + r.val, by have := lt_N t; omega⟩

theorem arow_rowPt (t : Fin cfg0.N) (r : Fin 1024) : arow (rowPt t) r = arow t r :=
  Fin.ext (show 16 * (t.val / 16) / 16 * 1024 + r.val = t.val / 16 * 1024 + r.val by omega)

theorem read0 (t : Fin cfg0.N) (r : Fin 1024) (k : Fin 2048) :
    iblk m c 0 t (ix2 r k) = A0 m c (ix3 ⟨(arow t r).val / 8, by omega⟩ ⟨(arow t r).val % 8, by omega⟩ k) := by
  have := lt_N t
  blk_ext! [iblk, V, idx0 t, arow]

theorem read1 (t : Fin cfg0.N) (k : Fin 2048) : iblk m c 1 t (ix2 0 k) = A1 m c (ix2 0 k) := by
  have := lt_N t
  blk_ext! [iblk, V, idx0 t]

theorem read2 (t : Fin cfg0.N) (e : Fin 2048) (C : Fin 1024) :
    iblk m c 2 t (ix2 e C) = A2 m c (ix3 0 e (mainCol ⟨t.val % 16 * 1024 + C.val, by omega⟩)) := by
  have := lt_N t
  refine Eq.trans ?_ (mainW_at _ _ _)
  rw [← V11 m c]
  generalize hX : V m c main_v11 = X
  blk_ext! [iblk, hX, idx0 t]

theorem read3 (t : Fin cfg0.N) (e : Fin 2048) (C : Fin 128) :
    iblk m c 3 t (ix2 e C) = if h : C.val < 80 then A2 m c (ix3 0 e (sideCol ⟨C.val, h⟩)) else 0 := by
  have := lt_N t
  refine Eq.trans ?_ (sideW_at _ _ _)
  rw [← V16 m c]
  generalize hX : V m c main_v16 = X
  blk_ext! [iblk, hX, idx0 t]

/-! ## The blocks a point writes -/

theorem hAt_row (t : Fin cfg0.N) (r : Fin 1024) : (fun e => hAt m c t (ix2 r e)) = sampleRowAt (A0 m c) (A1 m c) (arow t r) := by
  funext d
  unfold hAt
  rw [hOf_at, show (fun e => iblk m c 0 (rowPt t) (ix2 r e)) = _ from funext fun e => read0 m c (rowPt t) r e,
    show (fun e => iblk m c 1 (rowPt t) (ix2 0 e)) = _ from funext fun e => read1 m c (rowPt t) e]
  show sampleRowAt (A0 m c) (A1 m c) (arow (rowPt t) r) d = _
  rw [arow_rowPt]

theorem block4 (t : Fin cfg0.N) (r C : Fin 1024) : (dats m 0 c).after 4 t (ix2 r C)
    = lowArr (sampleRowAt (A0 m c) (A1 m c)) (A2 m c) (ix2 (arow t r) ⟨min (t.val % 16) 6 * 1024 + C.val, by omega⟩) := by
  rw [after_4, lowOf_at, hAt_row, show (fun e => iblk m c 2 (lowPt t) (ix2 e C)) = _ from funext fun e => read2 m c (lowPt t) e C]
  show prodAt _ _ _ _ = prodAt (sampleRowAt (A0 m c) (A1 m c)) (A2 m c) (arow t r) (lowCol ⟨min (t.val % 16) 6 * 1024 + C.val, _⟩)
  congr 1
  have e : (lowPt t).val % 16 = min (t.val % 16) 6 := by
    show (16 * (t.val / 16) + min (t.val % 16) 6) % 16 = _
    omega
  unfold mainCol
  rw [dif_pos (by show (lowPt t).val % 16 * 1024 + C.val < 7168; omega)]
  congr 1
  exact Fin.ext (show (lowPt t).val % 16 * 1024 + C.val = min (t.val % 16) 6 * 1024 + C.val by rw [e])

theorem block5 (t : Fin cfg0.N) (h : 7 ≤ t.val % 16) (r C : Fin 1024) : (dats m 0 c).after 5 t (ix2 r C)
    = highArr (sampleRowAt (A0 m c) (A1 m c)) (A2 m c) (ix2 (arow t r) ⟨(t.val % 16 - 7) * 1024 + C.val, by omega⟩) := by
  rw [after_5, highOf_at, hAt_row, show (fun e => iblk m c 2 t (ix2 e C)) = _ from funext fun e => read2 m c t e C]
  refine congrArg (prodAt (sampleRowAt (A0 m c) (A1 m c)) (A2 m c) (arow t r)) (?_ : _ = highCol ⟨(t.val % 16 - 7) * 1024 + C.val, _⟩)
  unfold mainCol
  rw [dif_neg (by show ¬ t.val % 16 * 1024 + C.val < 7168; omega)]
  refine congrArg highCol (Fin.ext ?_)
  dsimp only
  omega

theorem block6 (t : Fin cfg0.N) (r : Fin 1024) (C : Fin 128) : (dats m 0 c).after 6 t (ix2 r C)
    = sideArr (sampleRowAt (A0 m c) (A1 m c)) (A2 m c) (ix2 (arow t r) C) := by
  rw [after_6, sideOf_at, hAt_row, show (fun e => iblk m c 3 (rowPt t) (ix2 e C)) = _ from funext fun e => read3 m c (rowPt t) e C]
  show _ = sideVal (sampleRowAt (A0 m c) (A1 m c)) (A2 m c) (arow t r) C
  unfold sideVal
  by_cases h : C.val < 80
  · rw [dif_pos h]
    simp only [dif_pos h]
    rfl
  · rw [dif_neg h]
    simp only [dif_neg h]
    unfold Trunk.dot
    simp only [mul_zero, Finset.sum_const_zero]

/-! ## The arrays at the end -/

theorem final4 : (dats m 0 c).arrAt 4 cfg0.N = lowArr (sampleRowAt (A0 m c) (A1 m c)) (A2 m c) := by
  refine (dats m 0 c).arrAt_eq_of_covers 4 _ (by decide +kernel) fun t hf y => ?_
  have hX := block4 m c t
  generalize (dats m 0 c).after 4 t = X at hX ⊢
  have hy : y = ix2 (y 0) (y 1) := funext fun a => by fin_cases a <;> rfl
  refine Eq.trans ?_ ((hX (y 0) (y 1)).trans ?_)
  · show X y = _
    exact congrArg X hy
  · congr 1
    funext a
    fin_cases a
    all_goals (apply Fin.ext; blk_simp [idx0 t]; rfl)

theorem final5 : (dats m 0 c).arrAt 5 cfg0.N = highArr (sampleRowAt (A0 m c) (A1 m c)) (A2 m c) := by
  refine (dats m 0 c).arrAt_eq_of_covers 5 _ (by decide +kernel) fun t hf y => ?_
  have h7 : 7 ≤ t.val % 16 := by
    by_contra h
    rw [flush5 t (by omega)] at hf
    exact Bool.false_ne_true hf
  have hX := block5 m c t h7
  generalize (dats m 0 c).after 5 t = X at hX ⊢
  have hy : y = ix2 (y 0) (y 1) := funext fun a => by fin_cases a <;> rfl
  refine Eq.trans ?_ ((hX (y 0) (y 1)).trans ?_)
  · show X y = _
    exact congrArg X hy
  · congr 1
    funext a
    fin_cases a
    all_goals (apply Fin.ext; blk_simp [idx0 t]; rfl)

theorem final6 : (dats m 0 c).arrAt 6 cfg0.N = sideArr (sampleRowAt (A0 m c) (A1 m c)) (A2 m c) := by
  refine (dats m 0 c).arrAt_eq_of_covers 6 _ (by decide +kernel) fun t hf y => ?_
  have hX := block6 m c t
  generalize (dats m 0 c).after 6 t = X at hX ⊢
  have hy : y = ix2 (y 0) (y 1) := funext fun a => by fin_cases a <;> rfl
  refine Eq.trans ?_ ((hX (y 0) (y 1)).trans ?_)
  · show X y = _
    exact congrArg X hy
  · congr 1
    funext a
    fin_cases a
    all_goals (apply Fin.ext; blk_simp [idx0 t]; rfl)

/-- The run: the three arrays, and the arguments end as they were. -/
theorem run : θ_run defs (onTc (τ := τ) (main (F := Ideal))) ⟨m, fun _ => 0, ρ⟩ fun r => ∀ c : Dev nD,
      r.2.mem ((c : Thread nD τ).loc main_v20_0) = lowArr (sampleRowAt (A0 m c) (A1 m c)) (A2 m c)
      ∧ r.2.mem ((c : Thread nD τ).loc main_v20_1) = highArr (sampleRowAt (A0 m c) (A1 m c)) (A2 m c)
      ∧ r.2.mem ((c : Thread nD τ).loc main_v20_2) = sideArr (sampleRowAt (A0 m c) (A1 m c)) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 4).trans (final4 m c), ((h.1 c).1 5).trans (final5 m c), ((h.1 c).1 6).trans (final6 m c), h.2 c⟩)
    (θ_run_and (run_main m ρ) (frame_of m ρ (dats m) (A_eq m) (run_main m ρ)))

end Cert.MixSIdeal.Whole

end
-- ==== Proof.MixSRef.lean ====
/-
  The mixer's input projection for the sample call, its reference: the same three arrays.
-/
module

public import proofs.«01_k».proof.Proof.MixSpec
public import proofs.«01_k».proof.Proof.Gen.PlainMixSIdeal.Run

@[expose] public section

set_option maxRecDepth 16384

noncomputable section

namespace Cert.PlainMixSIdeal.Whole

open Cert.PlainMixSIdeal Cert.PlainMixSIdeal.Gen Cert.MixSpec Idealize.ShloMosaic Idealize.ShloMosaic.TcCoe Idealize.SL.Sem

variable {F : FTy → Type} [FloatOps F]

/-- The normed rows, by sequence and token. -/
def rows (x0 : FVec F S128x8x2048 .f32) (x1 : FVec F S1x2048 .f32) : FVec F S128x8x2048 .f32 :=
  mulf (mulf x0 (broadcastInDim S128x8x2048 ![0, 1, 2] bcast_S128x8x1_S128x8x2048_0_1_2 (Host.rsqrt (addf (Host.divf (broadcastInDim S128x8x1 ![0, 1] bcast_S128x8_S128x8x1_0_1
      (Host.reduceAdd (mulf x0 x0) (constant S_ .f32 0x00000000#32) reducesTo_S128x8x2048_S128x8_d2 h_S_)) (broadcastInDim S128x8x1 ![] bcast_S_S128x8x1 (constant S_ .f32 0x45000000#32)))
      (broadcastInDim S128x8x1 ![] bcast_S_S128x8x1 (constant S_ .f32 0x358637BD#32))))))
    (broadcastInDim S128x8x2048 ![0, 1, 2] bcast_S1x1x2048_S128x8x2048_0_1_2 (broadcastInDim S1x1x2048 ![2] bcast_S2048_S1x1x2048_2 (shapeCast _ x1 shapeCasts_S1x2048_S2048)))

/-- Their products with the weight, one row a token. -/
def prods (h : FVec F S128x8x2048 .f32) (x2 : FVec F S1x2048x16464 .f32) : FVec F S1024x16464 .f32 :=
  shapeCast _ (Host.dotGeneral dot_S128x8x2048_S2048x16464_S128x8x16464_2_0_01_1_n_n none h (shapeCast _ x2 shapeCasts_S1x2048x16464_S2048x16464)) shapeCasts_S128x8x16464_S1024x16464

/-- The first array: the queries, the two gates, the index queries. -/
def low (p : FVec F S1024x16464 .f32) : FVec F S1024x7168 .bf16 :=
  truncf .bf16 (concatenate S1024x7168 1
    [⟨S1024x2048, extractStridedSlice S1024x2048 ![0, 0] p slices_S1024x16464_S1024x2048_0_0⟩,
      ⟨S1024x2048, extractStridedSlice S1024x2048 ![0, 12368] p slices_S1024x16464_S1024x2048_0_12368⟩,
      ⟨S1024x2048, extractStridedSlice S1024x2048 ![0, 14416] p slices_S1024x16464_S1024x2048_0_14416⟩,
      ⟨S1024x1024, extractStridedSlice S1024x1024 ![0, 3072] p slices_S1024x16464_S1024x1024_0_3072⟩]
    concatenates_S1024x2048_S1024x2048_S1024x2048_S1024x1024_S1024x7168_d1 : FVec F S1024x7168 .f32) bitsLt_bf16_f32

/-- The second: the recurrence's four parts, the keys, the values. -/
def high (p : FVec F S1024x16464 .f32) : FVec F S1024x9216 .f32 :=
  concatenate S1024x9216 1
    [⟨S1024x2048, extractStridedSlice S1024x2048 ![0, 4176] p slices_S1024x16464_S1024x2048_0_4176⟩,
      ⟨S1024x2048, extractStridedSlice S1024x2048 ![0, 6224] p slices_S1024x16464_S1024x2048_0_6224⟩,
      ⟨S1024x2048, extractStridedSlice S1024x2048 ![0, 8272] p slices_S1024x16464_S1024x2048_0_8272⟩,
      ⟨S1024x2048, extractStridedSlice S1024x2048 ![0, 10320] p slices_S1024x16464_S1024x2048_0_10320⟩,
      ⟨S1024x512, extractStridedSlice S1024x512 ![0, 2048] p slices_S1024x16464_S1024x512_0_2048⟩,
      ⟨S1024x512, extractStridedSlice S1024x512 ![0, 2560] p slices_S1024x16464_S1024x512_0_2560⟩]
    concatenates_S1024x2048_S1024x2048_S1024x2048_S1024x2048_S1024x512_S1024x512_S1024x9216_d1

/-- The third: the index keys, the index weights, zeros. -/
def side (p : FVec F S1024x16464 .f32) : FVec F S1024x128 .f32 :=
  concatenate S1024x128 1
    [⟨S1024x64, extractStridedSlice S1024x64 ![0, 4112] p slices_S1024x16464_S1024x64_0_4112⟩,
      ⟨S1024x16, extractStridedSlice S1024x16 ![0, 4096] p slices_S1024x16464_S1024x16_0_4096⟩,
      ⟨S1024x48, broadcastInDim S1024x48 ![] bcast_S_S1024x48 (constant S_ .f32 0x00000000#32)⟩]
    concatenates_S1024x64_S1024x16_S1024x48_S1024x128_d1

section
variable (x0 : FVec Ideal S128x8x2048 .f32) (x1 : FVec Ideal S1x2048 .f32) (x2 : FVec Ideal S1x2048x16464 .f32) (p : FVec Ideal S1024x16464 .f32)

theorem prods_at (R : Fin 1024) (C : Fin 16464) : prods (F := Ideal) (rows (F := Ideal) x0 x1) x2 (ix2 R C) = prodAt (sampleRowAt x0 x1) x2 R C := by
  have e : ∀ d, rows (F := Ideal) x0 x1 (ix3 ⟨R.val / 8, by omega⟩ ⟨R.val % 8, by omega⟩ d) = sampleRowAt x0 x1 R d := by
    intro d
    unfold rows sampleRowAt Trunk.normed Trunk.unit
    pointwise []
  unfold prodAt Trunk.dot
  simp only [← e]
  generalize rows (F := Ideal) x0 x1 = h
  unfold prods
  pointwise []

theorem low_at (R : Fin 1024) (f : Fin 7168) : low (F := Ideal) p (ix2 R f) = p (ix2 R (lowCol f)) := by
  unfold low
  pointwise []
  split_ifs <;> refine congrArg (fun k => p (ix2 R k)) (Fin.ext ?_) <;> dsimp only [lowCol] <;> split_ifs <;> omega

theorem high_at (R : Fin 1024) (f : Fin 9216) : high (F := Ideal) p (ix2 R f) = p (ix2 R (highCol f)) := by
  unfold high
  pointwise []
  split_ifs <;> refine congrArg (fun k => p (ix2 R k)) (Fin.ext ?_) <;> dsimp only [highCol] <;> split_ifs <;> omega

theorem side_at (R : Fin 1024) (f : Fin 128) : side (F := Ideal) p (ix2 R f) = if h : f.val < 80 then p (ix2 R (sideCol ⟨f.val, h⟩)) else 0 := by
  unfold side
  pointwise []
  split_ifs <;> first | omega | rfl | (rw [dif_pos (by omega)]; refine congrArg (fun k => p (ix2 R k)) (Fin.ext ?_)) | rw [dif_neg (by omega)]
  all_goals (dsimp only [sideCol]; split_ifs <;> omega)

theorem low_eq : low (F := Ideal) (prods (rows x0 x1) x2) = lowArr (sampleRowAt x0 x1) x2 := by
  funext y
  obtain ⟨R, f, rfl⟩ : ∃ (R : Fin 1024) (f : Fin 7168), y = ix2 R f := ⟨y 0, y 1, funext fun a => by fin_cases a <;> rfl⟩
  rw [low_at, prods_at]
  rfl

theorem high_eq : high (F := Ideal) (prods (rows x0 x1) x2) = highArr (sampleRowAt x0 x1) x2 := by
  funext y
  obtain ⟨R, f, rfl⟩ : ∃ (R : Fin 1024) (f : Fin 9216), y = ix2 R f := ⟨y 0, y 1, funext fun a => by fin_cases a <;> rfl⟩
  rw [high_at, prods_at]
  rfl

theorem side_eq : side (F := Ideal) (prods (rows x0 x1) x2) = sideArr (sampleRowAt x0 x1) x2 := by
  funext y
  obtain ⟨R, f, rfl⟩ : ∃ (R : Fin 1024) (f : Fin 128), y = ix2 R f := ⟨y 0, y 1, funext fun a => by fin_cases a <;> rfl⟩
  rw [side_at]
  simp only [prods_at]
  rfl

end

theorem res_low (m : (ℓ : Loc nD τ sig) → Buf (Elt Ideal) ℓ) (c : Dev nD) : Value.res_main_v30 m c
    = low (F := Ideal) (prods (rows (m ((c.tc : Thread nD τ).loc main_arg0)) (m ((c.tc : Thread nD τ).loc main_arg1))) (m ((c.tc : Thread nD τ).loc main_arg2))) := by
  unfold Value.res_main_v30
  rfl

theorem res_high (m : (ℓ : Loc nD τ sig) → Buf (Elt Ideal) ℓ) (c : Dev nD) : Value.res_main_v31 m c
    = high (F := Ideal) (prods (rows (m ((c.tc : Thread nD τ).loc main_arg0)) (m ((c.tc : Thread nD τ).loc main_arg1))) (m ((c.tc : Thread nD τ).loc main_arg2))) := by
  unfold Value.res_main_v31
  rfl

/-- The reference's run: the three arrays, and the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = lowArr (sampleRowAt (m ((c.tc : Thread nD τ).loc main_arg0)) (m ((c.tc : Thread nD τ).loc main_arg1))) (m ((c.tc : Thread nD τ).loc main_arg2))
      ∧ r.2.mem ((c.tc : Thread nD τ).loc main_v31) = highArr (sampleRowAt (m ((c.tc : Thread nD τ).loc main_arg0)) (m ((c.tc : Thread nD τ).loc main_arg1))) (m ((c.tc : Thread nD τ).loc main_arg2))
      ∧ r.2.mem ((c.tc : Thread nD τ).loc main_v33) = sideArr (sampleRowAt (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((res_low m c).trans (low_eq _ _ _)), (h c).2.1.trans ((res_high m c).trans (high_eq _ _ _)),
    (h c).2.2.1.trans (side_eq _ _ _), (h c).2.2.2⟩) (Value.run (F := Ideal) m ρ)

end Cert.PlainMixSIdeal.Whole

end
-- ==== Proof.MixSClaims.lean ====
/-
  The mixer's input projection for the sample call, its claims.
-/
module

public import proofs.«01_k».proof.Defs
public import proofs.«01_k».proof.Proof.MixSValue
public import proofs.«01_k».proof.Proof.MixSRef
public import proofs.«01_k».proof.Proof.Gen.MixS.Frame
public import Idealize.ShloMosaic.Lib.Quiescent

@[expose] public section

set_option maxRecDepth 16384

noncomputable section

namespace Cert.Proof.MixSClaims

open Idealize.ShloMosaic Idealize.ShloMosaic.TcCoe Idealize.SL.Sem

/-- The printed kernel is the idealized one's text over the formats' own values: the two body tables are one. -/
theorem table_eq : Cert.MixS.defs₀ (F := Bits) = Cert.MixSIdeal.defs₀ (F := Bits) := by
  unfold Cert.MixS.defs₀ Cert.MixSIdeal.defs₀
  refine congrArg Defs.onTc (funext fun l => funext fun a => ?_)
  match l, a with
  | 0, (t, s) => rfl

theorem defs_eq : Cert.MixS.defs (F := Bits) = Cert.MixSIdeal.defs (F := Bits) :=
  congrArg (Pipeline.defs (Cert.MixSIdeal.pcfgs (F := Bits))) table_eq

theorem mix_p : Cert.quiescent_MixS := fun m ρ _ => by
  rw [defs_eq]
  exact Cert.MixSIdeal.frame_mix (F := Bits) m ρ
theorem mix_pi : Cert.quiescent_MixSIdeal := fun m ρ _ => Cert.MixSIdeal.frame_mix m ρ
theorem mix_ri : Cert.quiescent_PlainMixSIdeal := fun m ρ _ =>
  (θ_run Cert.PlainMixSIdeal.defs _ _).mono (fun r h => ⟨fun c => (h c).2.2.2, Idealize.ShloMosaic.sem_eq_zero_of_no_sems (by decide) r.2⟩)
    (Cert.PlainMixSIdeal.Value.run (F := Ideal) m ρ)
theorem mix_preserves : Cert.preserves_MixS_MixSIdeal := trivial
theorem mix_algebraic : Cert.algebraic_MixSIdeal_PlainMixSIdeal := by
  intro m ρ m' ρ' _ hag
  refine ⟨_, _, _, Cert.MixSIdeal.Whole.run m ρ, (θ_run Cert.PlainMixSIdeal.defs _ _).mono (fun r h c => ?_) (Cert.PlainMixSIdeal.Whole.run m' ρ')⟩
  obtain ⟨a0, a1, a2⟩ := hag c
  refine ⟨(h c).1.trans ?_, (h c).2.1.trans ?_, (h c).2.2.1.trans ?_, (h c).2.2.2⟩
  all_goals rw [a0, a1, a2]

end Cert.Proof.MixSClaims

end
-- ==== Proof.FfnPBody.lean ====
/-
  The prompt group's up-projection and convolution, one run of its body.

  At the first column block of a row block the body norms the rows and keeps them in a scratch buffer.  A second scratch
  buffer keeps, for every column block, the last eight rows of the products of the row block before; at a sequence's
  first row block they are set to zero.  The theorems here say what each kind of point leaves in every buffer.
-/
module

public import proofs.«01_k».proof.Proof.Gen.FfnPIdeal.Frame
public import Idealize.ShloMosaic.Lib.VecWindow
public import Idealize.ShloMosaic.Lib.WritesUnit
public import Idealize.ShloMosaic.Lib.Pipeline.ReadBack
public import Idealize.ShloMosaic.Lib.Pipeline.Value
public import Idealize.ShloMosaic.Lib.Pipeline.ValueKit

@[expose] public section

set_option maxRecDepth 16384

noncomputable section

namespace Cert.FfnPIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The normed rows, as the scratch buffer keeps them. -/
def hOf (x : Vec F S1024x2048 .f32) (g : Vec F S1x2048 .f32) : FVec F S1024x2048 .bf16 :=
  have g' : FVec F S1x2048 .f32 := shapeCast S1x2048 g shapeCasts_S1x2048_S1x2048
  have sq : FVec F S1024 .f32 := multiReduction .add [1] S1024 (mulf x x) 0x00000000#32 reduces_S1024x2048_S1024 (.inl rfl) rfl
  have mean : FVec F S1024x1 .f32 := divf (shapeCast S1024x1 sq shapeCasts_S1024_S1024x1) (broadcast S1024x1 (Scalar.ofBits .f32 0x45000000#32 : F .f32))
  have inv : FVec F S1024x1 .f32 := rsqrt (addf mean (broadcast S1024x1 (Scalar.ofBits .f32 0x358637BD#32 : F .f32)))
  truncf .bf16 (mulf (mulf x (broadcastTo S1024x2048 inv broadcasts_S1024x1_S1024x2048)) (broadcastTo S1024x2048 g' broadcasts_S1x2048_S1024x2048)) bitsLt_bf16_f32

/-- The product of the normed rows with a slab of 256 of a weight's columns. -/
def mulOf (h : FVec F S1024x2048 .bf16) (w : Vec F S2048x256 .bf16) : FVec F S1024x256 .f32 :=
  matmul dot_S1024x2048_S2048x256_S1024x256_1_0_0_1_n_n none h (shapeCast S2048x256 w shapeCasts_S2048x256_S2048x256 : FVec F S2048x256 .bf16)
    (constant S1024x256 .f32 0x00000000#32)

/-- Whether a row is the block's row `k`. -/
def isRow (k : BitVec 32) : IVec S1024x256 1 := cmpi .eq (iota .tc S1024x256 32 [0] iota_S1024x256_d0_w32) (broadcast S1024x256 k)

/-- A row of the eight kept, at every row of the block. -/
def spread (p : FVec F S1x256 .f32) : FVec F S1024x256 .f32 :=
  broadcastTo S1024x256 (shapeCast S1x256 p shapeCasts_S1x256_S1x256 : FVec F S1x256 .f32) broadcasts_S1x256_S1024x256

/-- The rows one back: the last kept row before the block's first. -/
def back1 (a : FVec F S1024x256 .f32) (p : FVec F S8x256 .f32) : FVec F S1024x256 .f32 :=
  select (isRow 0#32) (spread (extractStridedSlice S1x256 ![7, 0] p slices_S8x256_o7_0_S1x256)) (dynamicRotate 0 1#32 none a rotates_S1024x256_d0)

/-- The rows two back: the last two kept rows before the block's first two. -/
def back2 (a : FVec F S1024x256 .f32) (p : FVec F S8x256 .f32) : FVec F S1024x256 .f32 :=
  select (isRow 0#32) (spread (extractStridedSlice S1x256 ![6, 0] p slices_S8x256_o6_0_S1x256))
    (select (isRow 1#32) (spread (extractStridedSlice S1x256 ![7, 0] p slices_S8x256_o7_0_S1x256)) (dynamicRotate 0 2#32 none a rotates_S1024x256_d0))

/-- The convolution of a slab. -/
def convOf (a : FVec F S1024x256 .f32) (p : FVec F S8x256 .f32) (cw : Vec F S3x256 .f32) (cb : Vec F S1x256 .f32) : FVec F S1024x256 .f32 :=
  have w : FVec F S3x256 .f32 := shapeCast S3x256 cw shapeCasts_S3x256_S3x256
  have b : FVec F S1x256 .f32 := shapeCast S1x256 cb shapeCasts_S1x256_S1x256
  addf (addf (addf (broadcastTo S1024x256 b broadcasts_S1x256_S1024x256)
      (mulf (broadcastTo S1024x256 (extractStridedSlice S1x256 ![0, 0] w slices_S3x256_o0_0_S1x256) broadcasts_S1x256_S1024x256) (back2 a p)))
      (mulf (broadcastTo S1024x256 (extractStridedSlice S1x256 ![1, 0] w slices_S3x256_o1_0_S1x256) broadcasts_S1x256_S1024x256) (back1 a p)))
    (mulf (broadcastTo S1024x256 (extractStridedSlice S1x256 ![2, 0] w slices_S3x256_o2_0_S1x256) broadcasts_S1x256_S1024x256) a)

/-- The gated values of a slab, from the convolution and the other half of the products. -/
def gelOf (c b : FVec F S1024x256 .f32) : FVec F S1024x256 .bf16 :=
  truncf .bf16 (mulf (mulf (mulf (broadcast S1024x256 (Scalar.ofBits .f32 0x3F000000#32 : F .f32)) c)
    (addf (broadcast S1024x256 (Scalar.ofBits .f32 0x3F800000#32 : F .f32))
      (tanh (mulf (broadcast S1024x256 (Scalar.ofBits .f32 0x3F4C422A#32 : F .f32))
        (addf c (mulf (mulf (mulf (broadcast S1024x256 (Scalar.ofBits .f32 0x3D372713#32 : F .f32)) c) c) c)))))) b) bitsLt_bf16_f32

/-- The gated values of a slab. -/
def slabOf (h : FVec F S1024x2048 .bf16) (wa wb : Vec F S2048x256 .bf16) (cw : Vec F S3x256 .f32) (cb : Vec F S1x256 .f32) (p : Vec F S1x8x256 .f32) :
    FVec F S1024x256 .bf16 :=
  gelOf (convOf (mulOf h wa) (shapeCast S8x256 p shapeCasts_S1x8x256_S8x256) cw cb) (mulOf h wb)

/-- The last eight rows of a slab's products. -/
def tailOf (h : FVec F S1024x2048 .bf16) (wa : Vec F S2048x256 .bf16) : FVec F S1x8x256 .f32 :=
  shapeCast S1x8x256 (extractStridedSlice S8x256 ![1016, 0] (mulOf h wa) slices_S1024x256_o1016_0_S8x256 : FVec F S8x256 .f32) shapeCasts_S8x256_S1x8x256

/-- The zeros a sequence's first row block starts from. -/
def zeros : FVec F S1x8x512 .f32 :=
  shapeCast S1x8x512 (broadcast S8x512 (Scalar.ofBits .f32 0x00000000#32 : F .f32) : FVec F S8x512 .f32) shapeCasts_S8x512_S1x8x512

/-- Two slabs side by side. -/
def cols2 {α : Type} (u0 u1 : S1024x256.Idx → α) : S1024x512.Idx → α := fun y =>
  if hy : (y 1).val < 256 then u0 (ix2 (y 0) ⟨(y 1).val, hy⟩) else u1 (ix2 (y 0) ⟨(y 1).val - 256, by have : (y 1).val < 512 := (y 1).isLt; omega⟩)

/-- The kept rows of two slabs side by side. -/
def cols3 {α : Type} (u0 u1 : S1x8x256.Idx → α) : S1x8x512.Idx → α := fun y =>
  if hy : (y 2).val < 256 then u0 (ix3 (y 0) (y 1) ⟨(y 2).val, hy⟩)
  else u1 (ix3 (y 0) (y 1) ⟨(y 2).val - 256, by have : (y 2).val < 512 := (y 2).isLt; omega⟩)

/-- The rows kept for column block `j`. -/
def rowOf {α : Type} (X : S11x8x512.Idx → α) (j : Fin 11) : S1x8x512.Idx → α := fun y => X (ix3 j (y 1) (y 2))

/-- The kept rows with those of column block `j` replaced. -/
def putRow {α : Type} (X : S11x8x512.Idx → α) (j : Fin 11) (T : S1x8x512.Idx → α) : S11x8x512.Idx → α := fun y =>
  if (y 0).val = j.val then T (ix3 0 (y 1) (y 2)) else X y

section
variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S3x512 .f32) (harg6 : arg6.IsWhole) (arg7 : Memref sig .tc .vmem S1x512 .f32) (harg7 : arg7.IsWhole)
  (arg8 : Memref sig .tc .vmem S8x128 .f32) (harg8 : arg8.IsWhole) (arg9 : Memref sig .tc .vmem S8x128 .f32) (harg9 : arg9.IsWhole)
  (arg10 : Memref sig .tc .vmem S1024x512 .bf16) (harg10 : arg10.IsWhole) (arg11 : Memref sig .tc .vmem S1x8x512 .f32) (harg11 : arg11.IsWhole)
  (arg12 : Memref sig .tc .vmem S1024x2048 .bf16) (harg12 : arg12.IsWhole) (arg13 : Memref sig .tc .vmem S11x8x512 .f32) (harg13 : arg13.IsWhole)
  (x0 : Vec F S1024x2048 .f32) (x1 : Vec F S1x2048 .f32) (x2 x3 : Vec F S2048x512 .bf16) (x4 : Vec F S3x512 .f32) (x5 : Vec F S1x512 .f32)
  (x6 x7 : Vec F S8x128 .f32) (y8 : Vec F S1024x512 .bf16) (y9 : Vec F S1x8x512 .f32) (xs : Vec F S1024x2048 .bf16) (X : Vec F S11x8x512 .f32)

/-- Everything the body is handed at a point, at given contents. -/
def hands : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare x7
    ∗ owns (c : Thread nD τ) arg10 fullShare y8 ∗ owns (c : Thread nD τ) arg11 fullShare y9
    ∗ owns (c : Thread nD τ) arg12 fullShare xs ∗ owns (c : Thread nD τ) arg13 fullShare X)

/-- The left slab of a weight's columns. -/
def lo (x : Vec F S2048x512 .bf16) : Vec F S2048x256 .bf16 := View.ld (Val := Elt F) x (Rect.unit (s := S2048x512) ![0, 0] S2048x256.size inb_S2048x512_S2048x256_0_0)
/-- The right slab of a weight's columns. -/
def hi (x : Vec F S2048x512 .bf16) : Vec F S2048x256 .bf16 := View.ld (Val := Elt F) x (Rect.unit (s := S2048x512) ![0, 256] S2048x256.size inb_S2048x512_S2048x256_0_256)
/-- The left slab of the taps. -/
def loT (x : Vec F S3x512 .f32) : Vec F S3x256 .f32 := View.ld (Val := Elt F) x (Rect.unit (s := S3x512) ![0, 0] S3x256.size inb_S3x512_S3x256_0_0)
/-- The right slab of the taps. -/
def hiT (x : Vec F S3x512 .f32) : Vec F S3x256 .f32 := View.ld (Val := Elt F) x (Rect.unit (s := S3x512) ![0, 256] S3x256.size inb_S3x512_S3x256_0_256)
/-- The left slab of the bias. -/
def loB (x : Vec F S1x512 .f32) : Vec F S1x256 .f32 := View.ld (Val := Elt F) x (Rect.unit (s := S1x512) ![0, 0] S1x256.size inb_S1x512_S1x256_0_0)
/-- The right slab of the bias. -/
def hiB (x : Vec F S1x512 .f32) : Vec F S1x256 .f32 := View.ld (Val := Elt F) x (Rect.unit (s := S1x512) ![0, 256] S1x256.size inb_S1x512_S1x256_0_256)
/-- The left slab of the kept rows. -/
def loP {α : Type} (P : S1x8x512.Idx → α) : S1x8x256.Idx → α := fun y => P (ix3 0 (y 1) ⟨(y 2).val, by have : (y 2).val < 256 := (y 2).isLt; omega⟩)
/-- The right slab of the kept rows. -/
def hiP {α : Type} (P : S1x8x512.Idx → α) : S1x8x256.Idx → α := fun y => P (ix3 0 (y 1) ⟨256 + (y 2).val, by have : (y 2).val < 256 := (y 2).isLt; omega⟩)

/-- The gated values of a point, from the rows kept before it. -/
def gateOf (h : FVec F S1024x2048 .bf16) (P : Vec F S1x8x512 .f32) : Vec F S1024x512 .bf16 :=
  cols2 (slabOf h (lo x2) (lo x3) (loT x4) (loB x5) (loP P)) (slabOf h (hi x2) (hi x3) (hiT x4) (hiB x5) (hiP P))

/-- The last eight rows of a point's products. -/
def lastOf (h : FVec F S1024x2048 .bf16) : Vec F S1x8x512 .f32 := cols3 (tailOf h (lo x2)) (tailOf h (hi x2))

/-- The column block of a point. -/
abbrev col : Fin 11 := i 1

/-- Two stores side by side fill a block. -/
theorem read_cols2 {κ : Kind} {sp : Space} (v : View sig κ sp S1024x512 .bf16) (f : v.ty.Contents (Elt F)) (u0 u1 : FVec F S1024x256 .bf16) :
    v.read (Elt F) (v.writes (Elt F) f
      [⟨Rect.unit ![0, 256] S1024x256.size inb_S1024x512_S1024x256_0_256, u1⟩, ⟨Rect.unit ![0, 0] S1024x256.size inb_S1024x512_S1024x256_0_0, u0⟩]) = cols2 u0 u1 := by
  funext y
  unfold cols2
  have h1 : (y 1).val < 512 := (y 1).isLt
  split
  · next hy =>
    refine (View.read_writes_cons_unit_of_not_mem v f _ _ _ y rfl 1 (.inl hy)).trans
      (View.read_writes_cons_unit_of_mem v f _ u0 _ y (ix2 (y 0) ⟨(y 1).val, hy⟩) rfl fun a => ?_)
    fin_cases a
    · exact (Nat.zero_add _).symm
    · exact (Nat.zero_add _).symm
  · next hy =>
    refine View.read_writes_cons_unit_of_mem v f _ u1 _ y (ix2 (y 0) ⟨(y 1).val - 256, by omega⟩) rfl fun a => ?_
    fin_cases a
    · exact (Nat.zero_add _).symm
    · exact (Nat.add_sub_of_le (Nat.le_of_not_lt hy)).symm

/-- Two stores side by side fill the block of last rows. -/
theorem read_cols3 {κ : Kind} {sp : Space} (v : View sig κ sp S1x8x512 .f32) (f : v.ty.Contents (Elt F)) (u0 u1 : FVec F S1x8x256 .f32) :
    v.read (Elt F) (v.writes (Elt F) f
      [⟨Rect.unit ![0, 0, 256] S1x8x256.size inb_S1x8x512_S1x8x256_0_0_256, u1⟩, ⟨Rect.unit ![0, 0, 0] S1x8x256.size inb_S1x8x512_S1x8x256_0_0_0, u0⟩]) = cols3 u0 u1 := by
  funext y
  unfold cols3
  have h1 : (y 2).val < 512 := (y 2).isLt
  split
  · next hy =>
    refine (View.read_writes_cons_unit_of_not_mem v f _ _ _ y rfl 2 (.inl hy)).trans
      (View.read_writes_cons_unit_of_mem v f _ u0 _ y (ix3 (y 0) (y 1) ⟨(y 2).val, hy⟩) rfl fun a => ?_)
    fin_cases a
    · exact (Nat.zero_add _).symm
    · exact (Nat.zero_add _).symm
    · exact (Nat.zero_add _).symm
  · next hy =>
    refine View.read_writes_cons_unit_of_mem v f _ u1 _ y (ix3 (y 0) (y 1) ⟨(y 2).val - 256, by omega⟩) rfl fun a => ?_
    fin_cases a
    · exact (Nat.zero_add _).symm
    · exact (Nat.zero_add _).symm
    · exact (Nat.add_sub_of_le (Nat.le_of_not_lt hy)).symm

/-- Two stores side by side, over any contents that agree elsewhere, replace the rows of a column block. -/
theorem read_put {κ : Kind} {sp : Space} (v : View sig κ sp S11x8x512 .f32) (f : v.ty.Contents (Elt F)) (L : List (View.Piece (Elt F) S11x8x512 .f32)) (i : grid0.Coords)
    (X : Vec F S11x8x512 .f32) (hX : ∀ y : S11x8x512.Idx, (y 0).val ≠ (i 1).val → v.read (Elt F) (v.writes (Elt F) f L) y = X y) (u0 u1 : FVec F S1x8x256 .f32) :
    v.read (Elt F) (v.writes (Elt F) f
      (⟨Rect.unit (k0_off3 i) S1x8x256.size (k0_off3_inb i), u1⟩ :: ⟨Rect.unit (k0_off2 i) S1x8x256.size (k0_off2_inb i), u0⟩ :: L)) = putRow X (i 1) (cols3 u0 u1) := by
  funext y
  unfold putRow cols3
  have h1 : (y 2).val < 512 := (y 2).isLt
  split
  · next hj =>
    split
    · next hy =>
      refine (View.read_writes_cons_unit_of_not_mem v f _ _ _ y (k0_off3_eq i) 2 (.inl hy)).trans
        (View.read_writes_cons_unit_of_mem v f _ u0 _ y (ix3 0 (y 1) ⟨(y 2).val, hy⟩) (k0_off2_eq i) fun a => ?_)
      fin_cases a
      · exact hj
      · exact (Nat.zero_add _).symm
      · exact (Nat.zero_add _).symm
    · next hy =>
      refine View.read_writes_cons_unit_of_mem v f _ u1 _ y (ix3 0 (y 1) ⟨(y 2).val - 256, by omega⟩) (k0_off3_eq i) fun a => ?_
      fin_cases a
      · exact hj
      · exact (Nat.zero_add _).symm
      · exact (Nat.add_sub_of_le (Nat.le_of_not_lt hy)).symm
  · next hj =>
    refine (View.read_writes_cons_unit_of_not_mem v f _ _ _ y (k0_off3_eq i) 0 ?_).trans
      ((View.read_writes_cons_unit_of_not_mem v f _ _ _ y (k0_off2_eq i) 0 ?_).trans (hX y hj))
    · show (y 0).val < (i 1).val ∨ (i 1).val + 1 ≤ (y 0).val; omega
    · show (y 0).val < (i 1).val ∨ (i 1).val + 1 ≤ (y 0).val; omega

/-- A slab of the rows kept for a column block, read where it lies. -/
theorem ld_off2 (X : Vec F S11x8x512 .f32) (i : grid0.Coords) :
    View.ld (Val := Elt F) X (Rect.unit (s := S11x8x512) (k0_off2 i) S1x8x256.size (k0_off2_inb i)) = loP (rowOf X (i 1)) := by
  funext y
  refine congrArg X (funext fun a => Fin.ext ?_)
  refine (congrArg (fun n => n + 1 * (y a).val) (congrFun (k0_off2_eq i) a)).trans ?_
  fin_cases a
  · have : (y 0).val < 1 := (y 0).isLt
    show (i 1).val + 1 * (y 0).val = (i 1).val; omega
  · show 0 + 1 * (y 1).val = (y 1).val; omega
  · show 0 + 1 * (y 2).val = (y 2).val; omega

theorem ld_off3 (X : Vec F S11x8x512 .f32) (i : grid0.Coords) :
    View.ld (Val := Elt F) X (Rect.unit (s := S11x8x512) (k0_off3 i) S1x8x256.size (k0_off3_inb i)) = hiP (rowOf X (i 1)) := by
  funext y
  refine congrArg X (funext fun a => Fin.ext ?_)
  refine (congrArg (fun n => n + 1 * (y a).val) (congrFun (k0_off3_eq i) a)).trans ?_
  fin_cases a
  · have : (y 0).val < 1 := (y 0).isLt
    show (i 1).val + 1 * (y 0).val = (i 1).val; omega
  · show 0 + 1 * (y 1).val = (y 1).val; omega
  · show 256 + 1 * (y 2).val = 256 + (y 2).val; omega

/-- Where a slab of the rows kept for a column block lies. -/
theorem idx_off2 (i : grid0.Coords) (y : S1x8x256.Idx) :
    (Rect.unit (s := S11x8x512) (k0_off2 i) S1x8x256.size (k0_off2_inb i)).toLoadRect.idx y
      = ix3 (i 1 : Fin 11) (y 1 : Fin 8) (⟨(y 2).val, by have : (y 2).val < 256 := (y 2).isLt; omega⟩ : Fin 512) := by
  refine funext fun a => Fin.ext ((congrArg (fun n => n + 1 * (y a).val) (congrFun (k0_off2_eq i) a)).trans ?_)
  fin_cases a
  · have : (y 0).val < 1 := (y 0).isLt
    show (i 1).val + 1 * (y 0).val = (i 1).val; omega
  · show 0 + 1 * (y 1).val = (y 1).val; omega
  · show 0 + 1 * (y 2).val = (y 2).val; omega

theorem idx_off3 (i : grid0.Coords) (y : S1x8x256.Idx) :
    (Rect.unit (s := S11x8x512) (k0_off3 i) S1x8x256.size (k0_off3_inb i)).toLoadRect.idx y
      = ix3 (i 1 : Fin 11) (y 1 : Fin 8) (⟨256 + (y 2).val, by have : (y 2).val < 256 := (y 2).isLt; omega⟩ : Fin 512) := by
  refine funext fun a => Fin.ext ((congrArg (fun n => n + 1 * (y a).val) (congrFun (k0_off3_eq i) a)).trans ?_)
  fin_cases a
  · have : (y 0).val < 1 := (y 0).isLt
    show (i 1).val + 1 * (y 0).val = (i 1).val; omega
  · show 0 + 1 * (y 1).val = (y 1).val; omega
  · show 256 + 1 * (y 2).val = 256 + (y 2).val; omega

/-- After a column block's rows are set, every entry of them is what was set. -/
theorem read_set {κ : Kind} {sp : Space} (v : View sig κ sp S11x8x512 .f32) (f : v.ty.Contents (Elt F)) (i : grid0.Coords) (h2 : k0_cond2 i = 1#1)
    (Z : FVec F S1x8x512 .f32) (r : Fin 8) (C : Fin 512) :
    v.read (Elt F) (v.writes (Elt F) f [⟨Rect.unit (k0_off1 i) S1x8x512.size (k0_off1_inb i h2), Z⟩]) (ix3 (i 1 : Fin 11) r C) = Z (ix3 0 r C) := by
  refine View.read_writes_cons_unit_of_mem v f _ Z [] (ix3 (i 1 : Fin 11) r C) (ix3 0 r C) (k0_off1_eq i) fun a => ?_
  fin_cases a
  · rfl
  · exact (Nat.zero_add _).symm
  · exact (Nat.zero_add _).symm

/-- Setting a column block's rows leaves the other column blocks'. -/
theorem read_other {κ : Kind} {sp : Space} (v : View sig κ sp S11x8x512 .f32) (f : v.ty.Contents (Elt F)) (i : grid0.Coords) (h2 : k0_cond2 i = 1#1)
    (Z : FVec F S1x8x512 .f32) (X : Vec F S11x8x512 .f32) (hX : v.read (Elt F) f = X) (y : S11x8x512.Idx) (hy : (y 0).val ≠ (i 1).val) :
    v.read (Elt F) (v.writes (Elt F) f [⟨Rect.unit (k0_off1 i) S1x8x512.size (k0_off1_inb i h2), Z⟩]) y = X y := by
  have hy' : (y 0).val < (i 1).val ∨ (i 1).val + 1 ≤ (y 0).val := by omega
  exact (View.read_writes_cons_unit_of_not_mem v f _ Z [] y (k0_off1_eq i) 0 hy').trans (congrFun hX y)

/-- Storing the left slab leaves the right one. -/
theorem read_past {κ : Kind} {sp : Space} (v : View sig κ sp S11x8x512 .f32) (f : v.ty.Contents (Elt F)) (L : List (View.Piece (Elt F) S11x8x512 .f32)) (i : grid0.Coords)
    (u : FVec F S1x8x256 .f32) (r : Fin 8) (C : Fin 512) (hC : 0 + 256 ≤ C.val) :
    v.read (Elt F) (v.writes (Elt F) f (⟨Rect.unit (k0_off2 i) S1x8x256.size (k0_off2_inb i), u⟩ :: L)) (ix3 (i 1 : Fin 11) r C)
      = v.read (Elt F) (v.writes (Elt F) f L) (ix3 (i 1 : Fin 11) r C) :=
  View.read_writes_cons_unit_of_not_mem v f _ u L (ix3 (i 1 : Fin 11) r C) (k0_off2_eq i) 2 (.inr hC)

/-- After a column block's rows are set, a slab of them is read back. -/
theorem cov_off2 {κ : Kind} {sp : Space} (v : View sig κ sp S11x8x512 .f32) (i : grid0.Coords) (h2 : k0_cond2 i = 1#1) (Z : FVec F S1x8x512 .f32) :
    v.readCov (Val := Elt F) [⟨Rect.unit (k0_off1 i) S1x8x512.size (k0_off1_inb i h2), Z⟩]
      (Rect.unit (s := S11x8x512) (k0_off2 i) S1x8x256.size (k0_off2_inb i)).toLoadRect = loP Z := by
  funext y
  exact (congrArg (v.read (Elt F) (v.writes (Elt F) v.junk _)) (idx_off2 i y)).trans (read_set v v.junk i h2 Z _ _)

/-- The right slab is read back after the left one was stored over. -/
theorem cov_off3 {κ : Kind} {sp : Space} (v : View sig κ sp S11x8x512 .f32) (i : grid0.Coords) (h2 : k0_cond2 i = 1#1) (Z : FVec F S1x8x512 .f32) (u : FVec F S1x8x256 .f32) :
    v.readCov (Val := Elt F) [⟨Rect.unit (k0_off2 i) S1x8x256.size (k0_off2_inb i), u⟩, ⟨Rect.unit (k0_off1 i) S1x8x512.size (k0_off1_inb i h2), Z⟩]
      (Rect.unit (s := S11x8x512) (k0_off3 i) S1x8x256.size (k0_off3_inb i)).toLoadRect = hiP Z := by
  funext y
  refine (congrArg (v.read (Elt F) (v.writes (Elt F) v.junk _)) (idx_off3 i y)).trans
    ((read_past v v.junk _ i u _ _ (by rw [Nat.zero_add]; exact Nat.le_add_right _ _)).trans
      (read_set v v.junk i h2 Z _ _))

set_option maxHeartbeats 4000000 in
/-- At a later column block of a row block that goes on with a sequence. -/
theorem run_later_odd (h1 : ¬ Scalar.cmpi .ne (Scalar.extui (Scalar.cmpi .eq (BitVec.ofNat 32 (i 1).val) 0#32)) 0#32 = 1#1) (h2 : ¬ k0_cond2 i = 1#1) (E : Set ℕ) (K : PUnit → sProp 𝕄) :
    iprop(hands c arg2 arg3 arg4 arg5 arg6 arg7 arg8 arg9 arg10 arg11 arg12 arg13 x0 x1 x2 x3 x4 x5 x6 x7 y8 y9 xs X
        ∗ (hands c arg2 arg3 arg4 arg5 arg6 arg7 arg8 arg9 arg10 arg11 arg12 arg13 x0 x1 x2 x3 x4 x5 x6 x7
            (gateOf x2 x3 x4 x5 xs (rowOf X (col i))) (lastOf x2 xs) xs (putRow X (col i) (lastOf x2 xs)) -∗ K ⟨⟩))
      ⊢ wp frame (wpE (defs₀ (F := F)) Variants.none c none) E
          (cc0_ffn_up i arg2 harg2 arg3 harg3 arg4 harg4 arg5 harg5 arg6 harg6 arg7 harg7 arg8 harg8 arg9 harg9 arg10 harg10 arg11 harg11 arg12 harg12 arg13 harg13) K := by
  unfold hands cc0_ffn_up owns
  iintro ⟨⟨H0, H1, ⟨%f2, %hf2, H2⟩, ⟨%f3, %hf3, H3⟩, ⟨%f4, %hf4, H4⟩, ⟨%f5, %hf5, H5⟩, H6, H7, ⟨%f8, -, H8⟩, ⟨%f9, -, H9⟩, ⟨%fs, %hfs, HS⟩, ⟨%fX, %hfX, HX⟩⟩, Hk⟩
  sl_exec (disch := first | sl_exact h1 | sl_exact h2)
  sl_step
  iapply Hk
  isplitl [H0]; · iexact H0
  isplitl [H1]; · iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]; · iexact H6
  isplitl [H7]; · iexact H7
  isplitl [H8]
  · iexists _; isplitr
    swap; · iexact H8
    ipureintro
    rw [read_cols2]
    sl_unfold_run_names
    rw [View.readAt_full (Val := Elt F) arg12.view fs, hfs]
    simp only [View.readAt_eq_ld, hf2, hf3, hf4, hf5, hfX]
    rw [ld_off2, ld_off3]
    unfold gateOf slabOf gelOf convOf back1 back2 isRow spread mulOf lo hi loT hiT loB hiB
    rfl
  isplitl [H9]
  · iexists _; isplitr
    swap; · iexact H9
    ipureintro
    rw [read_cols3]
    sl_unfold_run_names
    rw [View.readAt_full (Val := Elt F) arg12.view fs, hfs]
    simp only [View.readAt_eq_ld, hf2]
    rfl
  isplitl [HS]
  · iexists _; isplitr; · ipureintro; exact hfs
    iexact HS
  iexists _; isplitr
  swap; · iexact HX
  ipureintro
  refine (read_put _ _ _ i X (fun y _ => by rw [← hfX]; rfl) _ _).trans ?_
  sl_unfold_run_names
  rw [View.readAt_full (Val := Elt F) arg12.view fs, hfs]
  simp only [View.readAt_eq_ld, hf2]
  rfl

set_option maxHeartbeats 4000000 in
/-- At the first column block of a row block that goes on with a sequence. -/
theorem run_first_odd (h1 : Scalar.cmpi .ne (Scalar.extui (Scalar.cmpi .eq (BitVec.ofNat 32 (i 1).val) 0#32)) 0#32 = 1#1) (h2 : ¬ k0_cond2 i = 1#1) (E : Set ℕ) (K : PUnit → sProp 𝕄) :
    iprop(hands c arg2 arg3 arg4 arg5 arg6 arg7 arg8 arg9 arg10 arg11 arg12 arg13 x0 x1 x2 x3 x4 x5 x6 x7 y8 y9 xs X
        ∗ (hands c arg2 arg3 arg4 arg5 arg6 arg7 arg8 arg9 arg10 arg11 arg12 arg13 x0 x1 x2 x3 x4 x5 x6 x7
            (gateOf x2 x3 x4 x5 (hOf x0 x1) (rowOf X (col i))) (lastOf x2 (hOf x0 x1)) (hOf x0 x1) (putRow X (col i) (lastOf x2 (hOf x0 x1))) -∗ K ⟨⟩))
      ⊢ wp frame (wpE (defs₀ (F := F)) Variants.none c none) E
          (cc0_ffn_up i arg2 harg2 arg3 harg3 arg4 harg4 arg5 harg5 arg6 harg6 arg7 harg7 arg8 harg8 arg9 harg9 arg10 harg10 arg11 harg11 arg12 harg12 arg13 harg13) K := by
  unfold hands cc0_ffn_up owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, H6, H7, ⟨%f8, -, H8⟩, ⟨%f9, -, H9⟩, ⟨%fs, -, HS⟩, ⟨%fX, %hfX, HX⟩⟩, Hk⟩
  sl_exec (disch := first | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]; · iexact H6
  isplitl [H7]; · iexact H7
  isplitl [H8]
  · iexists _; isplitr
    swap; · iexact H8
    ipureintro
    rw [read_cols2]
    sl_unfold_run_names
    rw [View.readCov_full (Val := Elt F) arg12.view, View.readAt_full (Val := Elt F) arg2.view f0, View.readAt_full (Val := Elt F) arg3.view f1, hf0, hf1]
    simp only [View.readAt_eq_ld, hf2, hf3, hf4, hf5, hfX]
    rw [ld_off2, ld_off3]
    unfold gateOf hOf slabOf gelOf convOf back1 back2 isRow spread mulOf lo hi loT hiT loB hiB
    simp only [shapeCast_self]
  isplitl [H9]
  · iexists _; isplitr
    swap; · iexact H9
    ipureintro
    rw [read_cols3]
    sl_unfold_run_names
    rw [View.readCov_full (Val := Elt F) arg12.view, View.readAt_full (Val := Elt F) arg2.view f0, View.readAt_full (Val := Elt F) arg3.view f1, hf0, hf1]
    simp only [View.readAt_eq_ld, hf2]
    unfold lastOf tailOf mulOf hOf lo hi
    simp only [shapeCast_self]
  isplitl [HS]
  · iexists _; isplitr
    swap; · iexact HS
    ipureintro
    sl_unfold_run_names
    rw [View.read_writes_full, View.readAt_full, View.readAt_full, hf0, hf1]
    exact (show _ = shapeCast S1024x2048 (hOf x0 x1) shapeCasts_S1024x2048_S1024x2048 from rfl).trans (shapeCast_self _ _)
  iexists _; isplitr
  swap; · iexact HX
  ipureintro
  refine (read_put _ _ _ i X (fun y _ => by rw [← hfX]; rfl) _ _).trans ?_
  sl_unfold_run_names
  rw [View.readCov_full (Val := Elt F) arg12.view, View.readAt_full (Val := Elt F) arg2.view f0, View.readAt_full (Val := Elt F) arg3.view f1, hf0, hf1]
  simp only [View.readAt_eq_ld, hf2]
  unfold lastOf tailOf mulOf hOf lo hi
  simp only [shapeCast_self]

set_option maxHeartbeats 4000000 in
/-- At a later column block of a row block that begins a sequence. -/
theorem run_later_even (h1 : ¬ Scalar.cmpi .ne (Scalar.extui (Scalar.cmpi .eq (BitVec.ofNat 32 (i 1).val) 0#32)) 0#32 = 1#1) (h2 : k0_cond2 i = 1#1) (E : Set ℕ) (K : PUnit → sProp 𝕄) :
    iprop(hands c arg2 arg3 arg4 arg5 arg6 arg7 arg8 arg9 arg10 arg11 arg12 arg13 x0 x1 x2 x3 x4 x5 x6 x7 y8 y9 xs X
        ∗ (hands c arg2 arg3 arg4 arg5 arg6 arg7 arg8 arg9 arg10 arg11 arg12 arg13 x0 x1 x2 x3 x4 x5 x6 x7
            (gateOf x2 x3 x4 x5 xs zeros) (lastOf x2 xs) xs (putRow X (col i) (lastOf x2 xs)) -∗ K ⟨⟩))
      ⊢ wp frame (wpE (defs₀ (F := F)) Variants.none c none) E
          (cc0_ffn_up i arg2 harg2 arg3 harg3 arg4 harg4 arg5 harg5 arg6 harg6 arg7 harg7 arg8 harg8 arg9 harg9 arg10 harg10 arg11 harg11 arg12 harg12 arg13 harg13) K := by
  unfold hands cc0_ffn_up owns
  iintro ⟨⟨H0, H1, ⟨%f2, %hf2, H2⟩, ⟨%f3, %hf3, H3⟩, ⟨%f4, %hf4, H4⟩, ⟨%f5, %hf5, H5⟩, H6, H7, ⟨%f8, -, H8⟩, ⟨%f9, -, H9⟩, ⟨%fs, %hfs, HS⟩, ⟨%fX, %hfX, HX⟩⟩, Hk⟩
  sl_exec (disch := first | sl_exact h1 | sl_exact h2)
  sl_step
  iapply Hk
  isplitl [H0]; · iexact H0
  isplitl [H1]; · iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]; · iexact H6
  isplitl [H7]; · iexact H7
  isplitl [H8]
  · iexists _; isplitr
    swap; · iexact H8
    ipureintro
    rw [read_cols2]
    sl_unfold_run_names
    rw [cov_off2 _ i h2, cov_off3 _ i h2, View.readAt_full (Val := Elt F) arg12.view fs, hfs]
    simp only [View.readAt_eq_ld, hf2, hf3, hf4, hf5]
    unfold gateOf zeros slabOf gelOf convOf back1 back2 isRow spread mulOf lo hi loT hiT loB hiB
    rfl
  isplitl [H9]
  · iexists _; isplitr
    swap; · iexact H9
    ipureintro
    rw [read_cols3]
    sl_unfold_run_names
    rw [View.readAt_full (Val := Elt F) arg12.view fs, hfs]
    simp only [View.readAt_eq_ld, hf2]
    rfl
  isplitl [HS]
  · iexists _; isplitr; · ipureintro; exact hfs
    iexact HS
  iexists _; isplitr
  swap; · iexact HX
  ipureintro
  refine (read_put _ _ _ i X (read_other _ fX i h2 _ X hfX) _ _).trans ?_
  sl_unfold_run_names
  rw [View.readAt_full (Val := Elt F) arg12.view fs, hfs]
  simp only [View.readAt_eq_ld, hf2]
  rfl

set_option maxHeartbeats 4000000 in
/-- At the first column block of a row block that begins a sequence. -/
theorem run_first_even (h1 : Scalar.cmpi .ne (Scalar.extui (Scalar.cmpi .eq (BitVec.ofNat 32 (i 1).val) 0#32)) 0#32 = 1#1) (h2 : k0_cond2 i = 1#1) (E : Set ℕ) (K : PUnit → sProp 𝕄) :
    iprop(hands c arg2 arg3 arg4 arg5 arg6 arg7 arg8 arg9 arg10 arg11 arg12 arg13 x0 x1 x2 x3 x4 x5 x6 x7 y8 y9 xs X
        ∗ (hands c arg2 arg3 arg4 arg5 arg6 arg7 arg8 arg9 arg10 arg11 arg12 arg13 x0 x1 x2 x3 x4 x5 x6 x7
            (gateOf x2 x3 x4 x5 (hOf x0 x1) zeros) (lastOf x2 (hOf x0 x1)) (hOf x0 x1) (putRow X (col i) (lastOf x2 (hOf x0 x1))) -∗ K ⟨⟩))
      ⊢ wp frame (wpE (defs₀ (F := F)) Variants.none c none) E
          (cc0_ffn_up i arg2 harg2 arg3 harg3 arg4 harg4 arg5 harg5 arg6 harg6 arg7 harg7 arg8 harg8 arg9 harg9 arg10 harg10 arg11 harg11 arg12 harg12 arg13 harg13) K := by
  unfold hands cc0_ffn_up owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, H6, H7, ⟨%f8, -, H8⟩, ⟨%f9, -, H9⟩, ⟨%fs, -, HS⟩, ⟨%fX, %hfX, HX⟩⟩, Hk⟩
  sl_exec (disch := first | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]; · iexact H6
  isplitl [H7]; · iexact H7
  isplitl [H8]
  · iexists _; isplitr
    swap; · iexact H8
    ipureintro
    rw [read_cols2]
    sl_unfold_run_names
    rw [cov_off2 _ i h2, cov_off3 _ i h2, View.readCov_full (Val := Elt F) arg12.view, View.readAt_full (Val := Elt F) arg2.view f0, View.readAt_full (Val := Elt F) arg3.view f1, hf0, hf1]
    simp only [View.readAt_eq_ld, hf2, hf3, hf4, hf5]
    unfold gateOf zeros hOf slabOf gelOf convOf back1 back2 isRow spread mulOf lo hi loT hiT loB hiB
    simp only [shapeCast_self]
  isplitl [H9]
  · iexists _; isplitr
    swap; · iexact H9
    ipureintro
    rw [read_cols3]
    sl_unfold_run_names
    rw [View.readCov_full (Val := Elt F) arg12.view, View.readAt_full (Val := Elt F) arg2.view f0, View.readAt_full (Val := Elt F) arg3.view f1, hf0, hf1]
    simp only [View.readAt_eq_ld, hf2]
    unfold lastOf tailOf mulOf hOf lo hi
    simp only [shapeCast_self]
  isplitl [HS]
  · iexists _; isplitr
    swap; · iexact HS
    ipureintro
    sl_unfold_run_names
    rw [View.read_writes_full, View.readAt_full, View.readAt_full, hf0, hf1]
    exact (show _ = shapeCast S1024x2048 (hOf x0 x1) shapeCasts_S1024x2048_S1024x2048 from rfl).trans (shapeCast_self _ _)
  iexists _; isplitr
  swap; · iexact HX
  ipureintro
  refine (read_put _ _ _ i X (read_other _ fX i h2 _ X hfX) _ _).trans ?_
  sl_unfold_run_names
  rw [View.readCov_full (Val := Elt F) arg12.view, View.readAt_full (Val := Elt F) arg2.view f0, View.readAt_full (Val := Elt F) arg3.view f1, hf0, hf1]
  simp only [View.readAt_eq_ld, hf2]
  unfold lastOf tailOf mulOf hOf lo hi
  simp only [shapeCast_self]
end

end Cert.FfnPIdeal

end
-- ==== Proof.FfnPRun.lean ====
/-
  The prompt group's up-projection and convolution, its whole run.

  The normed rows a point uses are those its row block's first point wrote.  The last rows a point finds are those the
  point one row block earlier, at the same column block, stored.  From that the pipeline's run follows, for any float
  values, and with it that the arguments end as they began.
-/
module

public import proofs.«01_k».proof.Proof.FfnPBody
public import Idealize.ShloMosaic.Lib.Pipeline.TableIdle
public import Idealize.ShloMosaic.Lib.Claim

@[expose] public section

set_option maxRecDepth 16384

noncomputable section

namespace Cert.FfnPIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The points -/

theorem lt_N (t : Fin cfg0.N) : t.val < 176 := Nat.lt_of_lt_of_eq t.isLt N_0

/-- The first point of a point's row block. -/
def rowPt (t : Fin cfg0.N) : Fin cfg0.N := ⟨11 * (t.val / 11), Nat.lt_of_le_of_lt (by omega) t.isLt⟩

/-- The point one row block earlier, at the same column block. -/
def backPt (t : Fin cfg0.N) : Fin cfg0.N := ⟨t.val - 11, Nat.lt_of_le_of_lt (by omega) t.isLt⟩

theorem rowPt_first (t : Fin cfg0.N) (h : t.val % 11 = 0) : rowPt t = t := Fin.ext (show 11 * (t.val / 11) = t.val by omega)

theorem rowPt_prev (t : Fin cfg0.N) (h : ¬ t.val % 11 = 0) (hp : t.val - 1 < cfg0.N) : rowPt ⟨t.val - 1, hp⟩ = rowPt t :=
  Fin.ext (show 11 * ((t.val - 1) / 11) = 11 * (t.val / 11) by omega)

theorem col_at : ∀ t : Fin cfg0.N, ((grid0.coords t) 1).val = t.val % 11 :=
  (by decide +kernel : ∀ t : Fin grid0.N, ((grid0.coords t) 1).val = t.val % 11)
theorem first_iff : ∀ t : Fin cfg0.N,
    Scalar.cmpi .ne (Scalar.extui (Scalar.cmpi .eq (BitVec.ofNat 32 ((grid0.coords t) 1).val) 0#32)) 0#32 = 1#1 ↔ t.val % 11 = 0 :=
  (by decide +kernel : ∀ t : Fin grid0.N,
    Scalar.cmpi .ne (Scalar.extui (Scalar.cmpi .eq (BitVec.ofNat 32 ((grid0.coords t) 1).val) 0#32)) 0#32 = 1#1 ↔ t.val % 11 = 0)
theorem even_iff : ∀ t : Fin cfg0.N, k0_cond2 (grid0.coords t) = 1#1 ↔ t.val / 11 % 2 = 0 :=
  (by decide +kernel : ∀ t : Fin grid0.N, k0_cond2 (grid0.coords t) = 1#1 ↔ t.val / 11 % 2 = 0)

/-! ## What each point leaves -/

/-- The normed rows of a point's row block. -/
def hAt (t : Fin cfg0.N) : FVec F S1024x2048 .bf16 := hOf (iblk m c 0 (rowPt t)) (iblk m c 1 (rowPt t))

/-- The last eight rows of a point's products. -/
def lastAt (t : Fin cfg0.N) : Vec F S1x8x512 .f32 := lastOf (iblk m c 2 t) (hAt m c t)

/-- The rows before a point's block. -/
def prevAt (t : Fin cfg0.N) : Vec F S1x8x512 .f32 := if t.val / 11 % 2 = 0 then zeros else lastAt m c (backPt t)

/-- The gated values of a point. -/
def gateAt (t : Fin cfg0.N) : Vec F S1024x512 .bf16 :=
  gateOf (iblk m c 2 t) (iblk m c 3 t) (iblk m c 4 t) (iblk m c 5 t) (hAt m c t) (prevAt m c t)

abbrev scratch : Memref sig .tc .vmem S1024x2048 .bf16 := Memref.whole cc0_scratch0
abbrev rows : Memref sig .tc .vmem S11x8x512 .f32 := Memref.whole cc0_scratch1

/-- The rows kept before a point are the last rows of the eleven points before it. -/
def Good (n : ℕ) (X : Vec F S11x8x512 .f32) : Prop :=
  ∀ s : Fin cfg0.N, s.val < n → n ≤ s.val + 11 → ∀ (r : Fin 8) (C : Fin 512),
    X (ix3 ⟨s.val % 11, Nat.mod_lt _ (by decide)⟩ r C) = lastAt m c s (ix3 0 r C)

theorem good_zero (X : Vec F S11x8x512 .f32) : Good m c 0 X := fun _ h => absurd h (Nat.not_lt_zero _)

theorem col_eq (t : Fin cfg0.N) : col (grid0.coords t) = ⟨t.val % 11, Nat.mod_lt _ (by decide)⟩ := Fin.ext (col_at t)

theorem good_succ (t : Fin cfg0.N) (X : Vec F S11x8x512 .f32) (h : Good m c t.val X) :
    Good m c (t.val + 1) (putRow X (col (grid0.coords t)) (lastAt m c t)) := by
  intro s hs hn r C
  rw [col_eq]
  by_cases he : s.val = t.val
  · obtain rfl : s = t := Fin.ext he
    exact if_pos rfl
  · exact (if_neg (show ¬ s.val % 11 = t.val % 11 by omega)).trans (h s (by omega) (by omega) r C)

theorem good_prev (t : Fin cfg0.N) (X : Vec F S11x8x512 .f32) (h : Good m c t.val X) (he : ¬ t.val / 11 % 2 = 0) :
    rowOf X (col (grid0.coords t)) = prevAt m c t := by
  unfold prevAt
  rw [if_neg he, col_eq]
  funext y
  have hy : (y 0).val < 1 := (y 0).isLt
  have hs : (backPt t).val % 11 = t.val % 11 := show (t.val - 11) % 11 = t.val % 11 by omega
  have e := h (backPt t) (show t.val - 11 < t.val by omega) (show t.val ≤ t.val - 11 + 11 by omega) (y 1) (y 2)
  rw [show (⟨(backPt t).val % 11, Nat.mod_lt _ (by decide)⟩ : Fin 11) = ⟨t.val % 11, Nat.mod_lt _ (by decide)⟩ from Fin.ext hs] at e
  refine e.trans (congrArg (lastAt m c (backPt t)) (funext fun a => ?_))
  fin_cases a
  · exact Fin.ext (show 0 = (y 0).val by omega)
  · rfl
  · rfl

theorem hAt_first (t : Fin cfg0.N) (h : t.val % 11 = 0) : hAt m c t = hOf (iblk m c 0 t) (iblk m c 1 t) := by
  unfold hAt; rw [rowPt_first t h]

theorem hAt_prev (t : Fin cfg0.N) (h : ¬ t.val % 11 = 0) (hp : t.val - 1 < cfg0.N) : hAt m c ⟨t.val - 1, hp⟩ = hAt m c t := by
  unfold hAt; rw [rowPt_prev t h hp]

/-- What the scratch buffers hold before a point. -/
def Kept (n : ℕ) (xs : Vec F S1024x2048 .bf16) (X : Vec F S11x8x512 .f32) : Prop :=
  (∀ s : Fin cfg0.N, n = s.val + 1 → xs = hAt m c s) ∧ Good m c n X

/-- Before a point the scratch buffers hold the normed rows and the last rows of the points before. -/
def kept (n : ℕ) : sProp 𝕄 :=
  iprop(∃ xs X, ⌜Kept m c n xs X⌝ ∗ owns (c : Thread nD τ) scratch fullShare xs ∗ owns (c : Thread nD τ) rows fullShare X ∗ (∃ r, prngReg c r))

theorem any_eq : (Pipeline.ΦA spec0 c : sProp 𝕄)
    = iprop(((∃ d, owns (c : Thread nD τ) scratch fullShare d) ∗ (∃ d, owns (c : Thread nD τ) rows fullShare d)) ∗ (∃ r, prngReg c r)) := by
  unfold Pipeline.ΦA; rw [scopedRest0_eq]; simp only [scratch, rows, owns_whole]; rfl

theorem kept_any (n : ℕ) : kept m c n ⊢ Pipeline.ΦA spec0 c := by
  rw [any_eq]
  unfold kept
  iintro ⟨%xs, %X, -, HS, HX, Hg⟩
  isplitl [HS HX]
  · isplitl [HS]
    · iexists _; iexact HS
    iexists _; iexact HX
  iexact Hg

theorem any_kept : Pipeline.ΦA spec0 c ⊢ kept m c 0 := by
  rw [any_eq]
  unfold kept
  iintro ⟨⟨⟨%xs, HS⟩, ⟨%X, HX⟩⟩, Hg⟩
  iexists xs; iexists X
  isplitr
  · ipureintro; exact ⟨fun s h => absurd h (Nat.succ_ne_zero _).symm, good_zero m c X⟩
  isplitl [HS]; · iexact HS
  isplitl [HX]; · iexact HX
  iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => gateAt m c t
    | ⟨9, _⟩ => lastAt m c t
  Φ t := kept m c t.val
  q w := Pipeline.shareOf spec0 w
  owed _ := 0

theorem A_eq (c : Dev nD) (w : Fin cfg0.W) : (dats m 0 c).A w = V m c (Pipeline.arrRef spec0 w) := by dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = gateAt m c t := by dsimp only [dats]
theorem after_9 (t : Fin cfg0.N) : (dats m 0 c).after 9 t = lastAt m c t := by dsimp only [dats]

theorem before_0 (t : Fin cfg0.N) (d) : (dats m 0 c).before 0 t d = iblk m c 0 t := before0_0_of m (dats m 0 c) (A_eq m c 0) (after_0 m c) t d
theorem before_1 (t : Fin cfg0.N) (d) : (dats m 0 c).before 1 t d = iblk m c 1 t := before0_1_of m (dats m 0 c) (A_eq m c 1) (after_1 m c) t d
theorem before_2 (t : Fin cfg0.N) (d) : (dats m 0 c).before 2 t d = iblk m c 2 t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d
theorem before_4 (t : Fin cfg0.N) (d) : (dats m 0 c).before 4 t d = iblk m c 4 t := before0_4_of m (dats m 0 c) (A_eq m c 4) (after_4 m c) t d
theorem before_5 (t : Fin cfg0.N) (d) : (dats m 0 c).before 5 t d = iblk m c 5 t := before0_5_of m (dats m 0 c) (A_eq m c 5) (after_5 m c) t d
theorem before_6 (t : Fin cfg0.N) (d) : (dats m 0 c).before 6 t d = iblk m c 6 t := before0_6_of m (dats m 0 c) (A_eq m c 6) (after_6 m c) t d
theorem before_7 (t : Fin cfg0.N) (d) : (dats m 0 c).before 7 t d = iblk m c 7 t := before0_7_of m (dats m 0 c) (A_eq m c 7) (after_7 m c) t d

/-! ## The body at any point -/

theorem leaves_live (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- What the body is called with at a point. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

/-- Everything a point's body is handed, its inputs as the arrays' blocks. -/
def handsAt (t : Fin cfg0.N) (y8 : Vec F S1024x512 .bf16) (y9 : Vec F S1x8x512 .f32) (xs : Vec F S1024x2048 .bf16) (X : Vec F S11x8x512 .f32) : sProp 𝕄 :=
  hands c (st0_0 t) (st0_1 t) (st0_2 t) (st0_3 t) (st0_4 t) (st0_5 t) (st0_6 t) (st0_7 t) (st0_8 t) (st0_9 t) scratch rows
    (iblk m c 0 t) (iblk m c 1 t) (iblk m c 2 t) (iblk m c 3 t) (iblk m c 4 t) (iblk m c 5 t) (iblk m c 6 t) (iblk m c 7 t) y8 y9 xs X

/-- The body at any point, from what is kept before it. -/
theorem run_at (t : Fin cfg0.N) (y8 : Vec F S1024x512 .bf16) (y9 : Vec F S1x8x512 .f32) (xs : Vec F S1024x2048 .bf16) (X : Vec F S11x8x512 .f32)
    (hk : Kept m c t.val xs X) (K : PUnit → sProp 𝕄) :
    iprop(handsAt m c t y8 y9 xs X
        ∗ (handsAt m c t (gateAt m c t) (lastAt m c t) (hAt m c t) (putRow X (col (grid0.coords t)) (lastAt m c t)) -∗ K ⟨⟩))
      ⊢ wp frame (wpE (defs₀ (F := F)) Variants.none c none) Set.univ (bodyAt0 t) K := by
  unfold handsAt bodyAt0
  by_cases h0 : t.val % 11 = 0
  · have eh := hAt_first m c t h0
    by_cases he : t.val / 11 % 2 = 0
    · have eg : gateAt m c t = gateOf (iblk m c 2 t) (iblk m c 3 t) (iblk m c 4 t) (iblk m c 5 t) (hOf (iblk m c 0 t) (iblk m c 1 t)) zeros := by
        unfold gateAt prevAt; rw [if_pos he, eh]
      rw [eg, lastAt, eh]
      exact run_first_even c (grid0.coords t) _ _ _ _ _ _ _ _ _ _ _ _ _ _ _ _ _ _ _ _ _ _ _ _ (iblk m c 0 t) (iblk m c 1 t) (iblk m c 2 t) (iblk m c 3 t)
        (iblk m c 4 t) (iblk m c 5 t) (iblk m c 6 t) (iblk m c 7 t) y8 y9 xs X ((first_iff t).mpr h0) ((even_iff t).mpr he) Set.univ K
    · have eg : gateAt m c t = gateOf (iblk m c 2 t) (iblk m c 3 t) (iblk m c 4 t) (iblk m c 5 t) (hOf (iblk m c 0 t) (iblk m c 1 t)) (rowOf X (col (grid0.coords t))) := by
        unfold gateAt; rw [good_prev m c t X hk.2 he, eh]
      rw [eg, lastAt, eh]
      exact run_first_odd c (grid0.coords t) _ _ _ _ _ _ _ _ _ _ _ _ _ _ _ _ _ _ _ _ _ _ _ _ (iblk m c 0 t) (iblk m c 1 t) (iblk m c 2 t) (iblk m c 3 t)
        (iblk m c 4 t) (iblk m c 5 t) (iblk m c 6 t) (iblk m c 7 t) y8 y9 xs X ((first_iff t).mpr h0) (fun h => he ((even_iff t).mp h)) Set.univ K
  · have hp : t.val - 1 < cfg0.N := Nat.lt_of_le_of_lt (Nat.sub_le _ _) t.isLt
    have eh : xs = hAt m c t := (hk.1 ⟨t.val - 1, hp⟩ (show t.val = t.val - 1 + 1 by omega)).trans (hAt_prev m c t h0 hp)
    by_cases he : t.val / 11 % 2 = 0
    · have eg : gateAt m c t = gateOf (iblk m c 2 t) (iblk m c 3 t) (iblk m c 4 t) (iblk m c 5 t) xs zeros := by
        unfold gateAt prevAt; rw [if_pos he, eh]
      rw [eg, lastAt, ← eh]
      exact run_later_even c (grid0.coords t) _ _ _ _ _ _ _ _ _ _ _ _ _ _ _ _ _ _ _ _ _ _ _ _ (iblk m c 0 t) (iblk m c 1 t) (iblk m c 2 t) (iblk m c 3 t)
        (iblk m c 4 t) (iblk m c 5 t) (iblk m c 6 t) (iblk m c 7 t) y8 y9 xs X (fun h => h0 ((first_iff t).mp h)) ((even_iff t).mpr he) Set.univ K
    · have eg : gateAt m c t = gateOf (iblk m c 2 t) (iblk m c 3 t) (iblk m c 4 t) (iblk m c 5 t) xs (rowOf X (col (grid0.coords t))) := by
        unfold gateAt; rw [good_prev m c t X hk.2 he, eh]
      rw [eg, lastAt, ← eh]
      exact run_later_odd c (grid0.coords t) _ _ _ _ _ _ _ _ _ _ _ _ _ _ _ _ _ _ _ _ _ _ _ _ (iblk m c 0 t) (iblk m c 1 t) (iblk m c 2 t) (iblk m c 3 t)
        (iblk m c 4 t) (iblk m c 5 t) (iblk m c 6 t) (iblk m c 7 t) y8 y9 xs X (fun h => h0 ((first_iff t).mp h)) (fun h => he ((even_iff t).mp h)) Set.univ K

/-- After a point the scratch buffers hold what the next one needs. -/
theorem kept_succ (t : Fin cfg0.N) (xs : Vec F S1024x2048 .bf16) (X : Vec F S11x8x512 .f32) (hk : Kept m c t.val xs X) :
    Kept m c (t.val + 1) (hAt m c t) (putRow X (col (grid0.coords t)) (lastAt m c t)) :=
  ⟨fun s h => by obtain rfl : t = s := Fin.ext (Nat.succ.inj h); rfl, good_succ m c t X hk.2⟩

set_option maxHeartbeats 1000000 in
/-- The body's triple at any point. -/
theorem sound_body (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7]
  rw [show (dats m 0 c).Φ t.castSucc = kept m c t.val from rfl, show (dats m 0 c).Φ t.succ = kept m c (t.val + 1) from rfl,
    show (dats m 0 c).owesAt () t.succ = (dats m 0 c).owesAt () t.castSucc from rfl]
  rw [leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, leaves_live m c 9 t rfl,
    after_0, after_1, after_2, after_3, after_4, after_5, after_6, after_7, after_8, after_9]
  unfold kept
  iintro ⟨⟨%xs, %X, %hk, HS, HX, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply run_at m c t _ _ xs X hk
  isplitl [H0 H1 H2 H3 H4 H5 H6 H7 H8 H9 HS HX]
  · unfold handsAt hands
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iexact HX
  unfold handsAt hands
  iintro ⟨H0, H1, H2, H3, H4, H5, H6, H7, H8, H9, HS, HX⟩
  isplitl [HS HX Hg]
  · iexists _; iexists _
    isplitr; · ipureintro; exact kept_succ m c t xs X hk
    isplitl [HS]; · iexact HS
    isplitl [HX]; · iexact HX
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The run -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: every array of the pipeline ends as the proof data say, and no counter is left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := any_kept m) (hout := fun c => kept_any m c cfg0.N)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and no counter is left raised. -/
theorem frame_ffn_prompt : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FfnPIdeal

end
-- ==== Proof.FfnPSpec.lean ====
/-
  The prompt group's up-projection and convolution over the extended reals: the arrays its kernel and its reference leave.
-/
module

public import proofs.«01_k».proof.Proof.FfnSpec
public import Idealize.ShloMosaic.Lib.Pipeline.ValueKit

@[expose] public section

noncomputable section

namespace Cert.FfnPSpec

open Idealize.ShloMosaic

variable (a0 : (⟨2, ![16384, 2048]⟩ : Shape).Idx → EReal) (a1 : (⟨2, ![1, 2048]⟩ : Shape).Idx → EReal) (a2 : (⟨3, ![1, 2048, 11264]⟩ : Shape).Idx → EReal)
  (a3 : (⟨3, ![1, 3, 5632]⟩ : Shape).Idx → EReal) (a4 : (⟨2, ![1, 5632]⟩ : Shape).Idx → EReal)

/-- A normed row's product with a column of the weight. -/
def actAt (R : Fin 16384) (f : Fin 11264) : EReal :=
  Trunk.dot (Trunk.normed (fun e => a0 (ix2 R e)) (fun e => a1 (ix2 0 e))) (fun e => a2 (ix3 0 e f))

/-- The gated value at a token and a column: the convolution of the token's product with those of the two tokens before it in its
    sequence of 2048 (zero before the sequence's first), the gate's curve, times the product with the second half. -/
def gateVal (R : Fin 16384) (f : Fin 5632) : EReal :=
  Trunk.gelu (Trunk.taps (a3 (ix3 0 0 f)) (a3 (ix3 0 1 f)) (a3 (ix3 0 2 f)) (a4 (ix2 0 f))
      (if R.val % 2048 < 2 then 0 else actAt a0 a1 a2 ⟨R.val - 2, by omega⟩ ⟨f.val, by omega⟩)
      (if R.val % 2048 < 1 then 0 else actAt a0 a1 a2 ⟨R.val - 1, by omega⟩ ⟨f.val, by omega⟩)
      (actAt a0 a1 a2 R ⟨f.val, by omega⟩))
    * actAt a0 a1 a2 R ⟨5632 + f.val, by omega⟩

def gateArr : (⟨2, ![16384, 5632]⟩ : Shape).Idx → EReal := fun y => gateVal a0 a1 a2 a3 a4 (y 0) (y 1)

/-- The products at the last eight tokens of a block of 1024. -/
def tailVal (g : Fin 16) (r : Fin 8) (f : Fin 5632) : EReal := actAt a0 a1 a2 ⟨g.val * 1024 + (1016 + r.val), by omega⟩ ⟨f.val, by omega⟩

def tailArr : (⟨3, ![16, 8, 5632]⟩ : Shape).Idx → EReal := fun y => tailVal a0 a1 a2 (y 0) (y 1) (y 2)

end Cert.FfnPSpec

end
-- ==== Proof.FfnPBlock.lean ====
/-
  What a point of the prompt group's up-projection and convolution stores, read at an entry of its block.
-/
module

public import proofs.«01_k».proof.Proof.FfnPBody
public import proofs.«01_k».proof.Proof.FfnPSpec

@[expose] public section

set_option maxRecDepth 16384

noncomputable section

namespace Cert.FfnPIdeal.Whole

open Cert.FfnPIdeal Cert.FfnPIdeal.Gen Idealize.ShloMosaic Idealize.ShloMosaic.TcCoe Idealize.SL.Sem

/-- The normed rows. -/
theorem hOf_at (x : FVec Ideal S1024x2048 .f32) (g : FVec Ideal S1x2048 .f32) (r : Fin 1024) (d : Fin 2048) :
    hOf (F := Ideal) x g (ix2 r d) = Trunk.normed (fun e => x (ix2 r e)) (fun e => g (ix2 0 e)) d := by
  unfold hOf Trunk.normed Trunk.unit
  pointwise []

theorem mulOf_at (h : FVec Ideal S1024x2048 .bf16) (w : FVec Ideal S2048x256 .bf16) (r : Fin 1024) (C : Fin 256) :
    mulOf (F := Ideal) h w (ix2 r C) = Trunk.dot (fun e => h (ix2 r e)) (fun e => w (ix2 e C)) := by
  unfold mulOf Trunk.dot
  pointwise []

theorem isRow_at (k : BitVec 32) (r : Fin 1024) (C : Fin 256) : isRow k (ix2 r C) = IntOp.cmpi .eq (BitVec.ofNat 32 r.val) k := by
  unfold isRow
  pointwise []

theorem first_of (r : Fin 1024) (x y : EReal) :
    Scalar.select (IntOp.cmpi .eq (BitVec.ofNat 32 r.val) 0#32) x y = if r.val = 0 then x else y := by
  rw [show IntOp.cmpi .eq (BitVec.ofNat 32 r.val) 0#32 = if r.val = 0 then 1#1 else 0#1 from by revert r; decide +kernel]
  split <;> rfl

theorem second_of (r : Fin 1024) (x y : EReal) :
    Scalar.select (IntOp.cmpi .eq (BitVec.ofNat 32 r.val) 1#32) x y = if r.val = 1 then x else y := by
  rw [show IntOp.cmpi .eq (BitVec.ofNat 32 r.val) 1#32 = if r.val = 1 then 1#1 else 0#1 from by revert r; decide +kernel]
  split <;> rfl

theorem spread_at (p : FVec Ideal S1x256 .f32) (r : Fin 1024) (C : Fin 256) : spread (F := Ideal) p (ix2 r C) = p (ix2 0 C) := by
  unfold spread
  pointwise []

theorem kept6_at (p : FVec Ideal S8x256 .f32) (C : Fin 256) : extractStridedSlice S1x256 ![6, 0] p slices_S8x256_o6_0_S1x256 (ix2 0 C) = p (ix2 6 C) := by
  pointwise []

theorem kept7_at (p : FVec Ideal S8x256 .f32) (C : Fin 256) : extractStridedSlice S1x256 ![7, 0] p slices_S8x256_o7_0_S1x256 (ix2 0 C) = p (ix2 7 C) := by
  pointwise []

/-- The row one back. -/
theorem back1_at (a : FVec Ideal S1024x256 .f32) (p : FVec Ideal S8x256 .f32) (r : Fin 1024) (C : Fin 256) :
    back1 (F := Ideal) a p (ix2 r C) = if r.val = 0 then p (ix2 7 C) else a (ix2 ⟨(r.val + 1024 - 1) % 1024, Nat.mod_lt _ (by decide)⟩ C) := by
  unfold back1
  pointwise []
  rw [isRow_at, first_of, spread_at, kept7_at]

/-- The row two back. -/
theorem back2_at (a : FVec Ideal S1024x256 .f32) (p : FVec Ideal S8x256 .f32) (r : Fin 1024) (C : Fin 256) :
    back2 (F := Ideal) a p (ix2 r C) = if r.val = 0 then p (ix2 6 C) else if r.val = 1 then p (ix2 7 C)
      else a (ix2 ⟨(r.val + 1024 - 2) % 1024, Nat.mod_lt _ (by decide)⟩ C) := by
  unfold back2
  pointwise []
  rw [isRow_at, isRow_at, first_of, second_of, spread_at, spread_at, kept6_at, kept7_at]

theorem convOf_at (a : FVec Ideal S1024x256 .f32) (p : FVec Ideal S8x256 .f32) (cw : FVec Ideal S3x256 .f32) (cb : FVec Ideal S1x256 .f32)
    (r : Fin 1024) (C : Fin 256) : convOf (F := Ideal) a p cw cb (ix2 r C)
      = Trunk.taps (cw (ix2 0 C)) (cw (ix2 1 C)) (cw (ix2 2 C)) (cb (ix2 0 C)) (back2 a p (ix2 r C)) (back1 a p (ix2 r C)) (a (ix2 r C)) := by
  unfold convOf Trunk.taps
  pointwise []

theorem gelOf_at (v b : FVec Ideal S1024x256 .f32) (r : Fin 1024) (C : Fin 256) :
    gelOf (F := Ideal) v b (ix2 r C) = Trunk.gelu (v (ix2 r C)) * b (ix2 r C) := by
  unfold gelOf Trunk.gelu
  pointwise []

theorem tailOf_at (h : FVec Ideal S1024x2048 .bf16) (w : FVec Ideal S2048x256 .bf16) (r : Fin 8) (C : Fin 256) :
    tailOf (F := Ideal) h w (ix3 0 r C) = Trunk.dot (fun e => h (ix2 ⟨1016 + r.val, by omega⟩ e)) (fun e => w (ix2 e C)) := by
  rw [← mulOf_at]
  unfold tailOf
  pointwise []

theorem zeros_at (r : Fin 8) (C : Fin 512) : zeros (F := Ideal) (ix3 0 r C) = 0 := by
  unfold zeros
  pointwise []

theorem flat_at (p : FVec Ideal S1x8x256 .f32) (r : Fin 8) (C : Fin 256) :
    (shapeCast S8x256 p shapeCasts_S1x8x256_S8x256 : FVec Ideal S8x256 .f32) (ix2 r C) = p (ix3 0 r C) := by
  pointwise []

/-- The gated value at an entry of the block, from the normed rows, the weights' columns, the taps and the rows kept. -/
def gatedAt (h : FVec Ideal S1024x2048 .bf16) (wa wb : FVec Ideal S2048x512 .bf16) (cw : FVec Ideal S3x512 .f32) (cb : FVec Ideal S1x512 .f32)
    (P : FVec Ideal S1x8x512 .f32) (r : Fin 1024) (D : Fin 512) : EReal :=
  Trunk.gelu (Trunk.taps (cw (ix2 0 D)) (cw (ix2 1 D)) (cw (ix2 2 D)) (cb (ix2 0 D))
      (if r.val = 0 then P (ix3 0 6 D) else if r.val = 1 then P (ix3 0 7 D)
        else Trunk.dot (fun e => h (ix2 ⟨(r.val + 1024 - 2) % 1024, Nat.mod_lt _ (by decide)⟩ e)) (fun e => wa (ix2 e D)))
      (if r.val = 0 then P (ix3 0 7 D)
        else Trunk.dot (fun e => h (ix2 ⟨(r.val + 1024 - 1) % 1024, Nat.mod_lt _ (by decide)⟩ e)) (fun e => wa (ix2 e D)))
      (Trunk.dot (fun e => h (ix2 r e)) (fun e => wa (ix2 e D))))
    * Trunk.dot (fun e => h (ix2 r e)) (fun e => wb (ix2 e D))

/-- A slab's gated value, where its column `C` is the block's column `D`. -/
theorem slab_at (h : FVec Ideal S1024x2048 .bf16) (wa wb : FVec Ideal S2048x512 .bf16) (cw : FVec Ideal S3x512 .f32) (cb : FVec Ideal S1x512 .f32)
    (P : FVec Ideal S1x8x512 .f32) (ua ub : FVec Ideal S2048x256 .bf16) (uw : FVec Ideal S3x256 .f32) (uc : FVec Ideal S1x256 .f32)
    (up : FVec Ideal S1x8x256 .f32) (r : Fin 1024) (C : Fin 256) (D : Fin 512)
    (ha : ∀ e, ua (ix2 e C) = wa (ix2 e D)) (hb : ∀ e, ub (ix2 e C) = wb (ix2 e D)) (hw : ∀ k, uw (ix2 k C) = cw (ix2 k D))
    (hc : uc (ix2 0 C) = cb (ix2 0 D)) (hp : ∀ k, up (ix3 0 k C) = P (ix3 0 k D)) :
    slabOf (F := Ideal) h ua ub uw uc up (ix2 r C) = gatedAt h wa wb cw cb P r D := by
  unfold slabOf
  rw [gelOf_at, convOf_at, back1_at, back2_at]
  simp only [mulOf_at, flat_at, ha, hb, hw, hc, hp]
  rfl

/-- A slab of columns, read where it lies. -/
theorem ld_slab {n : ℕ} {e : EltTy} (X : Vec Ideal (⟨2, ![n, 512]⟩ : Shape) e) (o : ℕ)
    (inb : ∀ a, (![0, o] : Fin 2 → ℕ) a + (![n, 256] : Fin 2 → ℕ) a ≤ (⟨2, ![n, 512]⟩ : Shape).size a) (i : Fin n) (C : Fin 256) (D : Fin 512) (h : D.val = o + C.val) :
    View.ld (Val := Elt Ideal) X (Rect.unit (s := (⟨2, ![n, 512]⟩ : Shape)) ![0, o] ![n, 256] inb) (ix2 i C) = X (ix2 i D) := by
  refine congrArg X (funext fun a => ?_)
  fin_cases a
  · apply Fin.ext; show 0 + 1 * i.val = i.val; omega
  · apply Fin.ext; show o + 1 * C.val = D.val; omega

theorem lo_at (X : FVec Ideal S2048x512 .bf16) (i : Fin 2048) (C : Fin 256) (D : Fin 512) (h : D.val = 0 + C.val) :
    lo (F := Ideal) X (ix2 i C) = X (ix2 i D) := ld_slab (n := 2048) (e := .bf16) X 0 inb_S2048x512_S2048x256_0_0 i C D h

theorem hi_at (X : FVec Ideal S2048x512 .bf16) (i : Fin 2048) (C : Fin 256) (D : Fin 512) (h : D.val = 256 + C.val) :
    hi (F := Ideal) X (ix2 i C) = X (ix2 i D) := ld_slab (n := 2048) (e := .bf16) X 256 inb_S2048x512_S2048x256_0_256 i C D h

theorem loT_at (X : FVec Ideal S3x512 .f32) (i : Fin 3) (C : Fin 256) (D : Fin 512) (h : D.val = 0 + C.val) :
    loT (F := Ideal) X (ix2 i C) = X (ix2 i D) := ld_slab (n := 3) (e := .f32) X 0 inb_S3x512_S3x256_0_0 i C D h

theorem hiT_at (X : FVec Ideal S3x512 .f32) (i : Fin 3) (C : Fin 256) (D : Fin 512) (h : D.val = 256 + C.val) :
    hiT (F := Ideal) X (ix2 i C) = X (ix2 i D) := ld_slab (n := 3) (e := .f32) X 256 inb_S3x512_S3x256_0_256 i C D h

theorem loB_at (X : FVec Ideal S1x512 .f32) (i : Fin 1) (C : Fin 256) (D : Fin 512) (h : D.val = 0 + C.val) :
    loB (F := Ideal) X (ix2 i C) = X (ix2 i D) := ld_slab (n := 1) (e := .f32) X 0 inb_S1x512_S1x256_0_0 i C D h

theorem hiB_at (X : FVec Ideal S1x512 .f32) (i : Fin 1) (C : Fin 256) (D : Fin 512) (h : D.val = 256 + C.val) :
    hiB (F := Ideal) X (ix2 i C) = X (ix2 i D) := ld_slab (n := 1) (e := .f32) X 256 inb_S1x512_S1x256_0_256 i C D h

/-- The gated values of a point, at an entry of the block. -/
theorem gateOf_at (wa wb : FVec Ideal S2048x512 .bf16) (cw : FVec Ideal S3x512 .f32) (cb : FVec Ideal S1x512 .f32) (h : FVec Ideal S1024x2048 .bf16)
    (P : FVec Ideal S1x8x512 .f32) (r : Fin 1024) (D : Fin 512) :
    gateOf (F := Ideal) wa wb cw cb h P (ix2 r D) = gatedAt h wa wb cw cb P r D := by
  unfold gateOf cols2
  by_cases hD : D.val < 256
  · have h0 : D.val = 0 + D.val := (Nat.zero_add _).symm
    refine (dif_pos hD).trans (slab_at h wa wb cw cb P _ _ _ _ _ r ⟨D.val, hD⟩ D (fun e => ?_) (fun e => ?_) (fun k => ?_) ?_ fun k => rfl)
    · exact lo_at _ e _ D h0
    · exact lo_at _ e _ D h0
    · exact loT_at _ k _ D h0
    · exact loB_at _ 0 _ D h0
  · have hE : D.val = 256 + (D.val - 256) := by omega
    refine (dif_neg hD).trans (slab_at h wa wb cw cb P _ _ _ _ _ r ⟨D.val - 256, by omega⟩ D (fun e => ?_) (fun e => ?_) (fun k => ?_) ?_ fun k => ?_)
    · exact hi_at _ e _ D hE
    · exact hi_at _ e _ D hE
    · exact hiT_at _ k _ D hE
    · exact hiB_at _ 0 _ D hE
    · exact congrArg (fun z => P (ix3 0 k z)) (Fin.ext hE.symm)

/-- The last eight rows of a point's products, at an entry. -/
theorem lastOf_at (wa : FVec Ideal S2048x512 .bf16) (h : FVec Ideal S1024x2048 .bf16) (r : Fin 8) (D : Fin 512) :
    lastOf (F := Ideal) wa h (ix3 0 r D) = Trunk.dot (fun e => h (ix2 ⟨1016 + r.val, by omega⟩ e)) (fun e => wa (ix2 e D)) := by
  unfold lastOf cols3
  by_cases hD : D.val < 256
  · refine (dif_pos hD).trans ((tailOf_at _ _ r ⟨D.val, hD⟩).trans (congrArg (Trunk.dot _) (funext fun e => ?_)))
    exact lo_at _ e _ D (Nat.zero_add _).symm
  · have hE : D.val = 256 + (D.val - 256) := by omega
    refine (dif_neg hD).trans ((tailOf_at _ _ r ⟨D.val - 256, by omega⟩).trans (congrArg (Trunk.dot _) (funext fun e => ?_)))
    exact hi_at _ e _ D hE

end Cert.FfnPIdeal.Whole

end
-- ==== Proof.FfnPValue.lean ====
/-
  The prompt group's up-projection and convolution over the extended reals: the arrays its run leaves.
-/
module

public import proofs.«01_k».proof.Proof.FfnPRun
public import proofs.«01_k».proof.Proof.FfnPBlock

@[expose] public section

set_option maxRecDepth 16384

noncomputable section

namespace Cert.FfnPIdeal.Whole

open Cert.FfnPIdeal Cert.FfnPIdeal.Gen Cert.FfnPSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

theorem idx0 : ∀ t : Fin cfg0.N, win0_0.index t = ![t.val / 11, 0] ∧ win0_1.index t = ![0, 0] ∧ win0_2.index t = ![0, t.val % 11]
    ∧ win0_3.index t = ![0, 11 + t.val % 11] ∧ win0_4.index t = ![0, t.val % 11] ∧ win0_5.index t = ![0, t.val % 11]
    ∧ win0_8.index t = ![t.val / 11, t.val % 11] ∧ win0_9.index t = ![t.val / 11, 0, t.val % 11] :=
  (by decide +kernel : ∀ t : Fin grid0.N, win0_0.index t = ![t.val / 11, 0] ∧ win0_1.index t = ![0, 0] ∧ win0_2.index t = ![0, t.val % 11]
    ∧ win0_3.index t = ![0, 11 + t.val % 11] ∧ win0_4.index t = ![0, t.val % 11] ∧ win0_5.index t = ![0, t.val % 11]
    ∧ win0_8.index t = ![t.val / 11, t.val % 11] ∧ win0_9.index t = ![t.val / 11, 0, t.val % 11])

/-- The rows, the norm's scale, the weight, the taps and the bias. -/
abbrev A0 : (⟨2, ![16384, 2048]⟩ : Shape).Idx → EReal := m ((c : Thread nD τ).loc main_arg0)
abbrev A1 : (⟨2, ![1, 2048]⟩ : Shape).Idx → EReal := m ((c : Thread nD τ).loc main_arg1)
abbrev A2 : (⟨3, ![1, 2048, 11264]⟩ : Shape).Idx → EReal := m ((c : Thread nD τ).loc main_arg2)
abbrev A3 : (⟨3, ![1, 3, 5632]⟩ : Shape).Idx → EReal := m ((c : Thread nD τ).loc main_arg3)
abbrev A4 : (⟨2, ![1, 5632]⟩ : Shape).Idx → EReal := m ((c : Thread nD τ).loc main_arg4)

/-- The array row of a block row, the array column of a block column. -/
def arow (t : Fin cfg0.N) (r : Fin 1024) : Fin 16384 := ⟨t.val / 11 * 1024 + r.val, by have := lt_N t; omega⟩
def acol (t : Fin cfg0.N) (C : Fin 512) : Fin 5632 := ⟨t.val % 11 * 512 + C.val, by omega⟩

theorem arow_rowPt (t : Fin cfg0.N) (r : Fin 1024) : arow (rowPt t) r = arow t r := by
  apply Fin.ext
  show 11 * (t.val / 11) / 11 * 1024 + r.val = t.val / 11 * 1024 + r.val
  omega

theorem read0 (t : Fin cfg0.N) (r : Fin 1024) (k : Fin 2048) : iblk m c 0 t (ix2 r k) = A0 m c (ix2 (arow t r) k) := by
  have := lt_N t
  blk_ext! [iblk, V, idx0 t, arow]

theorem read1 (t : Fin cfg0.N) (k : Fin 2048) : iblk m c 1 t (ix2 0 k) = A1 m c (ix2 0 k) := by
  have := lt_N t
  blk_ext! [iblk, V, idx0 t]

theorem read2 (t : Fin cfg0.N) (e : Fin 2048) (C : Fin 512) : iblk m c 2 t (ix2 e C) = A2 m c (ix3 0 e ⟨(acol t C).val, by omega⟩) := by
  have := lt_N t
  blk_ext! [iblk, V, idx0 t, acol]

theorem read3 (t : Fin cfg0.N) (e : Fin 2048) (C : Fin 512) : iblk m c 3 t (ix2 e C) = A2 m c (ix3 0 e ⟨5632 + (acol t C).val, by omega⟩) := by
  have := lt_N t
  blk_ext! [iblk, V, idx0 t, acol]

theorem read4 (t : Fin cfg0.N) (k : Fin 3) (C : Fin 512) : iblk m c 4 t (ix2 k C) = A3 m c (ix3 0 k (acol t C)) := by
  have := lt_N t
  blk_ext! [iblk, V, idx0 t, acol]

theorem read5 (t : Fin cfg0.N) (C : Fin 512) : iblk m c 5 t (ix2 0 C) = A4 m c (ix2 0 (acol t C)) := by
  have := lt_N t
  blk_ext! [iblk, V, idx0 t, acol]

/-! ## The blocks a point writes -/

theorem hAt_row (t : Fin cfg0.N) (r : Fin 1024) : (fun e => hAt m c t (ix2 r e))
    = Trunk.normed (fun e => A0 m c (ix2 (arow t r) e)) (fun e => A1 m c (ix2 0 e)) := by
  funext d
  unfold hAt
  rw [hOf_at, show (fun e => iblk m c 0 (rowPt t) (ix2 r e)) = _ from funext fun e => read0 m c (rowPt t) r e,
    show (fun e => iblk m c 1 (rowPt t) (ix2 0 e)) = _ from funext fun e => read1 m c (rowPt t) e, arow_rowPt]

theorem act_a (t : Fin cfg0.N) (r : Fin 1024) (C : Fin 512) :
    Trunk.dot (fun e => hAt m c t (ix2 r e)) (fun e => iblk m c 2 t (ix2 e C))
      = actAt (A0 m c) (A1 m c) (A2 m c) (arow t r) ⟨(acol t C).val, by omega⟩ := by
  rw [hAt_row, show (fun e => iblk m c 2 t (ix2 e C)) = _ from funext fun e => read2 m c t e C]
  rfl

theorem act_b (t : Fin cfg0.N) (r : Fin 1024) (C : Fin 512) :
    Trunk.dot (fun e => hAt m c t (ix2 r e)) (fun e => iblk m c 3 t (ix2 e C))
      = actAt (A0 m c) (A1 m c) (A2 m c) (arow t r) ⟨5632 + (acol t C).val, by omega⟩ := by
  rw [hAt_row, show (fun e => iblk m c 3 t (ix2 e C)) = _ from funext fun e => read3 m c t e C]
  rfl

/-- The last eight rows of a point's products. -/
theorem last_at (t : Fin cfg0.N) (r : Fin 8) (C : Fin 512) : lastAt m c t (ix3 0 r C)
    = actAt (A0 m c) (A1 m c) (A2 m c) (arow t ⟨1016 + r.val, by omega⟩) ⟨(acol t C).val, by omega⟩ :=
  (lastOf_at _ _ r C).trans (act_a m c t _ C)

/-- The row kept `k` places before a point's block: zero at a sequence's start, else the array row `k` back. -/
theorem prev_at (t : Fin cfg0.N) (k : Fin 8) (r : Fin 1024) (b : ℕ) (C : Fin 512) (hb : k.val + b = 8 + r.val) (h1 : 1 ≤ b) (h8 : r.val < b) :
    prevAt m c t (ix3 0 k C) = if (arow t r).val % 2048 < b then 0
      else actAt (A0 m c) (A1 m c) (A2 m c) ⟨(arow t r).val - b, by omega⟩ ⟨(acol t C).val, by omega⟩ := by
  have ht := lt_N t
  have hr : (arow t r).val = t.val / 11 * 1024 + r.val := rfl
  unfold prevAt
  by_cases he : t.val / 11 % 2 = 0
  · rw [if_pos he, if_pos (by omega), zeros_at]
  · rw [if_neg he, if_neg (by omega), last_at]
    have e1 : (t.val - 11) / 11 = t.val / 11 - 1 := by omega
    have e2 : (t.val - 11) % 11 = t.val % 11 := by omega
    congr 1
    · apply Fin.ext
      show (t.val - 11) / 11 * 1024 + (1016 + k.val) = t.val / 11 * 1024 + r.val - b
      omega
    · apply Fin.ext
      show (t.val - 11) % 11 * 512 + C.val = t.val % 11 * 512 + C.val
      rw [e2]

theorem block8 (t : Fin cfg0.N) (r : Fin 1024) (C : Fin 512) : (dats m 0 c).after 8 t (ix2 r C)
    = gateArr (A0 m c) (A1 m c) (A2 m c) (A3 m c) (A4 m c) (ix2 (arow t r) (acol t C)) := by
  have hr : (arow t r).val = t.val / 11 * 1024 + r.val := rfl
  rw [after_8]
  refine (gateOf_at _ _ _ _ _ _ r C).trans ?_
  unfold gatedAt
  show _ = gateVal (A0 m c) (A1 m c) (A2 m c) (A3 m c) (A4 m c) (arow t r) (acol t C)
  unfold gateVal
  simp only [act_a, act_b, read4, read5]
  congr 3
  · by_cases h0 : r.val = 0
    · rw [if_pos h0]
      exact prev_at m c t 6 r 2 C (by show 6 + 2 = 8 + r.val; omega) (by omega) (by omega)
    · rw [if_neg h0]
      by_cases h1 : r.val = 1
      · rw [if_pos h1]
        exact prev_at m c t 7 r 2 C (by show 7 + 2 = 8 + r.val; omega) (by omega) (by omega)
      · rw [if_neg h1, if_neg (by omega)]
        congr 1
        apply Fin.ext
        show t.val / 11 * 1024 + (r.val + 1024 - 2) % 1024 = t.val / 11 * 1024 + r.val - 2
        omega
  · by_cases h0 : r.val = 0
    · rw [if_pos h0]
      exact prev_at m c t 7 r 1 C (by show 7 + 1 = 8 + r.val; omega) (by omega) (by omega)
    · rw [if_neg h0, if_neg (by omega)]
      congr 1
      apply Fin.ext
      show t.val / 11 * 1024 + (r.val + 1024 - 1) % 1024 = t.val / 11 * 1024 + r.val - 1
      omega

theorem block9 (t : Fin cfg0.N) (r : Fin 8) (C : Fin 512) : (dats m 0 c).after 9 t (ix3 0 r C)
    = tailArr (A0 m c) (A1 m c) (A2 m c) (ix3 ⟨t.val / 11, by have := lt_N t; omega⟩ r (acol t C)) := by
  rw [after_9, last_at]
  rfl

/-! ## The arrays -/

theorem final8 : (dats m 0 c).arrAt 8 cfg0.N = gateArr (A0 m c) (A1 m c) (A2 m c) (A3 m c) (A4 m c) := by
  refine (dats m 0 c).arrAt_eq_of_covers 8 _ (by decide +kernel) fun t hf y => ?_
  have hX := block8 m c t
  generalize (dats m 0 c).after 8 t = X at hX ⊢
  have hy : y = ix2 (y 0) (y 1) := funext fun a => by fin_cases a <;> rfl
  refine Eq.trans ?_ ((hX (y 0) (y 1)).trans ?_)
  · show X y = _
    exact congrArg X hy
  · congr 1
    funext a
    fin_cases a
    all_goals (apply Fin.ext; blk_simp [idx0 t]; rfl)

theorem final9 : (dats m 0 c).arrAt 9 cfg0.N = tailArr (A0 m c) (A1 m c) (A2 m c) := by
  refine (dats m 0 c).arrAt_eq_of_covers 9 _ (by decide +kernel) fun t hf y => ?_
  have hX := block9 m c t
  generalize (dats m 0 c).after 9 t = X at hX ⊢
  have hy : y = ix3 0 (y 1) (y 2) := funext fun a => by
    fin_cases a
    · exact Subsingleton.elim (α := Fin 1) _ _
    · rfl
    · rfl
  refine Eq.trans ?_ ((hX (y 1) (y 2)).trans ?_)
  · show X y = _
    exact congrArg X hy
  · congr 1
    funext a
    have h0 : (y 0).val = 0 := congrArg Fin.val (congrFun hy 0)
    fin_cases a
    all_goals (apply Fin.ext; blk_simp [idx0 t])
    all_goals first | rfl | (show _ = t.val / 11 + (y 0).val; omega)

/-- The run: the gated values and the last rows of the products, and the arguments end as they were. -/
theorem run : θ_run defs (onTc (τ := τ) (main (F := Ideal))) ⟨m, fun _ => 0, ρ⟩ fun r => ∀ c : Dev nD,
      r.2.mem ((c : Thread nD τ).loc main_v8_0) = gateArr (A0 m c) (A1 m c) (A2 m c) (A3 m c) (A4 m c)
      ∧ r.2.mem ((c : Thread nD τ).loc main_v8_1) = tailArr (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 8).trans (final8 m c), ((h.1 c).1 9).trans (final9 m c), h.2 c⟩)
    (θ_run_and (run_main m ρ) (frame_of m ρ (dats m) (A_eq m) (run_main m ρ)))

end Cert.FfnPIdeal.Whole

end
-- ==== Proof.FfnPRef.lean ====
/-
  The reference of the prompt group's up-projection and convolution: the same gated values and the same last rows of the products.
-/
module

public import proofs.«01_k».proof.Proof.FfnPSpec
public import proofs.«01_k».proof.Proof.Gen.PlainFfnPIdeal.Run

@[expose] public section

set_option maxRecDepth 16384

noncomputable section

namespace Cert.PlainFfnPIdeal.Whole

open Cert.PlainFfnPIdeal Cert.PlainFfnPIdeal.Gen Idealize.ShloMosaic Idealize.ShloMosaic.TcCoe Idealize.SL.Sem

variable {F : FTy → Type} [FloatOps F]

/-- The normed rows, by sequence and token. -/
def rows (x0 : FVec F S16384x2048 .f32) (x1 : FVec F S1x2048 .f32) : FVec F S8x2048x2048 .f32 :=
  mulf (mulf (shapeCast _ x0 shapeCasts_S16384x2048_S8x2048x2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (shapeCast _ x0 shapeCasts_S16384x2048_S8x2048x2048) (shapeCast _ x0 shapeCasts_S16384x2048_S8x2048x2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ x1 shapeCasts_S1x2048_S2048)))

/-- Their products with the weight. -/
def prods (h : FVec F S8x2048x2048 .f32) (x2 : FVec F S1x2048x11264 .f32) : FVec F S8x2048x11264 .f32 :=
  Host.dotGeneral dot_S8x2048x2048_S2048x11264_S8x2048x11264_2_0_01_1_n_n none h (shapeCast _ x2 shapeCasts_S1x2048x11264_S2048x11264)

/-- The tokens of each sequence: two zeros and the 2048 products. -/
def tokens (p : FVec F S8x2048x11264 .f32) : FVec F S8x2050x5632 .f32 :=
  concatenate S8x2050x5632 1 [⟨S8x2x5632, (broadcastInDim S8x2x5632 ![] bcast_S_S8x2x5632 (constant S_ .f32 0x00000000#32))⟩,
    ⟨S8x2048x5632, (extractStridedSlice S8x2048x5632 ![0, 0, 0] p slices_S8x2048x11264_S8x2048x5632_0_0_0)⟩] concatenates_S8x2x5632_S8x2048x5632_S8x2050x5632_d1

/-- The convolution. -/
def conv (k : FVec F S8x2050x5632 .f32) (x3 : FVec F S1x3x5632 .f32) (x4 : FVec F S1x5632 .f32) : FVec F S8x2048x5632 .f32 :=
  addf (broadcastInDim S8x2048x5632 ![0, 1, 2] bcast_S1x1x5632_S8x2048x5632_0_1_2 (broadcastInDim S1x1x5632 ![2] bcast_S5632_S1x1x5632_2 (shapeCast _ x4 shapeCasts_S1x5632_S5632))) (addf (addf (addf (broadcastInDim S8x2048x5632 ![] bcast_S_S8x2048x5632 (constant S_ .f32 0x00000000#32)) (mulf (broadcastInDim S8x2048x5632 ![0, 1, 2] bcast_S1x1x5632_S8x2048x5632_0_1_2 (broadcastInDim S1x1x5632 ![2] bcast_S5632_S1x1x5632_2 (shapeCast _ (extractStridedSlice S1x5632 ![0, 0] (shapeCast _ x3 shapeCasts_S1x3x5632_S3x5632) slices_S3x5632_S1x5632_0_0) shapeCasts_S1x5632_S5632))) (extractStridedSlice S8x2048x5632 ![0, 0, 0] k slices_S8x2050x5632_S8x2048x5632_0_0_0))) (mulf (broadcastInDim S8x2048x5632 ![0, 1, 2] bcast_S1x1x5632_S8x2048x5632_0_1_2 (broadcastInDim S1x1x5632 ![2] bcast_S5632_S1x1x5632_2 (shapeCast _ (extractStridedSlice S1x5632 ![1, 0] (shapeCast _ x3 shapeCasts_S1x3x5632_S3x5632) slices_S3x5632_S1x5632_1_0) shapeCasts_S1x5632_S5632))) (extractStridedSlice S8x2048x5632 ![0, 1, 0] k slices_S8x2050x5632_S8x2048x5632_0_1_0))) (mulf (broadcastInDim S8x2048x5632 ![0, 1, 2] bcast_S1x1x5632_S8x2048x5632_0_1_2 (broadcastInDim S1x1x5632 ![2] bcast_S5632_S1x1x5632_2 (shapeCast _ (extractStridedSlice S1x5632 ![2, 0] (shapeCast _ x3 shapeCasts_S1x3x5632_S3x5632) slices_S3x5632_S1x5632_2_0) shapeCasts_S1x5632_S5632))) (extractStridedSlice S8x2048x5632 ![0, 2, 0] k slices_S8x2050x5632_S8x2048x5632_0_2_0)))

/-- The gate. -/
def gate (v : FVec F S8x2048x5632 .f32) (p : FVec F S8x2048x11264 .f32) : FVec F S16384x5632 .bf16 :=
  truncf .bf16 (shapeCast _ (mulf (mulf v (mulf (broadcastInDim S8x2048x5632 ![] bcast_S_S8x2048x5632 (constant S_ .f32 0x3F000000#32)) (addf (broadcastInDim S8x2048x5632 ![] bcast_S_S8x2048x5632 (constant S_ .f32 0x3F800000#32)) (Host.tanh (mulf (broadcastInDim S8x2048x5632 ![] bcast_S_S8x2048x5632 (constant S_ .f32 0x3F4C422A#32)) (addf v (mulf (broadcastInDim S8x2048x5632 ![] bcast_S_S8x2048x5632 (constant S_ .f32 0x3D372713#32)) (mulf (mulf v v) v)))))))) (extractStridedSlice S8x2048x5632 ![0, 0, 5632] p slices_S8x2048x11264_S8x2048x5632_0_0_5632)) shapeCasts_S8x2048x5632_S16384x5632) bitsLt_bf16_f32

/-- The last eight of every 1024 tokens' products. -/
def tail (p : FVec F S8x2048x11264 .f32) : FVec F S16x8x5632 .f32 :=
  extractStridedSlice S16x8x5632 ![0, 1016, 0] (shapeCast _ (extractStridedSlice S8x2048x5632 ![0, 0, 0] p slices_S8x2048x11264_S8x2048x5632_0_0_0) shapeCasts_S8x2048x5632_S16x1024x5632) slices_S16x1024x5632_S16x8x5632_0_1016_0

theorem prods_at (x0 : FVec Ideal S16384x2048 .f32) (x1 : FVec Ideal S1x2048 .f32) (x2 : FVec Ideal S1x2048x11264 .f32) (b : Fin 8) (s : Fin 2048) (f : Fin 11264) :
    prods (F := Ideal) (rows (F := Ideal) x0 x1) x2 (ix3 b s f) = FfnPSpec.actAt x0 x1 x2 ⟨b.val * 2048 + s.val, by omega⟩ f := by
  have e : ∀ d, rows (F := Ideal) x0 x1 (ix3 b s d)
      = Trunk.normed (fun e => x0 (ix2 ⟨b.val * 2048 + s.val, by omega⟩ e)) (fun e => x1 (ix2 0 e)) d := by
    intro d
    unfold rows Trunk.normed Trunk.unit
    pointwise []
  unfold FfnPSpec.actAt Trunk.dot
  simp only [← e]
  generalize rows (F := Ideal) x0 x1 = h
  unfold prods
  pointwise []

theorem tokens_at (p : FVec Ideal S8x2048x11264 .f32) (b : Fin 8) (s : Fin 2050) (f : Fin 5632) :
    tokens (F := Ideal) p (ix3 b s f) = if h : s.val < 2 then 0 else p (ix3 b ⟨s.val - 2, by omega⟩ ⟨f.val, by omega⟩) := by
  unfold tokens
  pointwise []

theorem conv_at (k : FVec Ideal S8x2050x5632 .f32) (x3 : FVec Ideal S1x3x5632 .f32) (x4 : FVec Ideal S1x5632 .f32) (b : Fin 8) (s : Fin 2048) (f : Fin 5632) :
    conv (F := Ideal) k x3 x4 (ix3 b s f) = Trunk.taps (x3 (ix3 0 0 f)) (x3 (ix3 0 1 f)) (x3 (ix3 0 2 f)) (x4 (ix2 0 f))
      (k (ix3 b ⟨s.val, by omega⟩ f)) (k (ix3 b ⟨1 + s.val, by omega⟩ f)) (k (ix3 b ⟨2 + s.val, by omega⟩ f)) := by
  rw [← Trunk.taps_regrouped]
  unfold conv
  pointwise []

theorem gate_at (v : FVec Ideal S8x2048x5632 .f32) (p : FVec Ideal S8x2048x11264 .f32) (i : Fin 16384) (f : Fin 5632) :
    gate (F := Ideal) v p (ix2 i f) = Trunk.gelu (v (ix3 ⟨i.val / 2048, by omega⟩ ⟨i.val % 2048, by omega⟩ f))
      * p (ix3 ⟨i.val / 2048, by omega⟩ ⟨i.val % 2048, by omega⟩ ⟨5632 + f.val, by omega⟩) := by
  rw [← Trunk.gelu_regrouped]
  unfold gate
  pointwise []

theorem tail_at (p : FVec Ideal S8x2048x11264 .f32) (g : Fin 16) (r : Fin 8) (f : Fin 5632) :
    tail (F := Ideal) p (ix3 g r f) = p (ix3 ⟨g.val / 2, by omega⟩ ⟨(g.val % 2) * 1024 + (1016 + r.val), by omega⟩ ⟨f.val, by omega⟩) := by
  unfold tail
  pointwise []

theorem gate_eq (x0 : FVec Ideal S16384x2048 .f32) (x1 : FVec Ideal S1x2048 .f32) (x2 : FVec Ideal S1x2048x11264 .f32) (x3 : FVec Ideal S1x3x5632 .f32)
    (x4 : FVec Ideal S1x5632 .f32) :
    gate (F := Ideal) (conv (tokens (prods (rows x0 x1) x2)) x3 x4) (prods (rows x0 x1) x2) = FfnPSpec.gateArr x0 x1 x2 x3 x4 := by
  funext y
  obtain ⟨i, f, rfl⟩ : ∃ (i : Fin 16384) (f : Fin 5632), y = ix2 i f := ⟨y 0, y 1, funext fun a => by fin_cases a <;> rfl⟩
  have e : ∀ h, (⟨i.val / 2048 * 2048 + i.val % 2048, h⟩ : Fin 16384) = i := fun h => Fin.ext (Nat.div_add_mod' i.val 2048)
  rw [gate_at, conv_at]
  simp only [tokens_at, prods_at, e]
  show _ = FfnPSpec.gateVal x0 x1 x2 x3 x4 i f
  unfold FfnPSpec.gateVal
  congr 3
  · by_cases h : i.val % 2048 < 2
    · rw [if_pos h, dif_pos h]
    · rw [if_neg h, dif_neg h]
      congr 1
      apply Fin.ext
      show i.val / 2048 * 2048 + (i.val % 2048 - 2) = i.val - 2
      omega
  · by_cases h : i.val % 2048 < 1
    · rw [if_pos h, dif_pos (by omega)]
    · rw [if_neg h, dif_neg (by omega)]
      congr 1
      apply Fin.ext
      show i.val / 2048 * 2048 + (1 + i.val % 2048 - 2) = i.val - 1
      omega
  · rw [dif_neg (by omega)]
    congr 1
    apply Fin.ext
    show i.val / 2048 * 2048 + (2 + i.val % 2048 - 2) = i.val
    omega

theorem tail_eq (x0 : FVec Ideal S16384x2048 .f32) (x1 : FVec Ideal S1x2048 .f32) (x2 : FVec Ideal S1x2048x11264 .f32) :
    tail (F := Ideal) (prods (rows x0 x1) x2) = FfnPSpec.tailArr x0 x1 x2 := by
  funext y
  obtain ⟨g, r, f, rfl⟩ : ∃ (g : Fin 16) (r : Fin 8) (f : Fin 5632), y = ix3 g r f := ⟨y 0, y 1, y 2, funext fun a => by fin_cases a <;> rfl⟩
  rw [tail_at, prods_at]
  show _ = FfnPSpec.actAt x0 x1 x2 ⟨g.val * 1024 + (1016 + r.val), _⟩ ⟨f.val, _⟩
  congr 1
  apply Fin.ext
  show g.val / 2 * 2048 + (g.val % 2 * 1024 + (1016 + r.val)) = g.val * 1024 + (1016 + r.val)
  omega

theorem res_gate (m : (ℓ : Loc nD τ sig) → Buf (Elt Ideal) ℓ) (c : Dev nD) : Value.res_main_v65 m c
    = gate (F := Ideal) (conv (tokens (prods (rows (m ((c.tc : Thread nD τ).loc main_arg0)) (m ((c.tc : Thread nD τ).loc main_arg1))) (m ((c.tc : Thread nD τ).loc main_arg2)))) (m ((c.tc : Thread nD τ).loc main_arg3)) (m ((c.tc : Thread nD τ).loc main_arg4)))
        (prods (rows (m ((c.tc : Thread nD τ).loc main_arg0)) (m ((c.tc : Thread nD τ).loc main_arg1))) (m ((c.tc : Thread nD τ).loc main_arg2))) := by
  unfold Value.res_main_v65
  rfl

/-- The reference's run: the gated values and the last rows of the products. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = FfnPSpec.gateArr (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v67) = FfnPSpec.tailArr (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans ((res_gate m c).trans (gate_eq _ _ _ _ _)),
    (h c).2.1.trans (tail_eq _ _ _), (h c).2.2⟩) (Value.run (F := Ideal) m ρ)

end Cert.PlainFfnPIdeal.Whole

end
-- ==== Proof.FfnPClaims.lean ====
/-
  The prompt group's up-projection and convolution, its claims.
-/
module

public import proofs.«01_k».proof.Defs
public import proofs.«01_k».proof.Proof.FfnPValue
public import proofs.«01_k».proof.Proof.FfnPRef
public import proofs.«01_k».proof.Proof.Gen.FfnP.Frame
public import Idealize.ShloMosaic.Lib.Quiescent

@[expose] public section

set_option maxRecDepth 16384

noncomputable section

namespace Cert.Proof.FfnPClaims

open Idealize.ShloMosaic Idealize.ShloMosaic.TcCoe Idealize.SL.Sem

/-- The printed kernel is the idealized one's text over the formats' own values: the two body tables are one. -/
theorem table_eq : Cert.FfnP.defs₀ (F := Bits) = Cert.FfnPIdeal.defs₀ (F := Bits) := by
  unfold Cert.FfnP.defs₀ Cert.FfnPIdeal.defs₀
  refine congrArg Defs.onTc (funext fun l => funext fun a => ?_)
  match l, a with
  | 0, (t, s) => rfl

theorem defs_eq : Cert.FfnP.defs (F := Bits) = Cert.FfnPIdeal.defs (F := Bits) :=
  congrArg (Pipeline.defs (Cert.FfnPIdeal.pcfgs (F := Bits))) table_eq

theorem ffn_prompt_p : Cert.quiescent_FfnP := fun m ρ _ => by
  rw [defs_eq]
  exact Cert.FfnPIdeal.frame_ffn_prompt (F := Bits) m ρ
theorem ffn_prompt_pi : Cert.quiescent_FfnPIdeal := fun m ρ _ => Cert.FfnPIdeal.frame_ffn_prompt m ρ
theorem ffn_prompt_ri : Cert.quiescent_PlainFfnPIdeal := fun m ρ _ =>
  (θ_run Cert.PlainFfnPIdeal.defs _ _).mono (fun r h => ⟨fun c => (h c).2.2, Idealize.ShloMosaic.sem_eq_zero_of_no_sems (by decide) r.2⟩)
    (Cert.PlainFfnPIdeal.Value.run (F := Ideal) m ρ)
theorem ffn_prompt_preserves : Cert.preserves_FfnP_FfnPIdeal := trivial
theorem ffn_prompt_algebraic : Cert.algebraic_FfnPIdeal_PlainFfnPIdeal := by
  intro m ρ m' ρ' _ hag
  refine ⟨_, _, Cert.FfnPIdeal.Whole.run m ρ, (θ_run Cert.PlainFfnPIdeal.defs _ _).mono (fun r h c => ?_) (Cert.PlainFfnPIdeal.Whole.run m' ρ')⟩
  obtain ⟨a0, a1, a2, a3, a4⟩ := hag c
  refine ⟨(h c).1.trans ?_, (h c).2.1.trans ?_, (h c).2.2⟩
  · rw [a0, a1, a2, a3, a4]
  · rw [a0, a1, a2]

end Cert.Proof.FfnPClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_lb_bounded
public import proofs.«01_k».proof.Proof.Gen.Ffn.Frame
public import proofs.«01_k».proof.Proof.Gen.Down.Frame
public import proofs.«01_k».proof.Proof.Gen.Proj.Frame
public import proofs.«01_k».proof.Proof.Gen.FfnIdeal.Value
public import proofs.«01_k».proof.Proof.Gen.DownIdeal.Value
public import proofs.«01_k».proof.Proof.Gen.ProjIdeal.Value
public import proofs.«01_k».proof.Proof.Gen.PlainFfnIdeal.Run
public import proofs.«01_k».proof.Proof.Gen.PlainDownIdeal.Run
public import proofs.«01_k».proof.Proof.Gen.PlainProjIdeal.Run
public import proofs.«01_k».proof.Proof.Gen.Mix.Frame
public import proofs.«01_k».proof.Proof.Gen.MixIdeal.Frame
public import proofs.«01_k».proof.Proof.Gen.PlainMixIdeal.Run
public import proofs.«01_k».proof.Proof.Gen.MixS.Frame
public import proofs.«01_k».proof.Proof.Gen.MixSIdeal.Frame
public import proofs.«01_k».proof.Proof.Gen.PlainMixSIdeal.Run
public import proofs.«01_k».proof.Proof.Gen.DownP.Frame
public import proofs.«01_k».proof.Proof.Gen.DownPIdeal.Value
public import proofs.«01_k».proof.Proof.Gen.PlainDownPIdeal.Run
public import proofs.«01_k».proof.Proof.Gen.FfnP.Frame
public import proofs.«01_k».proof.Proof.Gen.FfnPIdeal.Frame
public import proofs.«01_k».proof.Proof.Gen.PlainFfnPIdeal.Run
public import proofs.«01_k».proof.Proof.HgrnClaims
public import proofs.«01_k».proof.Proof.TrunkClaims
public import proofs.«01_k».proof.Proof.MixClaims
public import proofs.«01_k».proof.Proof.MixSClaims
public import proofs.«01_k».proof.Proof.FfnPClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ffn.Gen.facts, Cert.FfnIdeal.Gen.facts, Cert.PlainFfnIdeal.Gen.facts, Cert.Down.Gen.facts, Cert.DownIdeal.Gen.facts,
  Cert.PlainDownIdeal.Gen.facts, Cert.Proj.Gen.facts, Cert.ProjIdeal.Gen.facts, Cert.PlainProjIdeal.Gen.facts,
  Cert.Mix.Gen.facts, Cert.MixIdeal.Gen.facts, Cert.PlainMixIdeal.Gen.facts,
  Cert.MixS.Gen.facts, Cert.MixSIdeal.Gen.facts, Cert.PlainMixSIdeal.Gen.facts,
  Cert.DownP.Gen.facts, Cert.DownPIdeal.Gen.facts, Cert.PlainDownPIdeal.Gen.facts,
  Cert.FfnP.Gen.facts, Cert.FfnPIdeal.Gen.facts, Cert.PlainFfnPIdeal.Gen.facts, Cert.Pre_lb_bounded.Gen.facts,
  HgrnClaims.frame_p, HgrnClaims.frame_pi, HgrnClaims.frame_pi_pre, HgrnClaims.frame_ri, HgrnClaims.frame_ri_pre,
  TrunkClaims.ffn_p, TrunkClaims.ffn_pi, TrunkClaims.ffn_ri, TrunkClaims.down_p, TrunkClaims.down_pi, TrunkClaims.down_ri,
  TrunkClaims.proj_p, TrunkClaims.proj_pi, TrunkClaims.proj_ri, MixClaims.mix_p, MixClaims.mix_pi, MixClaims.mix_ri,
  MixSClaims.mix_p, MixSClaims.mix_pi, MixSClaims.mix_ri, TrunkClaims.down_prompt_p, TrunkClaims.down_prompt_pi, TrunkClaims.down_prompt_ri,
  FfnPClaims.ffn_prompt_p, FfnPClaims.ffn_prompt_pi, FfnPClaims.ffn_prompt_ri,
  HgrnClaims.preserves, HgrnClaims.algebraic, TrunkClaims.ffn_preserves, TrunkClaims.ffn_algebraic,
  TrunkClaims.down_preserves, TrunkClaims.down_algebraic, TrunkClaims.proj_preserves, TrunkClaims.proj_algebraic,
  MixClaims.mix_preserves, MixClaims.mix_algebraic, MixSClaims.mix_preserves, MixSClaims.mix_algebraic,
  TrunkClaims.down_prompt_preserves, TrunkClaims.down_prompt_algebraic, FfnPClaims.ffn_prompt_preserves, FfnPClaims.ffn_prompt_algebraic⟩

end Cert.Proof

end
